-- ==== Defs.lean ====
def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_OprojKernel (m : (ℓ : Loc Cert.OprojKernel.nD Cert.OprojKernel.τ Cert.OprojKernel.sig) → Buf (Elt Bits) ℓ) : Prop :=
  True

def Pre_OprojKernelIdeal (m : (ℓ : Loc Cert.OprojKernelIdeal.nD Cert.OprojKernelIdeal.τ Cert.OprojKernelIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite [hPre_finite : Cert.Pre_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.1 = (fun _ => 1#1)
    ∧ (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).1 = (fun _ => 1#1)
    ∧ (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.1 = (fun _ => 1#1)
    ∧ (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.1 = (fun _ => 1#1)
    ∧ (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.2 = (fun _ => 1#1)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_OprojKernel [hOprojKernel : Cert.OprojKernel.Facts] : Prop :=
  ∀ (m : (ℓ : Loc Cert.OprojKernel.nD Cert.OprojKernel.τ Cert.OprojKernel.sig) → Buf (Elt Bits) ℓ) (g : Dev Cert.OprojKernel.nD → PrngReg), Pre_OprojKernel m →
    θ_run (Cert.OprojKernel.defs (F := Bits)) (onTc (τ := Cert.OprojKernel.τ) (Cert.OprojKernel.main (F := Bits))) ⟨m, fun _ => 0, g⟩ (fun r => (∀ c : Dev Cert.OprojKernel.nD,
      r.2.mem ((c.tc : Thread Cert.OprojKernel.nD Cert.OprojKernel.τ).loc Cert.OprojKernel.main_arg0) = m ((c.tc : Thread Cert.OprojKernel.nD Cert.OprojKernel.τ).loc Cert.OprojKernel.main_arg0)
      ∧ r.2.mem ((c.tc : Thread Cert.OprojKernel.nD Cert.OprojKernel.τ).loc Cert.OprojKernel.main_arg1) = m ((c.tc : Thread Cert.OprojKernel.nD Cert.OprojKernel.τ).loc Cert.OprojKernel.main_arg1)
      ∧ r.2.mem ((c.tc : Thread Cert.OprojKernel.nD Cert.OprojKernel.τ).loc Cert.OprojKernel.main_arg2) = m ((c.tc : Thread Cert.OprojKernel.nD Cert.OprojKernel.τ).loc Cert.OprojKernel.main_arg2)
      ∧ r.2.mem ((c.tc : Thread Cert.OprojKernel.nD Cert.OprojKernel.τ).loc Cert.OprojKernel.main_arg3) = m ((c.tc : Thread Cert.OprojKernel.nD Cert.OprojKernel.τ).loc Cert.OprojKernel.main_arg3))
      ∧ r.2.sem = fun _ => 0)

def quiescent_OprojKernelIdeal [hOprojKernelIdeal : Cert.OprojKernelIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg), Pre_OprojKernelIdeal m →
    θ_run (Cert.OprojKernelIdeal.defs (F := Ideal)) (onTc (τ := Cert.OprojKernelIdeal.τ) (Cert.OprojKernelIdeal.main (F := Ideal))) ⟨m, fun _ => 0, g⟩ (fun r => (∀ c : Dev Cert.OprojKernelIdeal.nD,
      r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
      ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
      ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
      ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_finite [hAttnKernelIdeal : Cert.AttnKernelIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0_0)) (v1 : (c : Dev Cert.ProjKernelIdeal.nD) → Buf (Elt Ideal) ((c.tc : Thread Cert.ProjKernelIdeal.nD Cert.ProjKernelIdeal.τ).loc Cert.ProjKernelIdeal.main_v0_1)) (v2 : (c : Dev Cert.ProjKernelIdeal.nD) → Buf (Elt Ideal) ((c.tc : Thread Cert.ProjKernelIdeal.nD Cert.ProjKernelIdeal.τ).loc Cert.ProjKernelIdeal.main_v0_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0_0) = v0 c
          ∧ r.2.mem ((c.tc : Thread Cert.ProjKernelIdeal.nD Cert.ProjKernelIdeal.τ).loc Cert.ProjKernelIdeal.main_v0_1) = v1 c
          ∧ r.2.mem ((c.tc : Thread Cert.ProjKernelIdeal.nD Cert.ProjKernelIdeal.τ).loc Cert.ProjKernelIdeal.main_v0_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v69) = v0 c
          ∧ r.2.mem ((c.tc : Thread Cert.ProjReferenceIdeal.nD Cert.ProjReferenceIdeal.τ).loc Cert.ProjReferenceIdeal.main_v30) = v1 c
          ∧ r.2.mem ((c.tc : Thread Cert.ProjReferenceIdeal.nD Cert.ProjReferenceIdeal.τ).loc Cert.ProjReferenceIdeal.main_v66) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_OprojKernel_OprojKernelIdeal : Prop :=
  True

def algebraic_OprojKernelIdeal_OprojReferenceIdeal [hOprojKernelIdeal : Cert.OprojKernelIdeal.Facts] [hOprojReferenceIdeal : Cert.OprojReferenceIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojKernelIdeal m →
    (∀ c : Dev Cert.OprojKernelIdeal.nD,
      m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0)
      ∧ m' ((c.tc : Thread Cert.OprojReferenceIdeal.nD Cert.OprojReferenceIdeal.τ).loc Cert.OprojReferenceIdeal.main_arg1) = m ((c.tc : Thread Cert.OprojKernelIdeal.nD Cert.OprojKernelIdeal.τ).loc Cert.OprojKernelIdeal.main_arg1)
      ∧ m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2)
      ∧ m' ((c.tc : Thread Cert.OprojReferenceIdeal.nD Cert.OprojReferenceIdeal.τ).loc Cert.OprojReferenceIdeal.main_arg3) = m ((c.tc : Thread Cert.OprojKernelIdeal.nD Cert.OprojKernelIdeal.τ).loc Cert.OprojKernelIdeal.main_arg3)) →
    ∃ (v0 : (c : Dev Cert.OprojKernelIdeal.nD) → Buf (Elt Ideal) ((c.tc : Thread Cert.OprojKernelIdeal.nD Cert.OprojKernelIdeal.τ).loc Cert.OprojKernelIdeal.main_v1)),
      θ_run (Cert.OprojKernelIdeal.defs (F := Ideal)) (onTc (τ := Cert.OprojKernelIdeal.τ) (Cert.OprojKernelIdeal.main (F := Ideal))) ⟨m, fun _ => 0, g⟩ (fun r => ∀ c : Dev Cert.OprojKernelIdeal.nD,
          r.2.mem ((c.tc : Thread Cert.OprojKernelIdeal.nD Cert.OprojKernelIdeal.τ).loc Cert.OprojKernelIdeal.main_v1) = v0 c
          ∧ r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
          ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
          ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
          ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v27) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3))

def preserves_AttnKernel_AttnKernelIdeal : Prop :=
  True

def algebraic_AttnKernelIdeal_AttnReferenceIdeal_pre_finite [hAttnKernelIdeal : Cert.AttnKernelIdeal.Facts] [hAttnReferenceIdeal : Cert.AttnReferenceIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v1_4)) (v1 : (c : Dev Cert.AttnKernelIdeal.nD) → Buf (Elt Ideal) ((c.tc : Thread Cert.AttnKernelIdeal.nD Cert.AttnKernelIdeal.τ).loc Cert.AttnKernelIdeal.main_v1_5)) (v2 : (c : Dev Cert.AttnKernelIdeal.nD) → Buf (Elt Ideal) ((c.tc : Thread Cert.AttnKernelIdeal.nD Cert.AttnKernelIdeal.τ).loc Cert.AttnKernelIdeal.main_v1_6)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v1_4) = v0 c
          ∧ r.2.mem ((c.tc : Thread Cert.AttnKernelIdeal.nD Cert.AttnKernelIdeal.τ).loc Cert.AttnKernelIdeal.main_v1_5) = v1 c
          ∧ r.2.mem ((c.tc : Thread Cert.AttnKernelIdeal.nD Cert.AttnKernelIdeal.τ).loc Cert.AttnKernelIdeal.main_v1_6) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v56) = v0 c
          ∧ r.2.mem ((c.tc : Thread Cert.AttnReferenceIdeal.nD Cert.AttnReferenceIdeal.τ).loc Cert.AttnReferenceIdeal.main_v82) = v1 c
          ∧ r.2.mem ((c.tc : Thread Cert.AttnReferenceIdeal.nD Cert.AttnReferenceIdeal.τ).loc Cert.AttnReferenceIdeal.main_v100) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def Claim : Prop :=
  ∃ (hProjKernel : Cert.ProjKernel.Facts) (hProjKernelIdeal : Cert.ProjKernelIdeal.Facts) (hProjReferenceIdeal : Cert.ProjReferenceIdeal.Facts) (hOprojKernel : Cert.OprojKernel.Facts) (hOprojKernelIdeal : Cert.OprojKernelIdeal.Facts) (hOprojReferenceIdeal : Cert.OprojReferenceIdeal.Facts) (hAttnKernel : Cert.AttnKernel.Facts) (hAttnKernelIdeal : Cert.AttnKernelIdeal.Facts) (hAttnReferenceIdeal : Cert.AttnReferenceIdeal.Facts) (hPre_finite : Cert.Pre_finite.Facts),
    quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_OprojKernel (hOprojKernel := hOprojKernel)
    ∧ quiescent_OprojKernelIdeal (hOprojKernelIdeal := hOprojKernelIdeal)
    ∧ quiescent_OprojReferenceIdeal (hOprojReferenceIdeal := hOprojReferenceIdeal)
    ∧ quiescent_AttnKernel (hAttnKernel := hAttnKernel)
    ∧ quiescent_AttnKernelIdeal (hAttnKernelIdeal := hAttnKernelIdeal)
    ∧ quiescent_AttnKernelIdeal_pre_finite (hAttnKernelIdeal := hAttnKernelIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ preserves_ProjKernel_ProjKernelIdeal
    ∧ algebraic_ProjKernelIdeal_ProjReferenceIdeal (hProjKernelIdeal := hProjKernelIdeal) (hProjReferenceIdeal := hProjReferenceIdeal)
    ∧ preserves_OprojKernel_OprojKernelIdeal
    ∧ algebraic_OprojKernelIdeal_OprojReferenceIdeal (hOprojKernelIdeal := hOprojKernelIdeal) (hOprojReferenceIdeal := hOprojReferenceIdeal)
    ∧ preserves_AttnKernel_AttnKernelIdeal
    ∧ algebraic_AttnKernelIdeal_AttnReferenceIdeal_pre_finite (hAttnKernelIdeal := hAttnKernelIdeal) (hAttnReferenceIdeal := hAttnReferenceIdeal) (hPre_finite := hPre_finite)
-- ==== Pre_finite.lean ====
abbrev S3072x2304 : Shape := ⟨2, ![3072, 2304]⟩
abbrev S2304 : Shape := ⟨1, ![2304]⟩
abbrev S3072x64 : Shape := ⟨2, ![3072, 64]⟩
abbrev S_ : Shape := ⟨0, ![]⟩

class Facts : Prop where
  bcast_S_S3072x2304 : S_.BroadcastsInDim S3072x2304 (![] : Fin 0 → Fin S3072x2304.rank)
  bcast_S_S2304 : S_.BroadcastsInDim S2304 (![] : Fin 0 → Fin S2304.rank)
  bcast_S_S3072x64 : S_.BroadcastsInDim S3072x64 (![] : Fin 0 → Fin S3072x64.rank)

variable [Facts]

def fn {F : FTy → Type} [FloatOps F] (main_arg0 : FVec F S3072x2304 .f32) (main_arg1 : FVec F S2304 .f32) (main_arg2 : FVec F S3072x64 .f32) (main_arg3 : FVec F S3072x64 .f32) : IVec S3072x2304 1 × IVec S2304 1 × IVec S3072x64 1 × IVec S3072x64 1 :=
  let main_v0 : FVec F S3072x2304 .f32 := Host.absf main_arg0
  let main_cst : FVec F S_ .f32 := constant S_ .f32 0x7F800000#32
  let main_v1 : FVec F S3072x2304 .f32 := broadcastInDim S3072x2304 ![] bcast_S_S3072x2304 main_cst
  let main_v2 : IVec S3072x2304 1 := cmpf .olt main_v0 main_v1
  let main_v3 : FVec F S2304 .f32 := Host.absf main_arg1
  let main_cst_0 : FVec F S_ .f32 := constant S_ .f32 0x7F800000#32
  let main_v4 : FVec F S2304 .f32 := broadcastInDim S2304 ![] bcast_S_S2304 main_cst_0
  let main_v5 : IVec S2304 1 := cmpf .olt main_v3 main_v4
  let main_v6 : FVec F S3072x64 .f32 := Host.absf main_arg2
  let main_cst_1 : FVec F S_ .f32 := constant S_ .f32 0x7F800000#32
  let main_v7 : FVec F S3072x64 .f32 := broadcastInDim S3072x64 ![] bcast_S_S3072x64 main_cst_1
  let main_v8 : IVec S3072x64 1 := cmpf .olt main_v6 main_v7
  let main_v9 : FVec F S3072x64 .f32 := Host.absf main_arg3
  let main_cst_2 : FVec F S_ .f32 := constant S_ .f32 0x7F800000#32
  let main_v10 : FVec F S3072x64 .f32 := broadcastInDim S3072x64 ![] bcast_S_S3072x64 main_cst_2
  let main_v11 : IVec S3072x64 1 := cmpf .olt main_v9 main_v10
  (main_v2, main_v5, main_v8, main_v11)
-- ==== ProjKernel.lean ====
abbrev S3072x16384 : Shape := ⟨2, ![3072, 16384]⟩
abbrev S8192x2304 : Shape := ⟨2, ![8192, 2304]⟩
abbrev S3072x128 : Shape := ⟨2, ![3072, 128]⟩
abbrev S3072x2304 : Shape := ⟨2, ![3072, 2304]⟩
abbrev S512x2048 : Shape := ⟨2, ![512, 2048]⟩
abbrev S1024x2304 : Shape := ⟨2, ![1024, 2304]⟩
abbrev S512x128 : Shape := ⟨2, ![512, 128]⟩
abbrev S512x2304 : Shape := ⟨2, ![512, 2304]⟩
abbrev S128x128 : Shape := ⟨2, ![128, 128]⟩
abbrev S128x1 : Shape := ⟨2, ![128, 1]⟩
abbrev S128 : Shape := ⟨1, ![128]⟩
abbrev S1024x256 : Shape := ⟨2, ![1024, 256]⟩
abbrev S1024x1x256 : Shape := ⟨3, ![1024, 1, 256]⟩
abbrev S1024x2x256 : Shape := ⟨3, ![1024, 2, 256]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 18
  | .smem => 0
  | _ => 0

abbrev bufTy : (tb : Table) → Fin (tcTables nBuf tb) → BufTy
  | .hbm, ⟨0, _⟩ => ⟨S3072x16384, .bf16⟩
  | .hbm, ⟨1, _⟩ => ⟨S8192x2304, .i8⟩
  | .hbm, ⟨2, _⟩ => ⟨S3072x16384, .i8⟩
  | .hbm, ⟨3, _⟩ => ⟨S3072x128, .f32⟩
  | .hbm, ⟨4, _⟩ => ⟨S3072x2304, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x2304, .i8⟩
  | .local _ .vmem, ⟨5, _⟩ => ⟨S1024x2304, .i8⟩
  | .local _ .vmem, ⟨6, _⟩ => ⟨S512x2048, .i8⟩
  | .local _ .vmem, ⟨7, _⟩ => ⟨S512x2048, .i8⟩
  | .local _ .vmem, ⟨8, _⟩ => ⟨S512x128, .f32⟩
  | .local _ .vmem, ⟨9, _⟩ => ⟨S512x128, .f32⟩
  | .local _ .vmem, ⟨10, _⟩ => ⟨S512x2304, .f32⟩
  | .local _ .vmem, ⟨11, _⟩ => ⟨S512x2304, .f32⟩
  | .local _ .vmem, ⟨12, _⟩ => ⟨S512x2048, .bf16⟩
  | .local _ .vmem, ⟨13, _⟩ => ⟨S512x2048, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![57], ![false]⟩

def k0_cond1 (i : grid0.Coords) : BitVec 1 :=
  let arg0 : BitVec 32 := BitVec.ofNat 32 (i 0).val
  let c8_i32_5 : BitVec 32 := 8#32
  let v9 : BitVec 1 := Scalar.cmpi .sle arg0 c8_i32_5
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c8_i32_9 : BitVec 32 := 8#32
  let v14 : BitVec 1 := Scalar.cmpi .sgt arg0 c8_i32_9
  let c8_i32_7 : BitVec 32 := 8#32
  let v12 : BitVec 32 := Scalar.subi arg0 c8_i32_7
  let c1_i32_8 : BitVec 32 := 1#32
  let v13 : BitVec 32 := Scalar.andi v12 c1_i32_8
  let c1_i32_10 : BitVec 32 := 1#32
  let v15 : BitVec 1 := Scalar.cmpi .eq v13 c1_i32_10
  let v16 : BitVec 1 := Scalar.andi v14 v15
  let v17 : BitVec 32 := Scalar.extui v16
  let c0_i32_11 : BitVec 32 := 0#32
  let v18 : BitVec 1 := Scalar.cmpi .ne v17 c0_i32_11
  v18

def k0_cond3 (i : grid0.Coords) : BitVec 1 :=
  let arg0 : BitVec 32 := BitVec.ofNat 32 (i 0).val
  let c8_i32_12 : BitVec 32 := 8#32
  let v19 : BitVec 1 := Scalar.cmpi .sgt arg0 c8_i32_12
  let c8_i32_7 : BitVec 32 := 8#32
  let v12 : BitVec 32 := Scalar.subi arg0 c8_i32_7
  let c1_i32_8 : BitVec 32 := 1#32
  let v13 : BitVec 32 := Scalar.andi v12 c1_i32_8
  let c0_i32_13 : BitVec 32 := 0#32
  let v20 : BitVec 1 := Scalar.cmpi .eq v13 c0_i32_13
  let v21 : BitVec 1 := Scalar.andi v19 v20
  let v22 : BitVec 32 := Scalar.extui v21
  let c0_i32_14 : BitVec 32 := 0#32
  let v23 : BitVec 1 := Scalar.cmpi .ne v22 c0_i32_14
  v23

def k0_cond4 (i : grid0.Coords) : BitVec 1 :=
  let arg0 : BitVec 32 := BitVec.ofNat 32 (i 0).val
  let c8_i32 : BitVec 32 := 8#32
  let v0 : BitVec 32 := Scalar.remsi arg0 c8_i32
  let c7_i32 : BitVec 32 := 7#32
  let v24 : BitVec 1 := Scalar.cmpi .eq v0 c7_i32
  let c47_i32_15 : BitVec 32 := 47#32
  let v25 : BitVec 1 := Scalar.cmpi .sle arg0 c47_i32_15
  let v26 : BitVec 1 := Scalar.andi v24 v25
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let c0_i32 : BitVec 32 := 0#32
  let c47_i32 : BitVec 32 := 47#32
  let v0 : BitVec 32 := Scalar.maxsi c0_i32 arg0
  let v1 : BitVec 32 := Scalar.minsi c47_i32 v0
  let c8_i32 : BitVec 32 := 8#32
  let v2 : BitVec 32 := Scalar.divsi v1 c8_i32
  let c8_i32_0 : BitVec 32 := 8#32
  let v3 : BitVec 32 := Scalar.remsi v1 c8_i32_0
  let c0_i32_1 : BitVec 32 := 0#32
  ![v2.toNat, v3.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c47_i32 : BitVec 32 := 47#32
  let v1 : BitVec 32 := Scalar.maxsi c0_i32 v0
  let v2 : BitVec 32 := Scalar.minsi c47_i32 v1
  let c8_i32_0 : BitVec 32 := 8#32
  let v3 : BitVec 32 := Scalar.divsi v2 c8_i32_0
  let c8_i32_1 : BitVec 32 := 8#32
  let v4 : BitVec 32 := Scalar.remsi v2 c8_i32_1
  let c0_i32_2 : BitVec 32 := 0#32
  ![v3.toNat, v4.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let v3 : BitVec 32 := Scalar.remsi v2 c8_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c47_i32 : BitVec 32 := 47#32
  let v1 : BitVec 32 := Scalar.maxsi c0_i32 v0
  let v2 : BitVec 32 := Scalar.minsi c47_i32 v1
  let c8_i32_0 : BitVec 32 := 8#32
  let v3 : BitVec 32 := Scalar.divsi v2 c8_i32_0
  let c8_i32_1 : BitVec 32 := 8#32
  let v4 : BitVec 32 := Scalar.remsi v2 c8_i32_1
  let c0_i32_2 : BitVec 32 := 0#32
  ![v3.toNat, v4.toNat]

def cc0_transform_4 (i : grid0.Coords) : Fin 2 → Nat :=
  let arg0 : BitVec 32 := BitVec.ofNat 32 (i 0).val
  let c0_i32 : BitVec 32 := 0#32
  let c47_i32 : BitVec 32 := 47#32
  let v0 : BitVec 32 := Scalar.maxsi c0_i32 arg0
  let v1 : BitVec 32 := Scalar.minsi c47_i32 v0
  let c8_i32 : BitVec 32 := 8#32
  let v2 : BitVec 32 := Scalar.divsi v1 c8_i32
  let c8_i32_0 : BitVec 32 := 8#32
  let v3 : BitVec 32 := Scalar.remsi v1 c8_i32_0
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let c47_i32 : BitVec 32 := 47#32
  let v2 : BitVec 32 := Scalar.maxsi c0_i32 v1
  let v3 : BitVec 32 := Scalar.minsi c47_i32 v2
  let c8_i32_0 : BitVec 32 := 8#32
  let v4 : BitVec 32 := Scalar.divsi v3 c8_i32_0
  let c8_i32_1 : BitVec 32 := 8#32
  let v5 : BitVec 32 := Scalar.remsi v3 c8_i32_1
  let c0_i32_2 : BitVec 32 := 0#32
  let c0_i32_3 : BitVec 32 := 0#32
  ![v4.toNat, c0_i32_2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2304 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjReferenceIdeal.lean ====
abbrev S3072x16384 : Shape := ⟨2, ![3072, 16384]⟩
abbrev S8192x2304 : Shape := ⟨2, ![8192, 2304]⟩
abbrev S_ : Shape := ⟨0, ![]⟩
abbrev S3072 : Shape := ⟨1, ![3072]⟩
abbrev S3072x1 : Shape := ⟨2, ![3072, 1]⟩
abbrev S3072x128x128 : Shape := ⟨3, ![3072, 128, 128]⟩
abbrev S3072x128 : Shape := ⟨2, ![3072, 128]⟩
abbrev S3072x128x1 : Shape := ⟨3, ![3072, 128, 1]⟩
abbrev S3072x8192 : Shape := ⟨2, ![3072, 8192]⟩
abbrev S3072x2304 : Shape := ⟨2, ![3072, 2304]⟩

abbrev nBuf : Space → Nat
  | .hbm => 106
  | .vmem => 0
  | .smem => 0
  | _ => 0

abbrev bufTy : (tb : Table) → Fin (tcTables nBuf tb) → BufTy
  | .hbm, ⟨0, _⟩ => ⟨S3072x16384, .bf16⟩
  | .hbm, ⟨1, _⟩ => ⟨S8192x2304, .i8⟩
  | .hbm, ⟨2, _⟩ => ⟨S3072x16384, .f32⟩
  | .hbm, ⟨3, _⟩ => ⟨S3072x16384, .f32⟩
  | .hbm, ⟨4, _⟩ => ⟨S_, .f32⟩
  | .hbm, ⟨5, _⟩ => ⟨S3072, .f32⟩
  | .hbm, ⟨6, _⟩ => ⟨S3072x1, .f32⟩
  | .hbm, ⟨7, _⟩ => ⟨S_, .f32⟩
  | .hbm, ⟨8, _⟩ => ⟨S3072x1, .f32⟩
  | .hbm, ⟨9, _⟩ => ⟨S3072x1, .f32⟩
  | .hbm, ⟨10, _⟩ => ⟨S_, .f32⟩
  | .hbm, ⟨11, _⟩ => ⟨S3072x1, .f32⟩
  | .hbm, ⟨12, _⟩ => ⟨S3072x1, .f32⟩
  | .hbm, ⟨13, _⟩ => ⟨S3072x1, .f32⟩
  | .hbm, ⟨14, _⟩ => ⟨S3072x16384, .f32⟩
  | .hbm, ⟨15, _⟩ => ⟨S3072x16384, .f32⟩
  | .hbm, ⟨16, _⟩ => ⟨S3072x128x128, .f32⟩
  | .hbm, ⟨17, _⟩ => ⟨S3072x128x128, .f32⟩
  | .hbm, ⟨18, _⟩ => ⟨S_, .f32⟩
  | .hbm, ⟨19, _⟩ => ⟨S3072x128, .f32⟩
  | .hbm, ⟨20, _⟩ => ⟨S_, .f32⟩
  | .hbm, ⟨21, _⟩ => ⟨S3072x128, .f32⟩
  | .hbm, ⟨22, _⟩ => ⟨S3072x128, .i1⟩
  | .hbm, ⟨23, _⟩ => ⟨S_, .f32⟩
  | .hbm, ⟨24, _⟩ => ⟨S3072x128, .f32⟩
  | .hbm, ⟨25, _⟩ => ⟨S3072x128, .f32⟩
  | .hbm, ⟨26, _⟩ => ⟨S_, .f32⟩
  | .hbm, ⟨27, _⟩ => ⟨S3072x128, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S_, .f32⟩
  | .hbm, ⟨32, _⟩ => ⟨S3072x128, .f32⟩
  | .hbm, ⟨33, _⟩ => ⟨S3072x128, .f32⟩
  | .hbm, ⟨34, _⟩ => ⟨S3072x128, .f32⟩
  | .hbm, ⟨35, _⟩ => ⟨S_, .f32⟩
  | .hbm, ⟨36, _⟩ => ⟨S3072x128, .f32⟩
  | .hbm, ⟨37, _⟩ => ⟨S3072x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S3072x128, .f32⟩
  | .hbm, ⟨42, _⟩ => ⟨S3072x128, .f32⟩
  | .hbm, ⟨43, _⟩ => ⟨S_, .f32⟩
  | .hbm, ⟨44, _⟩ => ⟨S3072x128, .f32⟩
  | .hbm, ⟨45, _⟩ => ⟨S3072x128, .f32⟩
  | .hbm, ⟨46, _⟩ => ⟨S_, .f32⟩
  | .hbm, ⟨47, _⟩ => ⟨S_, .f32⟩
  | .hbm, ⟨48, _⟩ => ⟨S3072x128, .f32⟩
  | .hbm, ⟨49, _⟩ => ⟨S3072x128, .f32⟩
  | .hbm, ⟨50, _⟩ => ⟨S_, .f32⟩
  | .hbm, ⟨51, _⟩ => ⟨S3072x128, .f32⟩
  | .hbm, ⟨52, _⟩ => ⟨S3072x128, .f32⟩
  | .hbm, ⟨53, _⟩ => ⟨S3072x128, .f32⟩
  | .hbm, ⟨54, _⟩ => ⟨S_, .f32⟩
  | .hbm, ⟨55, _⟩ => ⟨S3072x128, .f32⟩
  | .hbm, ⟨56, _⟩ => ⟨S3072x128, .f32⟩
  | .hbm, ⟨57, _⟩ => ⟨S3072x128x1, .f32⟩
  | .hbm, ⟨58, _⟩ => ⟨S3072x128x128, .f32⟩
  | .hbm, ⟨59, _⟩ => ⟨S3072x128x128, .f32⟩
  | .hbm, ⟨60, _⟩ => ⟨S3072x128x128, .f32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S3072x128x128, .f32⟩
  | .hbm, ⟨65, _⟩ => ⟨S3072x128x128, .f32⟩
  | .hbm, ⟨66, _⟩ => ⟨S_, .f32⟩
  | .hbm, ⟨67, _⟩ => ⟨S3072x128x128, .f32⟩
  | .hbm, ⟨68, _⟩ => ⟨S3072x128x128, .f32⟩
  | .hbm, ⟨69, _⟩ => ⟨S3072x128x128, .bf16⟩
  | .hbm, ⟨70, _⟩ => ⟨S3072x128, .bf16⟩
  | .hbm, ⟨71, _⟩ => ⟨S3072x128x1, .bf16⟩
  | .hbm, ⟨72, _⟩ => ⟨S3072x128x128, .bf16⟩
  | .hbm, ⟨73, _⟩ => ⟨S3072x128x128, .bf16⟩
  | .hbm, ⟨74, _⟩ => ⟨S3072x16384, .bf16⟩
  | .hbm, ⟨75, _⟩ => ⟨S8192x2304, .i32⟩
  | .hbm, ⟨76, _⟩ => ⟨S_, .i32⟩
  | .hbm, ⟨77, _⟩ => ⟨S8192x2304, .i32⟩
  | .hbm, ⟨78, _⟩ => ⟨S8192x2304, .i32⟩
  | .hbm, ⟨79, _⟩ => ⟨S_, .i32⟩
  | .hbm, ⟨80, _⟩ => ⟨S8192x2304, .i32⟩
  | .hbm, ⟨81, _⟩ => ⟨S8192x2304, .i1⟩
  | .hbm, ⟨82, _⟩ => ⟨S_, .i32⟩
  | .hbm, ⟨83, _⟩ => ⟨S8192x2304, .i32⟩
  | .hbm, ⟨84, _⟩ => ⟨S8192x2304, .i32⟩
  | .hbm, ⟨85, _⟩ => ⟨S8192x2304, .i32⟩
  | .hbm, ⟨86, _⟩ => ⟨S8192x2304, .bf16⟩
  | .hbm, ⟨87, _⟩ => ⟨S_, .i32⟩
  | .hbm, ⟨88, _⟩ => ⟨S8192x2304, .i32⟩
  | .hbm, ⟨89, _⟩ => ⟨S8192x2304, .i32⟩
  | .hbm, ⟨90, _⟩ => ⟨S_, .i32⟩
  | .hbm, ⟨91, _⟩ => ⟨S8192x2304, .i32⟩
  | .hbm, ⟨92, _⟩ => ⟨S8192x2304, .i1⟩
  | .hbm, ⟨93, _⟩ => ⟨S_, .i32⟩
  | .hbm, ⟨94, _⟩ => ⟨S8192x2304, .i32⟩
  | .hbm, ⟨95, _⟩ => ⟨S8192x2304, .i32⟩
  | .hbm, ⟨96, _⟩ => ⟨S8192x2304, .i32⟩
  | .hbm, ⟨97, _⟩ => ⟨S8192x2304, .bf16⟩
  | .hbm, ⟨98, _⟩ => ⟨S3072x8192, .bf16⟩
  | .hbm, ⟨99, _⟩ => ⟨S3072x2304, .f32⟩
  | .hbm, ⟨100, _⟩ => ⟨S3072x8192, .bf16⟩
  | .hbm, ⟨101, _⟩ => ⟨S3072x2304, .f32⟩
  | .hbm, ⟨102, _⟩ => ⟨S3072x2304, .f32⟩
  | .hbm, ⟨103, _⟩ => ⟨S3072x128x128, .i32⟩
  | .hbm, ⟨104, _⟩ => ⟨S3072x128x128, .i8⟩
  | .hbm, ⟨105, _⟩ => ⟨S3072x16384, .i8⟩
  | _, _ => ⟨S3072x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_cst_10 : Ref sig .tc := ⟨.hbm, 46, rfl⟩
abbrev main_call1_v0 : Ref sig .tc := ⟨.hbm, 47, rfl⟩
abbrev main_call1_v1 : Ref sig .tc := ⟨.hbm, 48, rfl⟩
abbrev main_v28 : Ref sig .tc := ⟨.hbm, 49, rfl⟩
abbrev main_cst_11 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_12 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c : Ref sig .tc := ⟨.hbm, 61, rfl⟩
abbrev main_c_13 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_14 : Ref sig .tc := ⟨.hbm, 76, rfl⟩
abbrev main_v46 : Ref sig .tc := ⟨.hbm, 77, rfl⟩
abbrev main_v47 : Ref sig .tc := ⟨.hbm, 78, rfl⟩
abbrev main_c_15 : Ref sig .tc := ⟨.hbm, 79, rfl⟩
abbrev main_v48 : Ref sig .tc := ⟨.hbm, 80, rfl⟩
abbrev main_v49 : Ref sig .tc := ⟨.hbm, 81, rfl⟩
abbrev main_c_16 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_17 : Ref sig .tc := ⟨.hbm, 87, rfl⟩
abbrev main_v54 : Ref sig .tc := ⟨.hbm, 88, rfl⟩
abbrev main_v55 : Ref sig .tc := ⟨.hbm, 89, rfl⟩
abbrev main_c_18 : Ref sig .tc := ⟨.hbm, 90, rfl⟩
abbrev main_v56 : Ref sig .tc := ⟨.hbm, 91, rfl⟩
abbrev main_v57 : Ref sig .tc := ⟨.hbm, 92, rfl⟩
abbrev main_c_19 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]
-- ==== OprojKernel.lean ====
abbrev S3072x2048 : Shape := ⟨2, ![3072, 2048]⟩
abbrev S1024x16384 : Shape := ⟨2, ![1024, 16384]⟩
abbrev S16384 : Shape := ⟨1, ![16384]⟩
abbrev S3072x16384 : Shape := ⟨2, ![3072, 16384]⟩
abbrev S1x16384 : Shape := ⟨2, ![1, 16384]⟩
abbrev S1024x512 : Shape := ⟨2, ![1024, 512]⟩
abbrev S1x512 : Shape := ⟨2, ![1, 512]⟩
abbrev S3072x512 : Shape := ⟨2, ![3072, 512]⟩
abbrev S2048x512 : Shape := ⟨2, ![2048, 512]⟩
abbrev S1024x1x512 : Shape := ⟨3, ![1024, 1, 512]⟩
abbrev S1024x2x512 : Shape := ⟨3, ![1024, 2, 512]⟩
abbrev S512x2048 : Shape := ⟨2, ![512, 2048]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S3072x2048, .bf16⟩
  | .hbm, ⟨1, _⟩ => ⟨S1024x16384, .i8⟩
  | .hbm, ⟨2, _⟩ => ⟨S16384, .f32⟩
  | .hbm, ⟨3, _⟩ => ⟨S3072x16384, .bf16⟩
  | .hbm, ⟨4, _⟩ => ⟨S1x16384, .f32⟩
  | .hbm, ⟨5, _⟩ => ⟨S3072x16384, .bf16⟩
  | .local _ .vmem, ⟨0, _⟩ => ⟨S3072x2048, .bf16⟩
  | .local _ .vmem, ⟨1, _⟩ => ⟨S1024x512, .i8⟩
  | .local _ .vmem, ⟨2, _⟩ => ⟨S1024x512, .i8⟩
  | .local _ .vmem, ⟨3, _⟩ => ⟨S1x512, .f32⟩
  | .local _ .vmem, ⟨4, _⟩ => ⟨S1x512, .f32⟩
  | .local _ .vmem, ⟨5, _⟩ => ⟨S3072x512, .bf16⟩
  | .local _ .vmem, ⟨6, _⟩ => ⟨S3072x512, .bf16⟩
  | .local _ .vmem, ⟨7, _⟩ => ⟨S3072x512, .bf16⟩
  | .local _ .vmem, ⟨8, _⟩ => ⟨S3072x512, .bf16⟩
  | .local _ .vmem, ⟨9, _⟩ => ⟨S2048x512, .bf16⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OprojReferenceIdeal.lean ====
abbrev S3072x2048 : Shape := ⟨2, ![3072, 2048]⟩
abbrev S1024x16384 : Shape := ⟨2, ![1024, 16384]⟩
abbrev S16384 : Shape := ⟨1, ![16384]⟩
abbrev S3072x16384 : Shape := ⟨2, ![3072, 16384]⟩
abbrev S_ : Shape := ⟨0, ![]⟩
abbrev S3072x1024 : Shape := ⟨2, ![3072, 1024]⟩
abbrev S1x16384 : Shape := ⟨2, ![1, 16384]⟩

abbrev nBuf : Space → Nat
  | .hbm => 38
  | .vmem => 0
  | .smem => 0
  | _ => 0

abbrev bufTy : (tb : Table) → Fin (tcTables nBuf tb) → BufTy
  | .hbm, ⟨0, _⟩ => ⟨S3072x2048, .bf16⟩
  | .hbm, ⟨1, _⟩ => ⟨S1024x16384, .i8⟩
  | .hbm, ⟨2, _⟩ => ⟨S16384, .f32⟩
  | .hbm, ⟨3, _⟩ => ⟨S3072x16384, .bf16⟩
  | .hbm, ⟨4, _⟩ => ⟨S1024x16384, .i32⟩
  | .hbm, ⟨5, _⟩ => ⟨S_, .i32⟩
  | .hbm, ⟨6, _⟩ => ⟨S1024x16384, .i32⟩
  | .hbm, ⟨7, _⟩ => ⟨S1024x16384, .i32⟩
  | .hbm, ⟨8, _⟩ => ⟨S_, .i32⟩
  | .hbm, ⟨9, _⟩ => ⟨S1024x16384, .i32⟩
  | .hbm, ⟨10, _⟩ => ⟨S1024x16384, .i1⟩
  | .hbm, ⟨11, _⟩ => ⟨S_, .i32⟩
  | .hbm, ⟨12, _⟩ => ⟨S1024x16384, .i32⟩
  | .hbm, ⟨13, _⟩ => ⟨S1024x16384, .i32⟩
  | .hbm, ⟨14, _⟩ => ⟨S1024x16384, .i32⟩
  | .hbm, ⟨15, _⟩ => ⟨S1024x16384, .bf16⟩
  | .hbm, ⟨16, _⟩ => ⟨S_, .i32⟩
  | .hbm, ⟨17, _⟩ => ⟨S1024x16384, .i32⟩
  | .hbm, ⟨18, _⟩ => ⟨S1024x16384, .i32⟩
  | .hbm, ⟨19, _⟩ => ⟨S_, .i32⟩
  | .hbm, ⟨20, _⟩ => ⟨S1024x16384, .i32⟩
  | .hbm, ⟨21, _⟩ => ⟨S1024x16384, .i1⟩
  | .hbm, ⟨22, _⟩ => ⟨S_, .i32⟩
  | .hbm, ⟨23, _⟩ => ⟨S1024x16384, .i32⟩
  | .hbm, ⟨24, _⟩ => ⟨S1024x16384, .i32⟩
  | .hbm, ⟨25, _⟩ => ⟨S1024x16384, .i32⟩
  | .hbm, ⟨26, _⟩ => ⟨S1024x16384, .bf16⟩
  | .hbm, ⟨27, _⟩ => ⟨S3072x1024, .bf16⟩
  | .hbm, ⟨28, _⟩ => ⟨S3072x16384, .f32⟩
  | .hbm, ⟨29, _⟩ => ⟨S3072x1024, .bf16⟩
  | .hbm, ⟨30, _⟩ => ⟨S3072x16384, .f32⟩
  | .hbm, ⟨31, _⟩ => ⟨S3072x16384, .f32⟩
  | .hbm, ⟨32, _⟩ => ⟨S1x16384, .f32⟩
  | .hbm, ⟨33, _⟩ => ⟨S3072x16384, .f32⟩
  | .hbm, ⟨34, _⟩ => ⟨S3072x16384, .f32⟩
  | .hbm, ⟨35, _⟩ => ⟨S3072x16384, .f32⟩
  | .hbm, ⟨36, _⟩ => ⟨S3072x16384, .f32⟩
  | .hbm, ⟨37, _⟩ => ⟨S3072x16384, .bf16⟩
  | _, _ => ⟨S3072x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== AttnKernel.lean ====
abbrev S3072x2304 : Shape := ⟨2, ![3072, 2304]⟩
abbrev S2304 : Shape := ⟨1, ![2304]⟩
abbrev S3072x64 : Shape := ⟨2, ![3072, 64]⟩
abbrev S256x256 : Shape := ⟨2, ![256, 256]⟩
abbrev S128x64 : Shape := ⟨2, ![128, 64]⟩
abbrev S1x2304 : Shape := ⟨2, ![1, 2304]⟩
abbrev S3072x2048 : Shape := ⟨2, ![3072, 2048]⟩
abbrev S3072x16 : Shape := ⟨2, ![3072, 16]⟩
abbrev S2x8x1536 : Shape := ⟨3, ![2, 8, 1536]⟩
abbrev S256x2304 : Shape := ⟨2, ![256, 2304]⟩
abbrev S256x64 : Shape := ⟨2, ![256, 64]⟩
abbrev S256x2048 : Shape := ⟨2, ![256, 2048]⟩
abbrev S256x16 : Shape := ⟨2, ![256, 16]⟩
abbrev S1x8x256 : Shape := ⟨3, ![1, 8, 256]⟩
abbrev S16x256x128 : Shape := ⟨3, ![16, 256, 128]⟩
abbrev S128x1536 : Shape := ⟨2, ![128, 1536]⟩
abbrev S1536x128 : Shape := ⟨2, ![1536, 128]⟩
abbrev S4x8x1536 : Shape := ⟨3, ![4, 8, 1536]⟩
abbrev S2x256x1536 : Shape := ⟨3, ![2, 256, 1536]⟩
abbrev S256x128 : Shape := ⟨2, ![256, 128]⟩
abbrev S1x128 : Shape := ⟨2, ![1, 128]⟩
abbrev S128x128 : Shape := ⟨2, ![128, 128]⟩
abbrev S256 : Shape := ⟨1, ![256]⟩
abbrev S256x1 : Shape := ⟨2, ![256, 1]⟩
abbrev S128x256 : Shape := ⟨2, ![128, 256]⟩
abbrev S8x256 : Shape := ⟨2, ![8, 256]⟩
abbrev S1x256 : Shape := ⟨2, ![1, 256]⟩
abbrev S1x256x128 : Shape := ⟨3, ![1, 256, 128]⟩
abbrev S1x256x256 : Shape := ⟨3, ![1, 256, 256]⟩
abbrev S1x64x128 : Shape := ⟨3, ![1, 64, 128]⟩
abbrev S64x128 : Shape := ⟨2, ![64, 128]⟩
abbrev S1x1x128 : Shape := ⟨3, ![1, 1, 128]⟩
abbrev S64x1 : Shape := ⟨2, ![64, 1]⟩
abbrev S64 : Shape := ⟨1, ![64]⟩
abbrev S128x512 : Shape := ⟨2, ![128, 512]⟩
abbrev S256x512 : Shape := ⟨2, ![256, 512]⟩
abbrev S1x256x512 : Shape := ⟨3, ![1, 256, 512]⟩
abbrev S512x128 : Shape := ⟨2, ![512, 128]⟩
abbrev S128x768 : Shape := ⟨2, ![128, 768]⟩
abbrev S256x768 : Shape := ⟨2, ![256, 768]⟩
abbrev S1x256x768 : Shape := ⟨3, ![1, 256, 768]⟩
abbrev S768x128 : Shape := ⟨2, ![768, 128]⟩
abbrev S128x1024 : Shape := ⟨2, ![128, 1024]⟩
abbrev S256x1024 : Shape := ⟨2, ![256, 1024]⟩
abbrev S1x256x1024 : Shape := ⟨3, ![1, 256, 1024]⟩
abbrev S1024x128 : Shape := ⟨2, ![1024, 128]⟩
abbrev S128x1280 : Shape := ⟨2, ![128, 1280]⟩
abbrev S256x1280 : Shape := ⟨2, ![256, 1280]⟩
abbrev S1x256x1280 : Shape := ⟨3, ![1, 256, 1280]⟩
abbrev S1280x128 : Shape := ⟨2, ![1280, 128]⟩
abbrev S256x1536 : Shape := ⟨2, ![256, 1536]⟩
abbrev S1x256x1536 : Shape := ⟨3, ![1, 256, 1536]⟩
abbrev S64x16 : Shape := ⟨2, ![64, 16]⟩

abbrev nBuf : Space → Nat
  | .hbm => 14
  | .vmem => 30
  | .smem => 0
  | _ => 0

abbrev bufTy : (tb : Table) → Fin (tcTables nBuf tb) → BufTy
  | .hbm, ⟨0, _⟩ => ⟨S3072x2304, .f32⟩
  | .hbm, ⟨1, _⟩ => ⟨S2304, .f32⟩
  | .hbm, ⟨2, _⟩ => ⟨S3072x64, .f32⟩
  | .hbm, ⟨3, _⟩ => ⟨S3072x64, .f32⟩
  | .hbm, ⟨4, _⟩ => ⟨S256x256, .bf16⟩
  | .hbm, ⟨5, _⟩ => ⟨S128x64, .bf16⟩
  | .hbm, ⟨6, _⟩ => ⟨S1x2304, .f32⟩
  | .hbm, ⟨7, _⟩ => ⟨S3072x2048, .f32⟩
  | .hbm, ⟨8, _⟩ => ⟨S3072x2048, .bf16⟩
  | .hbm, ⟨9, _⟩ => ⟨S3072x2048, .i8⟩
  | .hbm, ⟨10, _⟩ => ⟨S3072x16, .f32⟩
  | .hbm, ⟨11, _⟩ => ⟨S3072x64, .i8⟩
  | .hbm, ⟨12, _⟩ => ⟨S3072x64, .i8⟩
  | .hbm, ⟨13, _⟩ => ⟨S2x8x1536, .f32⟩
  | .local _ .vmem, ⟨0, _⟩ => ⟨S256x2304, .f32⟩
  | .local _ .vmem, ⟨1, _⟩ => ⟨S256x2304, .f32⟩
  | .local _ .vmem, ⟨2, _⟩ => ⟨S1x2304, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x256, .bf16⟩
  | .local _ .vmem, ⟨8, _⟩ => ⟨S128x64, .bf16⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .i8⟩
  | .local _ .vmem, ⟨14, _⟩ => ⟨S256x2048, .i8⟩
  | .local _ .vmem, ⟨15, _⟩ => ⟨S256x16, .f32⟩
  | .local _ .vmem, ⟨16, _⟩ => ⟨S256x16, .f32⟩
  | .local _ .vmem, ⟨17, _⟩ => ⟨S256x64, .i8⟩
  | .local _ .vmem, ⟨18, _⟩ => ⟨S256x64, .i8⟩
  | .local _ .vmem, ⟨19, _⟩ => ⟨S256x64, .i8⟩
  | .local _ .vmem, ⟨20, _⟩ => ⟨S256x64, .i8⟩
  | .local _ .vmem, ⟨21, _⟩ => ⟨S1x8x256, .f32⟩
  | .local _ .vmem, ⟨22, _⟩ => ⟨S1x8x256, .f32⟩
  | .local _ .vmem, ⟨23, _⟩ => ⟨S16x256x128, .bf16⟩
  | .local _ .vmem, ⟨24, _⟩ => ⟨S128x1536, .bf16⟩
  | .local _ .vmem, ⟨25, _⟩ => ⟨S1536x128, .bf16⟩
  | .local _ .vmem, ⟨26, _⟩ => ⟨S4x8x1536, .f32⟩
  | .local _ .vmem, ⟨27, _⟩ => ⟨S2x256x1536, .f32⟩
  | .local _ .vmem, ⟨28, _⟩ => ⟨S2x256x1536, .bf16⟩
  | .local _ .vmem, ⟨29, _⟩ => ⟨S16x256x128, .f32⟩
  | _, _ => ⟨S3072x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 6], ![false, false]⟩

def k0_mult1 (i : grid0.Coords) : BitVec 32 :=
  let arg1 : BitVec 32 := BitVec.ofNat 32 (i 1).val
  let c256_i32 : BitVec 32 := 256#32
  let v96 : BitVec 32 := Scalar.muli arg1 c256_i32
  v96
def k0_off1 (i : grid0.Coords) : Fin 2 → Nat :=
  let c0_37 : Index := 0#32
  let arg1 : BitVec 32 := BitVec.ofNat 32 (i 1).val
  let c256_i32 : BitVec 32 := 256#32
  let v96 : BitVec 32 := Scalar.muli arg1 c256_i32
  let v97 : BitVec 32 := v96
  let v100 : Index := Scalar.indexCast v97
  ![0, v100.toNat]
def k0_off2 (i : grid0.Coords) : Fin 2 → Nat :=
  let arg1 : BitVec 32 := BitVec.ofNat 32 (i 1).val
  let c256_i32 : BitVec 32 := 256#32
  let v96 : BitVec 32 := Scalar.muli arg1 c256_i32
  let v97 : BitVec 32 := v96
  let v105 : Index := Scalar.indexCast v97
  let c0_38 : Index := 0#32
  ![v105.toNat, 0]
def k0_off3 (i : grid0.Coords) : Fin 3 → Nat :=
  let c0_44 : Index := 0#32
  let c0_45 : Index := 0#32
  let arg1 : BitVec 32 := BitVec.ofNat 32 (i 1).val
  let c256_i32 : BitVec 32 := 256#32
  let v96 : BitVec 32 := Scalar.muli arg1 c256_i32
  let v97 : BitVec 32 := v96
  let v137 : Index := Scalar.indexCast v97
  ![0, 0, v137.toNat]
def k0_off4 (i : grid0.Coords) : Fin 3 → Nat :=
  let c1 : Index := 1#32
  let c0_47 : Index := 0#32
  let arg1 : BitVec 32 := BitVec.ofNat 32 (i 1).val
  let c256_i32 : BitVec 32 := 256#32
  let v96 : BitVec 32 := Scalar.muli arg1 c256_i32
  let v97 : BitVec 32 := v96
  let v146 : Index := Scalar.indexCast v97
  ![1, 0, v146.toNat]
def k0_off5 (i : grid0.Coords) : Fin 3 → Nat :=
  let c2 : Index := 2#32
  let c0_48 : Index := 0#32
  let arg1 : BitVec 32 := BitVec.ofNat 32 (i 1).val
  let c256_i32 : BitVec 32 := 256#32
  let v96 : BitVec 32 := Scalar.muli arg1 c256_i32
  let v97 : BitVec 32 := v96
  let v153 : Index := Scalar.indexCast v97
  ![2, 0, v153.toNat]
def k0_off6 (i : grid0.Coords) : Fin 3 → Nat :=
  let c3 : Index := 3#32
  let c0_49 : Index := 0#32
  let arg1 : BitVec 32 := BitVec.ofNat 32 (i 1).val
  let c256_i32 : BitVec 32 := 256#32
  let v96 : BitVec 32 := Scalar.muli arg1 c256_i32
  let v97 : BitVec 32 := v96
  let v160 : Index := Scalar.indexCast v97
  ![3, 0, v160.toNat]
def k0_cond1 (i : grid0.Coords) : BitVec 1 :=
  let arg1 : BitVec 32 := BitVec.ofNat 32 (i 1).val
  let c0_i32_175 : BitVec 32 := 0#32
  let v484 : BitVec 1 := Scalar.cmpi .eq arg1 c0_i32_175
  let v485 : BitVec 32 := Scalar.extui v484
  let c0_i32_176 : BitVec 32 := 0#32
  let v486 : BitVec 1 := Scalar.cmpi .ne v485 c0_i32_176
  v486

@[reducible] def k0_t1_loop : Scf.Loop 32 :=
  let c0_i32_2480 : BitVec 32 := 0#32
  let c8_i32_2481 : BitVec 32 := 8#32
  let v6278 : BitVec 32 := Scalar.addi c0_i32_2480 c8_i32_2481
  let c1_i32_2482 : BitVec 32 := 1#32
  ⟨c0_i32_2480, v6278, c1_i32_2482⟩
def k0_off7 (k0_t1 : Fin k0_t1_loop.trips) : Fin 3 → Nat :=
  let c2_i32_2486 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t1
  let c1_i32_2484 : BitVec 32 := 1#32
  let v6279 : BitVec 32 := Scalar.muli arg22 c1_i32_2484
  let v6280 : BitVec 32 := Scalar.addi c0_i32_2485 v6279
  let v6281 : BitVec 32 := Scalar.muli c2_i32_2486 v6280
  let v6282 : Index := Scalar.indexCast v6281
  let c0_2487 : Index := 0#32
  let c0_2488 : Index := 0#32
  ![v6282.toNat, 0, 0]
def k0_off8 (k0_t1 : Fin k0_t1_loop.trips) : Fin 3 → Nat :=
  let c2_i32_2642 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t1
  let c1_i32_2484 : BitVec 32 := 1#32
  let v6279 : BitVec 32 := Scalar.muli arg22 c1_i32_2484
  let v6280 : BitVec 32 := Scalar.addi c0_i32_2485 v6279
  let v6577 : BitVec 32 := Scalar.muli c2_i32_2642 v6280
  let c1_i32_2643 : BitVec 32 := 1#32
  let v6578 : BitVec 32 := Scalar.addi v6577 c1_i32_2643
  let v6579 : Index := Scalar.indexCast v6578
  let c0_2644 : Index := 0#32
  let c0_2645 : Index := 0#32
  ![v6579.toNat, 0, 0]
def k0_cond2 (i : grid0.Coords) : BitVec 1 :=
  let arg1 : BitVec 32 := BitVec.ofNat 32 (i 1).val
  let c1_i32_177 : BitVec 32 := 1#32
  let v487 : BitVec 1 := Scalar.cmpi .eq arg1 c1_i32_177
  let v488 : BitVec 32 := Scalar.extui v487
  let c0_i32_178 : BitVec 32 := 0#32
  let v489 : BitVec 1 := Scalar.cmpi .ne v488 c0_i32_178
  v489

@[reducible] def k0_t2_loop : Scf.Loop 32 :=
  let c0_i32_2480 : BitVec 32 := 0#32
  let c8_i32_2481 : BitVec 32 := 8#32
  let v6278 : BitVec 32 := Scalar.addi c0_i32_2480 c8_i32_2481
  let c1_i32_2482 : BitVec 32 := 1#32
  ⟨c0_i32_2480, v6278, c1_i32_2482⟩
def k0_off9 (k0_t2 : Fin k0_t2_loop.trips) : Fin 3 → Nat :=
  let c2_i32_2486 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t2
  let c1_i32_2484 : BitVec 32 := 1#32
  let v6279 : BitVec 32 := Scalar.muli arg22 c1_i32_2484
  let v6280 : BitVec 32 := Scalar.addi c0_i32_2485 v6279
  let v6281 : BitVec 32 := Scalar.muli c2_i32_2486 v6280
  let v6282 : Index := Scalar.indexCast v6281
  let c0_2487 : Index := 0#32
  let c0_2488 : Index := 0#32
  ![v6282.toNat, 0, 0]
def k0_off10 (k0_t2 : Fin k0_t2_loop.trips) : Fin 3 → Nat :=
  let c2_i32_2785 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t2
  let c1_i32_2484 : BitVec 32 := 1#32
  let v6279 : BitVec 32 := Scalar.muli arg22 c1_i32_2484
  let v6280 : BitVec 32 := Scalar.addi c0_i32_2485 v6279
  let v6857 : BitVec 32 := Scalar.muli c2_i32_2785 v6280
  let c1_i32_2786 : BitVec 32 := 1#32
  let v6858 : BitVec 32 := Scalar.addi v6857 c1_i32_2786
  let v6859 : Index := Scalar.indexCast v6858
  let c0_2787 : Index := 0#32
  let c0_2788 : Index := 0#32
  ![v6859.toNat, 0, 0]
def k0_cond3 (i : grid0.Coords) : BitVec 1 :=
  let arg1 : BitVec 32 := BitVec.ofNat 32 (i 1).val
  let c2_i32_179 : BitVec 32 := 2#32
  let v490 : BitVec 1 := Scalar.cmpi .eq arg1 c2_i32_179
  let v491 : BitVec 32 := Scalar.extui v490
  let c0_i32_180 : BitVec 32 := 0#32
  let v492 : BitVec 1 := Scalar.cmpi .ne v491 c0_i32_180
  v492

@[reducible] def k0_t3_loop : Scf.Loop 32 :=
  let c0_i32_2480 : BitVec 32 := 0#32
  let c8_i32_2481 : BitVec 32 := 8#32
  let v6278 : BitVec 32 := Scalar.addi c0_i32_2480 c8_i32_2481
  let c1_i32_2482 : BitVec 32 := 1#32
  ⟨c0_i32_2480, v6278, c1_i32_2482⟩
def k0_off11 (k0_t3 : Fin k0_t3_loop.trips) : Fin 3 → Nat :=
  let c2_i32_2486 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t3
  let c1_i32_2484 : BitVec 32 := 1#32
  let v6279 : BitVec 32 := Scalar.muli arg22 c1_i32_2484
  let v6280 : BitVec 32 := Scalar.addi c0_i32_2485 v6279
  let v6281 : BitVec 32 := Scalar.muli c2_i32_2486 v6280
  let v6282 : Index := Scalar.indexCast v6281
  let c0_2487 : Index := 0#32
  let c0_2488 : Index := 0#32
  ![v6282.toNat, 0, 0]
def k0_off12 (k0_t3 : Fin k0_t3_loop.trips) : Fin 3 → Nat :=
  let c2_i32_2928 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t3
  let c1_i32_2484 : BitVec 32 := 1#32
  let v6279 : BitVec 32 := Scalar.muli arg22 c1_i32_2484
  let v6280 : BitVec 32 := Scalar.addi c0_i32_2485 v6279
  let v7137 : BitVec 32 := Scalar.muli c2_i32_2928 v6280
  let c1_i32_2929 : BitVec 32 := 1#32
  let v7138 : BitVec 32 := Scalar.addi v7137 c1_i32_2929
  let v7139 : Index := Scalar.indexCast v7138
  let c0_2930 : Index := 0#32
  let c0_2931 : Index := 0#32
  ![v7139.toNat, 0, 0]
def k0_cond4 (i : grid0.Coords) : BitVec 1 :=
  let arg1 : BitVec 32 := BitVec.ofNat 32 (i 1).val
  let c3_i32 : BitVec 32 := 3#32
  let v493 : BitVec 1 := Scalar.cmpi .eq arg1 c3_i32
  let v494 : BitVec 32 := Scalar.extui v493
  let c0_i32_181 : BitVec 32 := 0#32
  let v495 : BitVec 1 := Scalar.cmpi .ne v494 c0_i32_181
  v495

@[reducible] def k0_t4_loop : Scf.Loop 32 :=
  let c0_i32_2480 : BitVec 32 := 0#32
  let c8_i32_2481 : BitVec 32 := 8#32
  let v6278 : BitVec 32 := Scalar.addi c0_i32_2480 c8_i32_2481
  let c1_i32_2482 : BitVec 32 := 1#32
  ⟨c0_i32_2480, v6278, c1_i32_2482⟩
def k0_off13 (k0_t4 : Fin k0_t4_loop.trips) : Fin 3 → Nat :=
  let c2_i32_2486 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t4
  let c1_i32_2484 : BitVec 32 := 1#32
  let v6279 : BitVec 32 := Scalar.muli arg22 c1_i32_2484
  let v6280 : BitVec 32 := Scalar.addi c0_i32_2485 v6279
  let v6281 : BitVec 32 := Scalar.muli c2_i32_2486 v6280
  let v6282 : Index := Scalar.indexCast v6281
  let c0_2487 : Index := 0#32
  let c0_2488 : Index := 0#32
  ![v6282.toNat, 0, 0]
def k0_off14 (k0_t4 : Fin k0_t4_loop.trips) : Fin 3 → Nat :=
  let c2_i32_3072 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t4
  let c1_i32_2484 : BitVec 32 := 1#32
  let v6279 : BitVec 32 := Scalar.muli arg22 c1_i32_2484
  let v6280 : BitVec 32 := Scalar.addi c0_i32_2485 v6279
  let v7417 : BitVec 32 := Scalar.muli c2_i32_3072 v6280
  let c1_i32_3073 : BitVec 32 := 1#32
  let v7418 : BitVec 32 := Scalar.addi v7417 c1_i32_3073
  let v7419 : Index := Scalar.indexCast v7418
  let c0_3074 : Index := 0#32
  let c0_3075 : Index := 0#32
  ![v7419.toNat, 0, 0]
def k0_cond5 (i : grid0.Coords) : BitVec 1 :=
  let arg1 : BitVec 32 := BitVec.ofNat 32 (i 1).val
  let c4_i32 : BitVec 32 := 4#32
  let v496 : BitVec 1 := Scalar.cmpi .eq arg1 c4_i32
  let v497 : BitVec 32 := Scalar.extui v496
  let c0_i32_182 : BitVec 32 := 0#32
  let v498 : BitVec 1 := Scalar.cmpi .ne v497 c0_i32_182
  v498

@[reducible] def k0_t5_loop : Scf.Loop 32 :=
  let c0_i32_2480 : BitVec 32 := 0#32
  let c8_i32_2481 : BitVec 32 := 8#32
  let v6278 : BitVec 32 := Scalar.addi c0_i32_2480 c8_i32_2481
  let c1_i32_2482 : BitVec 32 := 1#32
  ⟨c0_i32_2480, v6278, c1_i32_2482⟩
def k0_off15 (k0_t5 : Fin k0_t5_loop.trips) : Fin 3 → Nat :=
  let c2_i32_2486 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t5
  let c1_i32_2484 : BitVec 32 := 1#32
  let v6279 : BitVec 32 := Scalar.muli arg22 c1_i32_2484
  let v6280 : BitVec 32 := Scalar.addi c0_i32_2485 v6279
  let v6281 : BitVec 32 := Scalar.muli c2_i32_2486 v6280
  let v6282 : Index := Scalar.indexCast v6281
  let c0_2487 : Index := 0#32
  let c0_2488 : Index := 0#32
  ![v6282.toNat, 0, 0]
def k0_off16 (k0_t5 : Fin k0_t5_loop.trips) : Fin 3 → Nat :=
  let c2_i32_3216 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t5
  let c1_i32_2484 : BitVec 32 := 1#32
  let v6279 : BitVec 32 := Scalar.muli arg22 c1_i32_2484
  let v6280 : BitVec 32 := Scalar.addi c0_i32_2485 v6279
  let v7697 : BitVec 32 := Scalar.muli c2_i32_3216 v6280
  let c1_i32_3217 : BitVec 32 := 1#32
  let v7698 : BitVec 32 := Scalar.addi v7697 c1_i32_3217
  let v7699 : Index := Scalar.indexCast v7698
  let c0_3218 : Index := 0#32
  let c0_3219 : Index := 0#32
  ![v7699.toNat, 0, 0]
def k0_cond6 (i : grid0.Coords) : BitVec 1 :=
  let arg1 : BitVec 32 := BitVec.ofNat 32 (i 1).val
  let c5_i32 : BitVec 32 := 5#32
  let v499 : BitVec 1 := Scalar.cmpi .eq arg1 c5_i32
  let v500 : BitVec 32 := Scalar.extui v499
  let c0_i32_183 : BitVec 32 := 0#32
  let v501 : BitVec 1 := Scalar.cmpi .ne v500 c0_i32_183
  v501

@[reducible] def k0_t6_loop : Scf.Loop 32 :=
  let c0_i32_2480 : BitVec 32 := 0#32
  let c8_i32_2481 : BitVec 32 := 8#32
  let v6278 : BitVec 32 := Scalar.addi c0_i32_2480 c8_i32_2481
  let c1_i32_2482 : BitVec 32 := 1#32
  ⟨c0_i32_2480, v6278, c1_i32_2482⟩
def k0_off17 (k0_t6 : Fin k0_t6_loop.trips) : Fin 3 → Nat :=
  let c2_i32_2486 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t6
  let c1_i32_2484 : BitVec 32 := 1#32
  let v6279 : BitVec 32 := Scalar.muli arg22 c1_i32_2484
  let v6280 : BitVec 32 := Scalar.addi c0_i32_2485 v6279
  let v6281 : BitVec 32 := Scalar.muli c2_i32_2486 v6280
  let v6282 : Index := Scalar.indexCast v6281
  let c0_2487 : Index := 0#32
  let c0_2488 : Index := 0#32
  ![v6282.toNat, 0, 0]
def k0_off18 (k0_t6 : Fin k0_t6_loop.trips) : Fin 3 → Nat :=
  let c2_i32_3360 : BitVec 32 := 2#32
  let c0_i32_2485 : BitVec 32 := 0#32
  let c0_i32_2480 : BitVec 32 := 0#32
  let c1_i32_2482 : BitVec 32 := 1#32
  let arg22 : BitVec 32 := Scf.iv c0_i32_2480 c1_i32_2482 k0_t6
  let c1_i32_2484 : BitVec 32 := 1#32
  let v6279 : BitVec 32 := Scalar.muli arg22 c1_i32_2484
  let v6280 : BitVec 32 := Scalar.addi c0_i32_2485 v6279
  let v7977 : BitVec 32 := Scalar.muli c2_i32_3360 v6280
  let c1_i32_3361 : BitVec 32 := 1#32
  let v7978 : BitVec 32 := Scalar.addi v7977 c1_i32_3361
  let v7979 : Index := Scalar.indexCast v7978
  let c0_3362 : Index := 0#32
  let c0_3363 : Index := 0#32
  ![v7979.toNat, 0, 0]
def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x64 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x64 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnReferenceIdeal.lean ====
abbrev S3072x2304 : Shape := ⟨2, ![3072, 2304]⟩
abbrev S2304 : Shape := ⟨1, ![2304]⟩
abbrev S3072x64 : Shape := ⟨2, ![3072, 64]⟩
abbrev S1x2304 : Shape := ⟨2, ![1, 2304]⟩
abbrev S3072x128 : Shape := ⟨2, ![3072, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S3072 : Shape := ⟨1, ![3072]⟩
abbrev S3072x1 : Shape := ⟨2, ![3072, 1]⟩
abbrev S2x8x1536 : Shape := ⟨3, ![2, 8, 1536]⟩
abbrev S2x1536 : Shape := ⟨2, ![2, 1536]⟩
abbrev S2x1x1536 : Shape := ⟨3, ![2, 1, 1536]⟩

abbrev nBuf : Space → Nat
  | .hbm => 148
  | .vmem => 0
  | .smem => 0
  | _ => 0

abbrev hbmTy0_0 (i : Nat) : BufTy := match i % 128 with
  | 0 => ⟨S3072x2304, .f32⟩
  | 1 => ⟨S2304, .f32⟩
  | 2 => ⟨S3072x64, .f32⟩
  | 3 => ⟨S3072x64, .f32⟩
  | 4 => ⟨S1x2304, .f32⟩
  | 5 => ⟨S3072x2304, .f32⟩
  | 6 => ⟨S3072x2304, .f32⟩
  | 7 => ⟨S3072x128, .f32⟩
  | 8 => ⟨S3072x64, .f32⟩
  | 9 => ⟨S3072x64, .f32⟩
  | 10 => ⟨S3072x64, .f32⟩
  | 11 => ⟨S3072x64, .f32⟩
  | 12 => ⟨S3072x64, .f32⟩
  | 13 => ⟨S3072x64, .f32⟩
  | 14 => ⟨S3072x64, .f32⟩
  | 15 => ⟨S3072x64, .f32⟩
  | 16 => ⟨S3072x128, .f32⟩
  | 17 => ⟨S128, .i32⟩
  | 18 => ⟨S128x1, .i32⟩
  | 19 => ⟨S1x128, .i32⟩
  | 20 => ⟨S128x128, .i32⟩
  | 21 => ⟨S128x128, .i32⟩
  | 22 => ⟨S128x128, .i32⟩
  | 23 => ⟨S128x128, .i32⟩
  | 24 => ⟨S_, .i32⟩
  | 25 => ⟨S128x128, .i32⟩
  | 26 => ⟨S128x128, .i32⟩
  | 27 => ⟨S_, .i32⟩
  | 28 => ⟨S128x128, .i32⟩
  | 29 => ⟨S128x128, .i32⟩
  | 30 => ⟨S_, .i32⟩
  | 31 => ⟨S128x128, .i32⟩
  | 32 => ⟨S128x128, .i32⟩
  | 33 => ⟨S128x128, .f32⟩
  | 34 => ⟨S3072x128, .f32⟩
  | 35 => ⟨S_, .f32⟩
  | 36 => ⟨S3072x128, .f32⟩
  | 37 => ⟨S3072x128, .f32⟩
  | 38 => ⟨S3072x128, .f32⟩
  | 39 => ⟨S_, .f32⟩
  | 40 => ⟨S3072, .f32⟩
  | 41 => ⟨S_, .f32⟩
  | 42 => ⟨S3072, .f32⟩
  | 43 => ⟨S3072, .f32⟩
  | 44 => ⟨S_, .f32⟩
  | 45 => ⟨S3072, .f32⟩
  | 46 => ⟨S_, .f32⟩
  | 47 => ⟨S3072, .f32⟩
  | 48 => ⟨S3072, .f32⟩
  | 49 => ⟨S3072, .i1⟩
  | 50 => ⟨S3072, .f32⟩
  | 51 => ⟨S_, .f32⟩
  | 52 => ⟨S3072, .f32⟩
  | 53 => ⟨S3072, .f32⟩
  | 54 => ⟨S_, .f32⟩
  | 55 => ⟨S_, .f32⟩
  | 56 => ⟨S3072, .f32⟩
  | 57 => ⟨S3072, .f32⟩
  | 58 => ⟨S3072x1, .f32⟩
  | 59 => ⟨S3072x128, .f32⟩
  | 60 => ⟨S3072x128, .f32⟩
  | 61 => ⟨S3072x1, .f32⟩
  | 62 => ⟨S3072x128, .f32⟩
  | 63 => ⟨S3072x128, .f32⟩
  | 64 => ⟨S3072x128, .f32⟩
  | 65 => ⟨S_, .i32⟩
  | 66 => ⟨S_, .i32⟩
  | 67 => ⟨S_, .f32⟩
  | 68 => ⟨S3072x128, .f32⟩
  | 69 => ⟨S3072x128, .f32⟩
  | 70 => ⟨S_, .f32⟩
  | 71 => ⟨S3072x128, .f32⟩
  | 72 => ⟨S3072x128, .f32⟩
  | 73 => ⟨S3072x128, .i32⟩
  | 74 => ⟨S3072x64, .i32⟩
  | 75 => ⟨S3072x64, .i32⟩
  | 76 => ⟨S_, .i32⟩
  | 77 => ⟨S3072x64, .i32⟩
  | 78 => ⟨S3072x64, .i32⟩
  | 79 => ⟨S3072x64, .i32⟩
  | 80 => ⟨S3072x64, .i8⟩
  | 81 => ⟨S_, .f32⟩
  | 82 => ⟨S3072, .f32⟩
  | 83 => ⟨S_, .f32⟩
  | 84 => ⟨S3072, .f32⟩
  | 85 => ⟨S3072, .f32⟩
  | 86 => ⟨S_, .f32⟩
  | 87 => ⟨S3072, .f32⟩
  | 88 => ⟨S_, .f32⟩
  | 89 => ⟨S3072, .f32⟩
  | 90 => ⟨S3072, .f32⟩
  | 91 => ⟨S3072, .i1⟩
  | 92 => ⟨S3072, .f32⟩
  | 93 => ⟨S_, .f32⟩
  | 94 => ⟨S3072, .f32⟩
  | 95 => ⟨S3072, .f32⟩
  | 96 => ⟨S_, .f32⟩
  | 97 => ⟨S_, .f32⟩
  | 98 => ⟨S3072, .f32⟩
  | 99 => ⟨S3072, .f32⟩
  | 100 => ⟨S3072x1, .f32⟩
  | 101 => ⟨S3072x128, .f32⟩
  | 102 => ⟨S3072x128, .f32⟩
  | 103 => ⟨S3072x1, .f32⟩
  | 104 => ⟨S3072x128, .f32⟩
  | 105 => ⟨S3072x128, .f32⟩
  | 106 => ⟨S3072x128, .f32⟩
  | 107 => ⟨S_, .i32⟩
  | 108 => ⟨S_, .i32⟩
  | 109 => ⟨S_, .f32⟩
  | 110 => ⟨S3072x128, .f32⟩
  | 111 => ⟨S3072x128, .f32⟩
  | 112 => ⟨S_, .f32⟩
  | 113 => ⟨S3072x128, .f32⟩
  | 114 => ⟨S3072x128, .f32⟩
  | 115 => ⟨S3072x128, .i32⟩
  | 116 => ⟨S3072x64, .i32⟩
  | 117 => ⟨S3072x64, .i32⟩
  | 118 => ⟨S_, .i32⟩
  | 119 => ⟨S3072x64, .i32⟩
  | 120 => ⟨S3072x64, .i32⟩
  | 121 => ⟨S3072x64, .i32⟩
  | 122 => ⟨S3072x64, .i8⟩
  | 123 => ⟨S2x8x1536, .i32⟩
  | 124 => ⟨S2x1536, .f32⟩
  | 125 => ⟨S2x1x1536, .f32⟩
  | 126 => ⟨S2x1536, .f32⟩
  | 127 => ⟨S2x1x1536, .f32⟩
  | _ => ⟨S3072x2304, .f32⟩

abbrev hbmTy0_1 (i : Nat) : BufTy := match i % 128 with
  | 0 => ⟨S2x1536, .f32⟩
  | 1 => ⟨S2x1x1536, .f32⟩
  | 2 => ⟨S2x1536, .f32⟩
  | 3 => ⟨S2x1x1536, .f32⟩
  | 4 => ⟨S_, .i32⟩
  | 5 => ⟨S2x8x1536, .i32⟩
  | 6 => ⟨S2x8x1536, .i1⟩
  | 7 => ⟨S_, .i32⟩
  | 8 => ⟨S2x8x1536, .i32⟩
  | 9 => ⟨S2x8x1536, .i1⟩
  | 10 => ⟨S_, .i32⟩
  | 11 => ⟨S2x8x1536, .i32⟩
  | 12 => ⟨S2x8x1536, .i1⟩
  | 13 => ⟨S2x8x1536, .f32⟩
  | 14 => ⟨S2x8x1536, .f32⟩
  | 15 => ⟨S2x8x1536, .f32⟩
  | 16 => ⟨S2x8x1536, .f32⟩
  | 17 => ⟨S2x8x1536, .f32⟩
  | 18 => ⟨S2x8x1536, .f32⟩
  | 19 => ⟨S2x8x1536, .f32⟩
  | _ => ⟨S3072x2304, .f32⟩

abbrev hbmTy (i : Nat) : BufTy := match i / 128 with
  | 0 => hbmTy0_0 i
  | 1 => hbmTy0_1 i
  | _ => ⟨S3072x2304, .f32⟩

abbrev bufTy : (tb : Table) → Fin (tcTables nBuf tb) → BufTy
  | .hbm, ⟨i, _⟩ => hbmTy i
  | _, _ => ⟨S3072x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_c_9 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_call3_v0 : Ref sig .tc := ⟨.hbm, 97, rfl⟩
abbrev main_call3_v1 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_c_18 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_19 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_c_21 : Ref sig .tc := ⟨.hbm, 135, rfl⟩
abbrev main_v94 : Ref sig .tc := ⟨.hbm, 136, rfl⟩
abbrev main_v95 : Ref sig .tc := ⟨.hbm, 137, rfl⟩
abbrev main_c_22 : Ref sig .tc := ⟨.hbm, 138, rfl⟩
abbrev main_v96 : Ref sig .tc := ⟨.hbm, 139, rfl⟩
abbrev main_v97 : Ref sig .tc := ⟨.hbm, 140, rfl⟩
abbrev main_call6_v0 : Ref sig .tc := ⟨.hbm, 141, rfl⟩
abbrev main_call6_v1 : Ref sig .tc := ⟨.hbm, 142, rfl⟩
abbrev main_v98 : Ref sig .tc := ⟨.hbm, 143, rfl⟩
abbrev main_call7_v0 : Ref sig .tc := ⟨.hbm, 144, rfl⟩
abbrev main_v99 : Ref sig .tc := ⟨.hbm, 145, rfl⟩
abbrev main_call8_v0 : Ref sig .tc := ⟨.hbm, 146, rfl⟩
abbrev main_v100 : Ref sig .tc := ⟨.hbm, 147, rfl⟩

abbrev nD : Nat := 1
abbrev τ : Topo := Topo.v7x

variable {F : FTy → Type} [FloatOps F]
-- ==== Proof.Nibbles.lean ====
/- Two 4-bit signed weights in one byte: the value of each, and a contraction over interleaved weights. -/
module

public import Idealize.ShloMosaic.Lib.Pointwise

@[expose] public section

set_option maxRecDepth 16384

noncomputable section

open Idealize.ShloMosaic

namespace Cert.Nibbles

/-- The weight in the low four bits of a byte, as a signed number. -/
def lo (b : BitVec 8) : EReal := FloatOps.sitofp (F := Ideal) .bf16 ((b.extractLsb' 0 4).signExtend 32)

/-- The weight in the high four bits of a byte, as a signed number. -/
def hi (b : BitVec 8) : EReal := FloatOps.sitofp (F := Ideal) .bf16 ((b.extractLsb' 4 4).signExtend 32)

/-- Shifting the low nibble up to the sign and back down sign-extends it. -/
theorem lo_shift : ∀ b : BitVec 8,
    IntOp.shrsi .vector (IntOp.shli .vector (BitVec.setWidth 32 b) 28#32) 28#32 = (b.extractLsb' 0 4).signExtend 32 := by
  decide +kernel

/-- Shifting the high nibble up to the sign and back down sign-extends it. -/
theorem hi_shift : ∀ b : BitVec 8,
    IntOp.shrsi .vector (IntOp.shli .vector (BitVec.setWidth 32 b) 24#32) 28#32 = (b.extractLsb' 4 4).signExtend 32 := by
  decide +kernel

/-- Masking the low nibble and taking 16 off from 8 on sign-extends it. -/
theorem lo_select : ∀ b : BitVec 8,
    Scalar.select (IntOp.cmpi CmpIPredicate.sge (IntOp.andi (BitVec.setWidth 32 b) 15#32) 8#32)
      (IntOp.subi (IntOp.andi (BitVec.setWidth 32 b) 15#32) 16#32)
      (IntOp.andi (BitVec.setWidth 32 b) 15#32) = (b.extractLsb' 0 4).signExtend 32 := by
  decide +kernel

/-- Shifting the high nibble down and taking 16 off from 8 on sign-extends it. -/
theorem hi_select : ∀ b : BitVec 8,
    Scalar.select (IntOp.cmpi CmpIPredicate.sge (IntOp.shrsi .host (BitVec.setWidth 32 b) 4#32) 8#32)
      (IntOp.subi (IntOp.shrsi .host (BitVec.setWidth 32 b) 4#32) 16#32)
      (IntOp.shrsi .host (BitVec.setWidth 32 b) 4#32) = (b.extractLsb' 4 4).signExtend 32 := by
  decide +kernel

/-- A sum over `2 N` indices is the sum over the even ones plus the sum over the odd ones. -/
theorem sum_even_odd (N M : ℕ) (h : N * 2 = M) (f : Fin M → EReal) :
    ∑ k, f k = (∑ j : Fin N, f ⟨2 * j.val, by omega⟩) + ∑ j : Fin N, f ⟨1 + 2 * j.val, by omega⟩ := by
  subst h
  rw [Fin.sum_univ_tiles N 2 rfl f, ← Finset.sum_add_distrib]
  refine Finset.sum_congr rfl fun j _ => ?_
  rw [Fin.sum_univ_two]
  congr 2
  · apply Fin.ext; show j.val * 2 + 0 = 2 * j.val; omega
  · apply Fin.ext; show j.val * 2 + 1 = 1 + 2 * j.val; omega

end Cert.Nibbles
end
-- ==== Proof.Oproj.Block.lean ====
/- What one grid step of the output projection computes, read at one entry. -/
module

public import proofs.«01_k».proof.Proof.Gen.OprojKernelIdeal.Skeleton
public import proofs.«01_k».proof.Proof.Nibbles
public import Idealize.ShloMosaic.Lib.Pointwise

@[expose] public section

set_option maxRecDepth 16384

noncomputable section

open Idealize.ShloMosaic Idealize.ShloMosaic.TcCoe Idealize.SL.Sem

namespace Cert.OprojKernelIdeal.Value
open Cert.OprojKernelIdeal Cert.OprojKernelIdeal.Gen

/-- The widened weights: an even row holds the low nibbles of a row of bytes. -/
theorem pay3_even (W : IVec S1024x512 8) (k : Fin 1024) (n : Fin 512) :
    k0_pay3 (F := Ideal) W (ix2 ⟨2 * k.val, by omega⟩ n) = Nibbles.lo (W (ix2 k n)) := by
  have h1 : 2 * k.val % 2 < 1 := by omega
  have h2 : 2 * k.val / 2 = k.val := by omega
  pointwise [k0_pay3]
  simp only [h1, h2, dite_true, Nibbles.lo_shift, Nibbles.lo]

/-- The widened weights: an odd row holds the high nibbles of a row of bytes. -/
theorem pay3_odd (W : IVec S1024x512 8) (k : Fin 1024) (n : Fin 512) :
    k0_pay3 (F := Ideal) W (ix2 ⟨1 + 2 * k.val, by omega⟩ n) = Nibbles.hi (W (ix2 k n)) := by
  have h1 : ¬ (1 + 2 * k.val) % 2 < 1 := by omega
  have h2 : (1 + 2 * k.val) / 2 = k.val := by omega
  pointwise [k0_pay3]
  simp only [h1, h2, dite_false, Nibbles.hi_shift, Nibbles.hi]

/-- A row's contraction with the widened weights: even channels against low nibbles, odd ones against high. -/
theorem dot_pay3 (W : IVec S1024x512 8) (n : Fin 512) (f : Fin 2048 → EReal) :
    ∑ k : Fin 2048, f k * k0_pay3 (F := Ideal) W (ix2 k n)
      = (∑ k : Fin 1024, f ⟨2 * k.val, by omega⟩ * Nibbles.lo (W (ix2 k n)))
        + ∑ k : Fin 1024, f ⟨1 + 2 * k.val, by omega⟩ * Nibbles.hi (W (ix2 k n)) := by
  rw [Nibbles.sum_even_odd 1024 2048 rfl]
  simp only [pay3_even, pay3_odd]

end Cert.OprojKernelIdeal.Value
end
-- ==== Proof.Oproj.Reference.lean ====
/- What the reference of the output projection computes, read at one entry. -/
module

public import proofs.«01_k».proof.Proof.Gen.OprojReferenceIdeal.Run
public import proofs.«01_k».proof.Proof.Nibbles
public import Idealize.ShloMosaic.Lib.Pointwise

@[expose] public section

set_option maxRecDepth 16384

noncomputable section

open Idealize.ShloMosaic Idealize.ShloMosaic.TcCoe Idealize.SL.Sem

namespace Cert.OprojReferenceIdeal.Value
open Cert.OprojReferenceIdeal Cert.OprojReferenceIdeal.Gen

/-- The reference's result as a term over its four arguments: the activations `V`, the packed weights `W`,
    the weight scales `C` and the residual `X`. -/
def REF (V : FVec Ideal S3072x2048 .bf16) (W : IVec S1024x16384 8) (C : FVec Ideal S16384 .f32)
    (X : FVec Ideal S3072x16384 .bf16) : FVec Ideal S3072x16384 .bf16 :=
  truncf .bf16 (addf (extf .f32 X bitsLt_bf16_f32) (mulf (addf (Host.dotGeneral dot_S3072x1024_S1024x16384_S3072x16384_1_0_0_1_n_n none (Host.slice S3072x1024 ![0, 0] ![1, 2] V slicesBy_S3072x2048_S3072x1024_0s1_0s2) (sitofp .bf16 (select (cmpi .sge (andi (extui 32 W natLt_8_32) (broadcastInDim S1024x16384 ![] bcast_S_S1024x16384 (constantI S_ 32 15#32))) (broadcastInDim S1024x16384 ![] bcast_S_S1024x16384 (constantI S_ 32 8#32))) (subi (andi (extui 32 W natLt_8_32) (broadcastInDim S1024x16384 ![] bcast_S_S1024x16384 (constantI S_ 32 15#32))) (broadcastInDim S1024x16384 ![] bcast_S_S1024x16384 (constantI S_ 32 16#32))) (andi (extui 32 W natLt_8_32) (broadcastInDim S1024x16384 ![] bcast_S_S1024x16384 (constantI S_ 32 15#32)))))) (Host.dotGeneral dot_S3072x1024_S1024x16384_S3072x16384_1_0_0_1_n_n none (Host.slice S3072x1024 ![0, 1] ![1, 2] V slicesBy_S3072x2048_S3072x1024_0s1_1s2) (sitofp .bf16 (select (cmpi .sge (Host.shrsi (extui 32 W natLt_8_32) (broadcastInDim S1024x16384 ![] bcast_S_S1024x16384 (constantI S_ 32 4#32))) (broadcastInDim S1024x16384 ![] bcast_S_S1024x16384 (constantI S_ 32 8#32))) (subi (Host.shrsi (extui 32 W natLt_8_32) (broadcastInDim S1024x16384 ![] bcast_S_S1024x16384 (constantI S_ 32 4#32))) (broadcastInDim S1024x16384 ![] bcast_S_S1024x16384 (constantI S_ 32 16#32))) (Host.shrsi (extui 32 W natLt_8_32) (broadcastInDim S1024x16384 ![] bcast_S_S1024x16384 (constantI S_ 32 4#32))))))) (broadcastInDim S3072x16384 ![0, 1] bcast_S1x16384_S3072x16384_0_1 (broadcastInDim S1x16384 ![1] bcast_S16384_S1x16384_1 C)))) bitsLt_bf16_f32

/-- One entry of the reference's result: the residual plus the weight's scale times the row's contraction with
    the column, low nibbles against even channels and high nibbles against odd ones. -/
theorem REF_at (V : FVec Ideal S3072x2048 .bf16) (W : IVec S1024x16384 8) (C : FVec Ideal S16384 .f32)
    (X : FVec Ideal S3072x16384 .bf16) (r : Fin 3072) (n : Fin 16384) :
    REF V W C X (ix2 r n) = X (ix2 r n)
      + ((∑ k : Fin 1024, V (ix2 r ⟨2 * k.val, by omega⟩) * Nibbles.lo (W (ix2 k n)))
        + ∑ k : Fin 1024, V (ix2 r ⟨1 + 2 * k.val, by omega⟩) * Nibbles.hi (W (ix2 k n))) * C (ix1 n) := by
  pointwise [REF]
  simp only [Nibbles.lo_select, Nibbles.hi_select, Nibbles.lo, Nibbles.hi]

end Cert.OprojReferenceIdeal.Value
end
-- ==== Proof.Oproj.Final.lean ====
/- The result array of the output projection after the run. -/
module

public import proofs.«01_k».proof.Proof.Gen.OprojKernelIdeal.Frame
public import Idealize.ShloMosaic.Lib.Pipeline.ValueKit
public import proofs.«01_k».proof.Proof.Oproj.Block
public import proofs.«01_k».proof.Proof.Oproj.Reference
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OprojKernelIdeal.Value
open Cert.OprojKernelIdeal Cert.OprojKernelIdeal.Gen
variable (m : (ℓ : Loc nD τ sig) → Buf (Elt Ideal) ℓ)

/-- Which block of each array a grid step sees: all activations, and column block `t` of the others. -/
theorem idx : ∀ t : Fin cfg0.N, win0_0.index t = ![0, 0] ∧ win0_1.index t = ![0, t.val] ∧ win0_2.index t = ![0, t.val] ∧ win0_3.index t = ![0, t.val] ∧ win0_4.index t = ![0, t.val] :=
  (by decide +kernel : ∀ t : Fin grid0.N, _)

/-- One entry of what step `t` computes is the reference's entry in column block `t`. -/
theorem core (c : Dev nD) (t : Fin cfg0.N) (r : Fin 3072) (n : Fin 512) (j : S3072x16384.Idx)
    (hj0 : (j 0 : ℕ) = r) (hj1 : (j 1 : ℕ) = t.val * 512 + n) :
    (show FVec Ideal S3072x512 .bf16 from iblk m c 3 t) (ix2 r n) + (∑ k : Fin 2048, (show FVec Ideal S3072x2048 .bf16 from iblk m c 0 t) (ix2 r k) * k0_pay3 (F := Ideal) (iblk m c 1 t) (ix2 k n))
        * (show FVec Ideal S1x512 .f32 from iblk m c 2 t) (ix2 0 n)
      = Cert.OprojReferenceIdeal.Value.REF (m ((c : Thread nD τ).loc main_arg0)) (m ((c : Thread nD τ).loc main_arg1))
          (m ((c : Thread nD τ).loc main_arg2)) (m ((c : Thread nD τ).loc main_arg3)) j := by
  have ht : t.val < 32 := lt_of_lt_of_eq t.isLt N_0
  have hb : t.val * 512 + n.val < 16384 := by omega
  obtain rfl : j = ix2 r ⟨t.val * 512 + n.val, hb⟩ := by
    funext a; apply Fin.ext
    match a with
    | ⟨0, _⟩ => exact hj0
    | ⟨1, _⟩ => exact hj1
  rw [Cert.OprojReferenceIdeal.Value.REF_at, dot_pay3]
  blk_point [iblk, V, idx t]

/-- After the run the result array is the reference's term over the kernel's arguments. -/
theorem final (c : Dev nD) : (dats m 0 c).arrAt 4 (cfgs 0).N
    = Cert.OprojReferenceIdeal.Value.REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; unfold outsAt0
  frame_out
  obtain_idx i : S3072x512 := [(y 0 : ℕ), (y 1 : ℕ)] with hi
  refine Eq.trans (b := (show FVec Ideal S3072x512 .bf16 from iblk m c 3 t) (ix2 (i 0) (i 1)) + (∑ k : Fin 2048, (show FVec Ideal S3072x2048 .bf16 from iblk m c 0 t) (ix2 (i 0) k) * k0_pay3 (F := Ideal) (iblk m c 1 t) (ix2 k (i 1)))
        * (show FVec Ideal S1x512 .f32 from iblk m c 2 t) (ix2 0 (i 1))) ?_ (core m c t _ _ _ ?_ ?_)
  · canon_tiles x h
    all_goals (open_payloads; pointwise; blk_point)
  all_goals (blk_simp [idx t] <;> try omega)

end Cert.OprojKernelIdeal.Value
end
-- ==== Proof.Proj.Progs.lean ====
/- The four programs the body of the projection kernel runs: the first points without a product, the two parities with one, and the
   step that turns the statistics of a block of rows into its scales. -/
module

public import proofs.«01_k».proof.Proof.Gen.ProjKernelIdeal.Frame
public import proofs.«01_k».proof.Proof.Gen.ProjKernelIdeal.Skeleton

@[expose] public section

set_option maxRecDepth 16384

noncomputable section

namespace Cert.ProjKernelIdeal.Own

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chunk whose statistics point `i` collects. -/
def kStat (i : grid0.Coords) : BitVec 32 := Scalar.remsi (BitVec.ofNat 32 (i 0).val) 8#32

/-- The chunk that point `i` quantises. -/
def kQuant (i : grid0.Coords) : BitVec 32 :=
  Scalar.remsi (Scalar.minsi 47#32 (Scalar.maxsi 0#32 (Scalar.subi (BitVec.ofNat 32 (i 0).val) 8#32))) 8#32

/-- The chunk that point `i` multiplies. -/
def kDot (i : grid0.Coords) : BitVec 32 :=
  Scalar.remsi (Scalar.maxsi (Scalar.subi (Scalar.subi (BitVec.ofNat 32 (i 0).val) 8#32) 1#32) 0#32) 8#32

/-- The body at the points that only collect statistics and quantise (the first nine). -/
noncomputable def progFirst (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (v0 v4 : BitVec 32) :
    Prog (TpuEff nD τ sig (Elt F) Λ₀ .tc) PUnit := do
  let ⟨v2228, v2410, v2414, v2417⟩ : Σ' (v2228 : IVec S128x128 32) (v2410 : FVec F S128x128 .f32) (v2414 : FVec F S128x128 .f32), FVec F S128x1 .f32 ← k0_part58 i arg1 harg1 arg2 harg2 arg3 harg3 arg4 harg4 arg5 harg5 arg6 harg6 arg7 harg7 arg8 harg8 arg9 harg9 arg10 harg10 arg11 harg11 arg12 harg12 v0 v4
  let v2429 : Vec F S128x128 .f32 ← Prog.lift (.load arg10 (Rect.unit (s := S512x128) ![384, 0] S128x128.size inb_S512x128_S128x128_384_0).toLoadRect (View.loadsAt_vmem h_S128x128))
  let v2431 : Vec F S128x128 .f32 ← Prog.lift (.load arg10 (Rect.unit (s := S512x128) ![384, 0] S128x128.size inb_S512x128_S128x128_384_0).toLoadRect (View.loadsAt_vmem h_S128x128))
  Prog.lift (.store arg10 (Rect.unit (s := S512x128) ![384, 0] S128x128.size inb_S512x128_S128x128_384_0) (k0_pay1 i v2228 v2410 v2417 v2429) Finset.univ (View.stores_vmem_bits_univ h_S128x128 rfl) (.inl rfl))
  let v2435 : Vec F S128x128 .f32 ← Prog.lift (.load arg9 (Rect.unit (s := S512x128) ![384, 0] S128x128.size inb_S512x128_S128x128_384_0).toLoadRect (View.loadsAt_vmem h_S128x128))
  let v2438 : Vec F S128x128 .f32 ← Prog.lift (.load arg9 (Rect.unit (s := S512x128) ![384, 0] S128x128.size inb_S512x128_S128x128_384_0).toLoadRect (View.loadsAt_vmem h_S128x128))
  Prog.lift (.store arg9 (Rect.unit (s := S512x128) ![384, 0] S128x128.size inb_S512x128_S128x128_384_0) (k0_pay2 i v2414 v2435) Finset.univ (View.stores_vmem_bits_univ h_S128x128 rfl) (.inl rfl))
  pure ⟨⟩

/-- The body at an odd later point: the values of the step before are in the first buffer, the new ones go to the second. -/
noncomputable def progOdd (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (v0 v4 v8 : BitVec 32) :
    Prog (TpuEff nD τ sig (Elt F) Λ₀ .tc) PUnit := do
  let ⟨v2412, v2498, v2502, v2505, c7_i32_963⟩ : Σ' (v2412 : IVec S128x128 32) (v2498 : FVec F S128x128 .f32) (v2502 : FVec F S128x128 .f32) (v2505 : FVec F S128x1 .f32), BitVec 32 ← k0_part122 i arg1 harg1 arg2 harg2 arg3 harg3 arg4 harg4 arg5 harg5 arg6 harg6 arg7 harg7 arg8 harg8 arg9 harg9 arg10 harg10 arg11 harg11 arg12 harg12 v0 v4 v8
  let ⟨v2546, v2550, v2551⟩ : Σ' (v2546 : FVec F S128x128 .f32) (v2550 : FVec F S128x128 .f32), FVec F S128x128 .f32 ← k0_part119 i arg1 harg1 arg2 harg2 arg3 harg3 arg4 harg4 arg5 harg5 arg6 harg6 arg7 harg7 arg8 harg8 arg9 harg9 arg10 harg10 arg11 harg11 arg12 harg12 v2412 v2498 v2502 v2505 c7_i32_963
  let ⟨v2586, v2594, v2595⟩ : Σ' (v2586 : FVec F S128x128 .f32) (v2594 : FVec F S128x128 .f32), Vec F S128x128 .bf16 ← k0_part120 i arg1 harg1 arg2 harg2 arg3 harg3 arg4 harg4 arg5 harg5 arg6 harg6 arg7 harg7 arg8 harg8 arg9 harg9 arg10 harg10 arg11 harg11 arg12 harg12 v2412 v2546 v2550 v2551
  let ⟨v2625, v2631, v2633⟩ : Σ' (v2625 : Vec F S512x2048 .bf16) (v2631 : IVec S1024x256 32), IVec S1024x256 32 ← k0_part121 i arg1 harg1 arg2 harg2 arg3 harg3 arg4 harg4 arg5 harg5 arg6 harg6 arg7 harg7 arg8 harg8 arg9 harg9 arg10 harg10 arg11 harg11 arg12 harg12 v0 v2412 v2586 v2594 v2595
  let v2643 : Vec F S512x256 .f32 ← Prog.lift (.load arg6 (Rect.unit (s := S512x2304) ![0, 2048] S512x256.size inb_S512x2304_S512x256_0_2048).toLoadRect (View.loadsAt_vmem h_S512x256))
  let v2647 : Vec F S512x256 .f32 ← Prog.lift (.load arg6 (Rect.unit (s := S512x2304) ![0, 2048] S512x256.size inb_S512x2304_S512x256_0_2048).toLoadRect (View.loadsAt_vmem h_S512x256))
  Prog.lift (.store arg6 (Rect.unit (s := S512x2304) ![0, 2048] S512x256.size inb_S512x2304_S512x256_0_2048) (k0_pay3 i v2625 v2631 v2633 v2643) Finset.univ (View.stores_vmem_bits_univ h_S512x256 rfl) (.inl rfl))
  pure ⟨⟩

/-- The body at an even later point: the two value buffers swapped. -/
noncomputable def progEven (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (v0 v4 v8 : BitVec 32) :
    Prog (TpuEff nD τ sig (Elt F) Λ₀ .tc) PUnit := do
  let ⟨v2412, v2498, v2502, v2505, c7_i32_963⟩ : Σ' (v2412 : IVec S128x128 32) (v2498 : FVec F S128x128 .f32) (v2502 : FVec F S128x128 .f32) (v2505 : FVec F S128x1 .f32), BitVec 32 ← k0_part186 i arg1 harg1 arg2 harg2 arg3 harg3 arg4 harg4 arg5 harg5 arg6 harg6 arg7 harg7 arg8 harg8 arg9 harg9 arg10 harg10 arg11 harg11 arg12 harg12 v0 v4 v8
  let ⟨v2546, v2550, v2551⟩ : Σ' (v2546 : FVec F S128x128 .f32) (v2550 : FVec F S128x128 .f32), FVec F S128x128 .f32 ← k0_part183 i arg1 harg1 arg2 harg2 arg3 harg3 arg4 harg4 arg5 harg5 arg6 harg6 arg7 harg7 arg8 harg8 arg9 harg9 arg10 harg10 arg11 harg11 arg12 harg12 v2412 v2498 v2502 v2505 c7_i32_963
  let ⟨v2586, v2594, v2595⟩ : Σ' (v2586 : FVec F S128x128 .f32) (v2594 : FVec F S128x128 .f32), Vec F S128x128 .bf16 ← k0_part184 i arg1 harg1 arg2 harg2 arg3 harg3 arg4 harg4 arg5 harg5 arg6 harg6 arg7 harg7 arg8 harg8 arg9 harg9 arg10 harg10 arg11 harg11 arg12 harg12 v2412 v2546 v2550 v2551
  let ⟨v2625, v2631, v2633⟩ : Σ' (v2625 : Vec F S512x2048 .bf16) (v2631 : IVec S1024x256 32), IVec S1024x256 32 ← k0_part185 i arg1 harg1 arg2 harg2 arg3 harg3 arg4 harg4 arg5 harg5 arg6 harg6 arg7 harg7 arg8 harg8 arg9 harg9 arg10 harg10 arg11 harg11 arg12 harg12 v0 v2412 v2586 v2594 v2595
  let v2643 : Vec F S512x256 .f32 ← Prog.lift (.load arg6 (Rect.unit (s := S512x2304) ![0, 2048] S512x256.size inb_S512x2304_S512x256_0_2048).toLoadRect (View.loadsAt_vmem h_S512x256))
  let v2647 : Vec F S512x256 .f32 ← Prog.lift (.load arg6 (Rect.unit (s := S512x2304) ![0, 2048] S512x256.size inb_S512x2304_S512x256_0_2048).toLoadRect (View.loadsAt_vmem h_S512x256))
  Prog.lift (.store arg6 (Rect.unit (s := S512x2304) ![0, 2048] S512x256.size inb_S512x2304_S512x256_0_2048) (k0_pay4 i v2625 v2631 v2633 v2643) Finset.univ (View.stores_vmem_bits_univ h_S512x256 rfl) (.inl rfl))
  pure ⟨⟩

/-- The end of a row block: its scales from its statistics. -/
noncomputable def progFinish (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) :
    Prog (TpuEff nD τ sig (Elt F) Λ₀ .tc) PUnit := do
  let ⟨v38, v45, v47, v64, v67, v68⟩ : Σ' (v38 : FVec F S512x1 .f32) (v45 : FVec F S512x128 .f32) (v47 : IVec S512x128 1) (v64 : FVec F S512x128 .f32) (v67 : IVec S512x128 1), FVec F S512x128 .f32 ← k0_part187 i arg1 harg1 arg2 harg2 arg3 harg3 arg4 harg4 arg5 harg5 arg6 harg6 arg7 harg7 arg8 harg8 arg9 harg9 arg10 harg10 arg11 harg11 arg12 harg12
  let v99 : Vec F S512x128 .f32 ← Prog.lift (.load arg5 (Rect.unit (s := S512x128) ![0, 0] S512x128.size inb_S512x128_S512x128_0_0).toLoadRect (View.loadsAt_vmem h_S512x128))
  Prog.lift (.store arg5 (Rect.unit (s := S512x128) ![0, 0] S512x128.size inb_S512x128_S512x128_0_0) (k0_pay5 v45 v47 v64 v67 v68) Finset.univ (View.stores_vmem_bits_univ h_S512x128 rfl) (.inl rfl))
  let v100 : Vec F S512x128 .f32 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay6 v45 v47 v64 v67 v68) Finset.univ (View.stores_vmem_bits_univ h_S512x128 rfl) (.inl rfl))
  let v105 : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay7 v38) Finset.univ (View.stores_vmem_bits_univ h_S512x128 rfl) (.inl rfl))
  pure ⟨⟩

end Cert.ProjKernelIdeal.Own

end
-- ==== Proof.Proj.Split.lean ====
/- The body of the projection kernel, split by its branch conditions into the four programs of Progs.lean. -/
module

public import proofs.«01_k».proof.Proof.Proj.Progs

@[expose] public section

set_option maxRecDepth 16384

noncomputable section

namespace Cert.ProjKernelIdeal.Own

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg4 : Memref sig .tc .vmem S512x2048 .i8) (harg4 : arg4.IsWhole)
  (arg5 : Memref sig .tc .vmem S512x128 .f32) (harg5 : arg5.IsWhole)
  (arg6 : Memref sig .tc .vmem S512x2304 .f32) (harg6 : arg6.IsWhole)
  (arg7 : Memref sig .tc .vmem S512x2048 .bf16) (harg7 : arg7.IsWhole)
  (arg8 : Memref sig .tc .vmem S512x2048 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)

set_option maxHeartbeats 1000000 in
include harg1 harg2 harg3 harg4 harg5 harg6 harg7 harg8 harg9 harg10 harg11 harg12 in
theorem split_first (h1 : k0_cond1 i = 1#1) (h2 : ¬ k0_cond2 i = 1#1) (h3 : ¬ k0_cond3 i = 1#1) (h4 : ¬ k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = progFirst i arg1 harg1 arg2 harg2 arg3 harg3 arg4 harg4 arg5 harg5 arg6 harg6 arg7 harg7 arg8 harg8 arg9 harg9 arg10 harg10 arg11 harg11 arg12 harg12 (kStat i) (kQuant i) := by
  simp only [cc0_proj_eq_skeleton]
  unfold cc0_proj_skel progFirst
  simp only [dif_pos h1, dif_neg h2, dif_neg h3, dif_neg h4]

  rfl

set_option maxHeartbeats 1000000 in
include harg1 harg2 harg3 harg4 harg5 harg6 harg7 harg8 harg9 harg10 harg11 harg12 in
theorem split_first_fin (h1 : k0_cond1 i = 1#1) (h2 : ¬ k0_cond2 i = 1#1) (h3 : ¬ k0_cond3 i = 1#1) (h4 : k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = (progFirst i arg1 harg1 arg2 harg2 arg3 harg3 arg4 harg4 arg5 harg5 arg6 harg6 arg7 harg7 arg8 harg8 arg9 harg9 arg10 harg10 arg11 harg11 arg12 harg12 (kStat i) (kQuant i) >>= fun _ => progFinish i arg1 harg1 arg2 harg2 arg3 harg3 arg4 harg4 arg5 harg5 arg6 harg6 arg7 harg7 arg8 harg8 arg9 harg9 arg10 harg10 arg11 harg11 arg12 harg12) := by
  simp only [cc0_proj_eq_skeleton]
  unfold cc0_proj_skel progFirst progFinish
  simp only [dif_pos h1, dif_neg h2, dif_neg h3, dif_pos h4]
  simp only [bind_assoc, pure_bind]
  rfl

set_option maxHeartbeats 1000000 in
include harg1 harg2 harg3 harg4 harg5 harg6 harg7 harg8 harg9 harg10 harg11 harg12 in
theorem split_odd (h1 : ¬ k0_cond1 i = 1#1) (h2 : k0_cond2 i = 1#1) (h3 : ¬ k0_cond3 i = 1#1) (h4 : ¬ k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = progOdd i arg1 harg1 arg2 harg2 arg3 harg3 arg4 harg4 arg5 harg5 arg6 harg6 arg7 harg7 arg8 harg8 arg9 harg9 arg10 harg10 arg11 harg11 arg12 harg12 (kStat i) (kQuant i) (kDot i) := by
  simp only [cc0_proj_eq_skeleton]
  unfold cc0_proj_skel progOdd
  simp only [dif_neg h1, dif_pos h2, dif_neg h3, dif_neg h4]

  rfl

set_option maxHeartbeats 1000000 in
include harg1 harg2 harg3 harg4 harg5 harg6 harg7 harg8 harg9 harg10 harg11 harg12 in
theorem split_odd_fin (h1 : ¬ k0_cond1 i = 1#1) (h2 : k0_cond2 i = 1#1) (h3 : ¬ k0_cond3 i = 1#1) (h4 : k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = (progOdd i arg1 harg1 arg2 harg2 arg3 harg3 arg4 harg4 arg5 harg5 arg6 harg6 arg7 harg7 arg8 harg8 arg9 harg9 arg10 harg10 arg11 harg11 arg12 harg12 (kStat i) (kQuant i) (kDot i) >>= fun _ => progFinish i arg1 harg1 arg2 harg2 arg3 harg3 arg4 harg4 arg5 harg5 arg6 harg6 arg7 harg7 arg8 harg8 arg9 harg9 arg10 harg10 arg11 harg11 arg12 harg12) := by
  simp only [cc0_proj_eq_skeleton]
  unfold cc0_proj_skel progOdd progFinish
  simp only [dif_neg h1, dif_pos h2, dif_neg h3, dif_pos h4]
  simp only [bind_assoc, pure_bind]
  rfl

set_option maxHeartbeats 1000000 in
include harg1 harg2 harg3 harg4 harg5 harg6 harg7 harg8 harg9 harg10 harg11 harg12 in
theorem split_even (h1 : ¬ k0_cond1 i = 1#1) (h2 : ¬ k0_cond2 i = 1#1) (h3 : k0_cond3 i = 1#1) (h4 : ¬ k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = progEven i arg1 harg1 arg2 harg2 arg3 harg3 arg4 harg4 arg5 harg5 arg6 harg6 arg7 harg7 arg8 harg8 arg9 harg9 arg10 harg10 arg11 harg11 arg12 harg12 (kStat i) (kQuant i) (kDot i) := by
  simp only [cc0_proj_eq_skeleton]
  unfold cc0_proj_skel progEven
  simp only [dif_neg h1, dif_neg h2, dif_pos h3, dif_neg h4]

  rfl

end Cert.ProjKernelIdeal.Own

end
-- ==== Proof.Proj.RunFirst.lean ====
/- The program of the points before the first product, run symbolically: what it stores and that it leaves the rest. -/
module

public import proofs.«01_k».proof.Proof.Proj.Progs

@[expose] public section

set_option maxRecDepth 16384

noncomputable section

namespace Cert.ProjKernelIdeal.Own

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of `progFirst` leave, as pieces, with the proof that the program runs and leaves them. -/
noncomputable def runFirst (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x1 : Vec F S512x2048 .bf16) (x2 : Vec F S512x2048 .bf16) (x9 : Vec F S512x128 .f32) (x10 : Vec F S512x128 .f32) (x11 : Vec F S512x128 .f32) (x12 : Vec F S512x128 .f32) :
    Σ' (L4 : List (View.Piece (Elt F) S512x2048 .i8)) (L7 : List (View.Piece (Elt F) S512x2048 .bf16)) (L9 : List (View.Piece (Elt F) S512x128 .f32)), { L10 : List (View.Piece (Elt F) S512x128 .f32) //
      ∀ (E : Set ℕ) (K : PUnit → sProp 𝕄),
        iprop(owns (c : Thread nD τ) arg1 fullShare x1 ∗ owns (c : Thread nD τ) arg2 fullShare x2 ∗ (∃ d, owns (c : Thread nD τ) arg4 fullShare d) ∗ (∃ d, owns (c : Thread nD τ) arg7 fullShare d) ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ (∃ f, arg4.view.loc (c : Thread nD τ) ↦[arg4.view.set]{fullShare} arg4.view.writes (Elt F) f L4) ∗ (∃ f, arg7.view.loc (c : Thread nD τ) ↦[arg7.view.set]{fullShare} arg7.view.writes (Elt F) f L7) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg11 fullShare x11 ∗ owns (c : Thread nD τ) arg12 fullShare x12) -∗ K ⟨⟩))
          ⊢ wp frame (wpE (defs₀ (F := F)) Variants.none c none) E (progFirst i arg1 harg1 arg2 harg2 arg3 harg3 arg4 harg4 arg5 harg5 arg6 harg6 arg7 harg7 arg8 harg8 arg9 harg9 arg10 harg10 arg11 harg11 arg12 harg12 (kStat i) (kQuant i)) K } := by
  refine ⟨?_, ?_, ?_, ?_, fun E K => ?run⟩
  case run =>
    unfold progFirst
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f1, %hf1, H1⟩, ⟨%f2, %hf2, H2⟩, ⟨%d4, %f4, -, H4⟩, ⟨%d7, %f7, -, H7⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg9.eq_unread hf9; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; iexact H4
    isplitl [H7]
    · iexists _; iexact H7
    isplitl [H9]
    · iexact H9
    isplitl [H10]
    · iexact H10
    isplitl [H11]
    · iexists _; isplitr; · ipureintro; exact harg11.read_unread _
      iexact H11
    iexists _; isplitr; · ipureintro; exact harg12.read_unread _
    iexact H12

end Cert.ProjKernelIdeal.Own

end
-- ==== Proof.Proj.RunOdd.lean ====
/- The program of the odd points with a product, run symbolically: what it stores and that it leaves the rest. -/
module

public import proofs.«01_k».proof.Proof.Proj.Progs

@[expose] public section

set_option maxRecDepth 16384

noncomputable section

namespace Cert.ProjKernelIdeal.Own

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of `progOdd` leave, as pieces, with the proof that the program runs and leaves them. -/
noncomputable def runOdd (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x1 : Vec F S512x2048 .bf16) (x2 : Vec F S512x2048 .bf16) (x3 : Vec F S1024x2304 .i8) (x6 : Vec F S512x2304 .f32) (x7 : Vec F S512x2048 .bf16) (x9 : Vec F S512x128 .f32) (x10 : Vec F S512x128 .f32) (x11 : Vec F S512x128 .f32) (x12 : Vec F S512x128 .f32) :
    Σ' (L4 : List (View.Piece (Elt F) S512x2048 .i8)) (L6 : List (View.Piece (Elt F) S512x2304 .f32)) (L8 : List (View.Piece (Elt F) S512x2048 .bf16)) (L9 : List (View.Piece (Elt F) S512x128 .f32)), { L10 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (arg6.view.loc (c : Thread nD τ) ↦[arg6.view.set]{fullShare} arg6.view.writes (Elt F) (harg6.unread x6) L6) ∗ owns (c : Thread nD τ) arg7 fullShare x7 ∗ (∃ f, arg8.view.loc (c : Thread nD τ) ↦[arg8.view.set]{fullShare} arg8.view.writes (Elt F) f L8) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg11 fullShare x11 ∗ owns (c : Thread nD τ) arg12 fullShare x12) -∗ K ⟨⟩))
          ⊢ wp frame (wpE (defs₀ (F := F)) Variants.none c none) E (progOdd i arg1 harg1 arg2 harg2 arg3 harg3 arg4 harg4 arg5 harg5 arg6 harg6 arg7 harg7 arg8 harg8 arg9 harg9 arg10 harg10 arg11 harg11 arg12 harg12 (kStat i) (kQuant i) (kDot i)) K } := by
  refine ⟨?_, ?_, ?_, ?_, ?_, fun E K => ?run⟩
  case run =>
    unfold progOdd
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton]
    unfold owns
    iintro ⟨⟨%f1, %hf1, H1⟩, ⟨%f2, %hf2, H2⟩, ⟨%f3, %hf3, H3⟩, ⟨%d4, %f4, -, H4⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg6.eq_unread hf6; obtain rfl := harg7.eq_unread hf7; obtain rfl := harg9.eq_unread hf9; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H6]
    · iexact H6
    isplitl [H7]
    · iexists _; isplitr; · ipureintro; exact harg7.read_unread _
      iexact H7
    isplitl [H8]
    · iexists _; iexact H8
    isplitl [H9]
    · iexact H9
    isplitl [H10]
    · iexact H10
    isplitl [H11]
    · iexists _; isplitr; · ipureintro; exact harg11.read_unread _
      iexact H11
    iexists _; isplitr; · ipureintro; exact harg12.read_unread _
    iexact H12

end Cert.ProjKernelIdeal.Own

end
-- ==== Proof.Proj.RunEven.lean ====
/- The program of the even points with a product, run symbolically: what it stores and that it leaves the rest. -/
module

public import proofs.«01_k».proof.Proof.Proj.Progs

@[expose] public section

set_option maxRecDepth 16384

noncomputable section

namespace Cert.ProjKernelIdeal.Own

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of `progEven` leave, as pieces, with the proof that the program runs and leaves them. -/
noncomputable def runEven (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x1 : Vec F S512x2048 .bf16) (x2 : Vec F S512x2048 .bf16) (x3 : Vec F S1024x2304 .i8) (x6 : Vec F S512x2304 .f32) (x8 : Vec F S512x2048 .bf16) (x9 : Vec F S512x128 .f32) (x10 : Vec F S512x128 .f32) (x11 : Vec F S512x128 .f32) (x12 : Vec F S512x128 .f32) :
    Σ' (L4 : List (View.Piece (Elt F) S512x2048 .i8)) (L6 : List (View.Piece (Elt F) S512x2304 .f32)) (L7 : List (View.Piece (Elt F) S512x2048 .bf16)) (L9 : List (View.Piece (Elt F) S512x128 .f32)), { L10 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg6 fullShare x6 ∗ (∃ d, owns (c : Thread nD τ) arg7 fullShare d) ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (arg6.view.loc (c : Thread nD τ) ↦[arg6.view.set]{fullShare} arg6.view.writes (Elt F) (harg6.unread x6) L6) ∗ (∃ f, arg7.view.loc (c : Thread nD τ) ↦[arg7.view.set]{fullShare} arg7.view.writes (Elt F) f L7) ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg11 fullShare x11 ∗ owns (c : Thread nD τ) arg12 fullShare x12) -∗ K ⟨⟩))
          ⊢ wp frame (wpE (defs₀ (F := F)) Variants.none c none) E (progEven i arg1 harg1 arg2 harg2 arg3 harg3 arg4 harg4 arg5 harg5 arg6 harg6 arg7 harg7 arg8 harg8 arg9 harg9 arg10 harg10 arg11 harg11 arg12 harg12 (kStat i) (kQuant i) (kDot i)) K } := by
  refine ⟨?_, ?_, ?_, ?_, ?_, fun E K => ?run⟩
  case run =>
    unfold progEven
    simp only [k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton]
    unfold owns
    iintro ⟨⟨%f1, %hf1, H1⟩, ⟨%f2, %hf2, H2⟩, ⟨%f3, %hf3, H3⟩, ⟨%d4, %f4, -, H4⟩, ⟨%f6, %hf6, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg6.eq_unread hf6; obtain rfl := harg8.eq_unread hf8; obtain rfl := harg9.eq_unread hf9; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H6]
    · iexact H6
    isplitl [H7]
    · iexists _; iexact H7
    isplitl [H8]
    · iexists _; isplitr; · ipureintro; exact harg8.read_unread _
      iexact H8
    isplitl [H9]
    · iexact H9
    isplitl [H10]
    · iexact H10
    isplitl [H11]
    · iexists _; isplitr; · ipureintro; exact harg11.read_unread _
      iexact H11
    iexists _; isplitr; · ipureintro; exact harg12.read_unread _
    iexact H12

end Cert.ProjKernelIdeal.Own

end
-- ==== Proof.Proj.RunFinish.lean ====
/- The program that ends a block of rows, run symbolically: it stores the scales and the two tables of inverses. -/
module

public import proofs.«01_k».proof.Proof.Proj.Progs

@[expose] public section

set_option maxRecDepth 16384

noncomputable section

namespace Cert.ProjKernelIdeal.Own

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of `progFinish` leave, as pieces, with the proof that the program runs and leaves them. -/
noncomputable def runFinish (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x9 : Vec F S512x128 .f32) (x10 : Vec F S512x128 .f32) :
    Σ' (L5 : List (View.Piece (Elt F) S512x128 .f32)) (L11 : List (View.Piece (Elt F) S512x128 .f32)), { L12 : List (View.Piece (Elt F) S512x128 .f32) //
      ∀ (E : Set ℕ) (K : PUnit → sProp 𝕄),
        iprop((∃ d, owns (c : Thread nD τ) arg5 fullShare d) ∗ owns (c : Thread nD τ) arg9 fullShare x9 ∗ owns (c : Thread nD τ) arg10 fullShare x10 ∗ (∃ d, owns (c : Thread nD τ) arg11 fullShare d) ∗ (∃ d, owns (c : Thread nD τ) arg12 fullShare d)
            ∗ (iprop((∃ f, arg5.view.loc (c : Thread nD τ) ↦[arg5.view.set]{fullShare} arg5.view.writes (Elt F) f L5) ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (progFinish i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    unfold progFinish
    simp only [k0_part187_eq_skeleton]
    unfold owns
    iintro ⟨⟨%d5, %f5, -, H5⟩, ⟨%f9, %hf9, H9⟩, ⟨%f10, %hf10, H10⟩, ⟨%d11, %f11, -, H11⟩, ⟨%d12, %f12, -, H12⟩, Hk⟩
    obtain rfl := harg9.eq_unread hf9; obtain rfl := harg10.eq_unread hf10
    sl_exec
    sl_step
    iapply Hk
    isplitl [H5]
    · iexists _; iexact H5
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; iexact H12

end Cert.ProjKernelIdeal.Own

end
-- ==== Proof.Proj.Step.lean ====
/- What each of the four programs leaves in the buffers it is called with, as a step from the contents before to the contents after. -/
module

public import proofs.«01_k».proof.Proof.Proj.Split
public import proofs.«01_k».proof.Proof.Proj.RunFirst
public import proofs.«01_k».proof.Proof.Proj.RunOdd
public import proofs.«01_k».proof.Proof.Proj.RunEven
public import proofs.«01_k».proof.Proof.Proj.RunFinish

@[expose] public section

set_option maxRecDepth 16384

noncomputable section

namespace Cert.ProjKernelIdeal.Own

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the twelve buffers the body is called with. -/
structure St (F : FTy → Type) where
  a1 : Vec F S512x2048 .bf16
  a2 : Vec F S512x2048 .bf16
  a3 : Vec F S1024x2304 .i8
  a4 : Vec F S512x2048 .i8
  a5 : Vec F S512x128 .f32
  a6 : Vec F S512x2304 .f32
  a7 : Vec F S512x2048 .bf16
  a8 : Vec F S512x2048 .bf16
  a9 : Vec F S512x128 .f32
  a10 : Vec F S512x128 .f32
  a11 : Vec F S512x128 .f32
  a12 : Vec F S512x128 .f32

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg4 : Memref sig .tc .vmem S512x2048 .i8) (harg4 : arg4.IsWhole)
  (arg5 : Memref sig .tc .vmem S512x128 .f32) (harg5 : arg5.IsWhole)
  (arg6 : Memref sig .tc .vmem S512x2304 .f32) (harg6 : arg6.IsWhole)
  (arg7 : Memref sig .tc .vmem S512x2048 .bf16) (harg7 : arg7.IsWhole)
  (arg8 : Memref sig .tc .vmem S512x2048 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)

/-- The twelve buffers, held whole at contents `s`. -/
def Held (s : St F) : sProp 𝕄 :=
  iprop(owns (c : Thread nD τ) arg1 fullShare s.a1 ∗ owns (c : Thread nD τ) arg2 fullShare s.a2 ∗ owns (c : Thread nD τ) arg3 fullShare s.a3 ∗ owns (c : Thread nD τ) arg4 fullShare s.a4 ∗ owns (c : Thread nD τ) arg5 fullShare s.a5 ∗ owns (c : Thread nD τ) arg6 fullShare s.a6 ∗ owns (c : Thread nD τ) arg7 fullShare s.a7 ∗ owns (c : Thread nD τ) arg8 fullShare s.a8 ∗ owns (c : Thread nD τ) arg9 fullShare s.a9 ∗ owns (c : Thread nD τ) arg10 fullShare s.a10 ∗ owns (c : Thread nD τ) arg11 fullShare s.a11 ∗ owns (c : Thread nD τ) arg12 fullShare s.a12)

/-- The contents the stores of `progFirst` leave, from contents `s`. -/
def LeftFirst (s : St F) (y4 : Vec F S512x2048 .i8) (y7 : Vec F S512x2048 .bf16) (y9 : Vec F S512x128 .f32) (y10 : Vec F S512x128 .f32) : Prop :=
  (∃ f, y4 = arg4.view.read (Elt F) (arg4.view.writes (Elt F) f (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).1))
  ∧ (∃ f, y7 = arg7.view.read (Elt F) (arg7.view.writes (Elt F) f (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.1))
  ∧ y9 = arg9.view.read (Elt F) (arg9.view.writes (Elt F) (harg9.unread s.a9) (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.1)
  ∧ y10 = arg10.view.read (Elt F) (arg10.view.writes (Elt F) (harg10.unread s.a10) (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.2.1)

/-- `progFirst` runs from contents `s` and leaves the contents of `LeftFirst`. -/
theorem stepFirst (s : St F) (E : Set ℕ) (K : PUnit → sProp 𝕄) :
    iprop(Held c arg1 arg2 arg3 arg4 arg5 arg6 arg7 arg8 arg9 arg10 arg11 arg12 s ∗ (∀ y4 y7 y9 y10, ⌜LeftFirst c i arg1 harg1 arg2 harg2 arg3 harg3 arg4 harg4 arg5 harg5 arg6 harg6 arg7 harg7 arg8 harg8 arg9 harg9 arg10 harg10 arg11 harg11 arg12 harg12 s y4 y7 y9 y10⌝ -∗ Held c arg1 arg2 arg3 arg4 arg5 arg6 arg7 arg8 arg9 arg10 arg11 arg12 { s with a4 := y4, a7 := y7, a9 := y9, a10 := y10 } -∗ K ⟨⟩))
      ⊢ wp frame (wpE (defs₀ (F := F)) Variants.none c none) E (progFirst i arg1 harg1 arg2 harg2 arg3 harg3 arg4 harg4 arg5 harg5 arg6 harg6 arg7 harg7 arg8 harg8 arg9 harg9 arg10 harg10 arg11 harg11 arg12 harg12 (kStat i) (kQuant i)) K := by
  unfold Held
  iintro ⟨⟨H1, H2, H3, H4, H5, H6, H7, H8, H9, H10, H11, H12⟩, Hk⟩
  iapply ((runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.2.2 E K)
  isplitl [H1]; · iexact H1
  isplitl [H2]; · iexact H2
  isplitl [H4]; · iexists _; iexact H4
  isplitl [H7]; · iexists _; iexact H7
  isplitl [H9]; · iexact H9
  isplitl [H10]; · iexact H10
  isplitl [H11]; · iexact H11
  isplitl [H12]; · iexact H12
  iintro ⟨H1, H2, ⟨%f4, H4⟩, ⟨%f7, H7⟩, H9, H10, H11, H12⟩
  ispecialize Hk $$ %(arg4.view.read (Elt F) (arg4.view.writes (Elt F) f4 (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).1))
  ispecialize Hk $$ %(arg7.view.read (Elt F) (arg7.view.writes (Elt F) f7 (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.1))
  ispecialize Hk $$ %(arg9.view.read (Elt F) (arg9.view.writes (Elt F) (harg9.unread s.a9) (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.1))
  ispecialize Hk $$ %(arg10.view.read (Elt F) (arg10.view.writes (Elt F) (harg10.unread s.a10) (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.2.1))
  ispecialize Hk $$ %(⟨⟨f4, rfl⟩, ⟨f7, rfl⟩, rfl, rfl⟩)
  iapply Hk
  isplitl [H1]
  · iexact H1
  isplitl [H2]
  · iexact H2
  isplitl [H3]
  · iexact H3
  isplitl [H4]
  · unfold owns; iexists _; isplitr; swap; · iexact H4
    ipureintro; rfl
  isplitl [H5]
  · iexact H5
  isplitl [H6]
  · iexact H6
  isplitl [H7]
  · unfold owns; iexists _; isplitr; swap; · iexact H7
    ipureintro; rfl
  isplitl [H8]
  · iexact H8
  isplitl [H9]
  · unfold owns; iexists _; isplitr; swap; · iexact H9
    ipureintro; rfl
  isplitl [H10]
  · unfold owns; iexists _; isplitr; swap; · iexact H10
    ipureintro; rfl
  isplitl [H11]
  · iexact H11
  iexact H12

/-- The contents the stores of `progOdd` leave, from contents `s`. -/
def LeftOdd (s : St F) (y4 : Vec F S512x2048 .i8) (y6 : Vec F S512x2304 .f32) (y8 : Vec F S512x2048 .bf16) (y9 : Vec F S512x128 .f32) (y10 : Vec F S512x128 .f32) : Prop :=
  (∃ f, y4 = arg4.view.read (Elt F) (arg4.view.writes (Elt F) f (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).1))
  ∧ y6 = arg6.view.read (Elt F) (arg6.view.writes (Elt F) (harg6.unread s.a6) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.1)
  ∧ (∃ f, y8 = arg8.view.read (Elt F) (arg8.view.writes (Elt F) f (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.1))
  ∧ y9 = arg9.view.read (Elt F) (arg9.view.writes (Elt F) (harg9.unread s.a9) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.1)
  ∧ y10 = arg10.view.read (Elt F) (arg10.view.writes (Elt F) (harg10.unread s.a10) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.2.1)

/-- `progOdd` runs from contents `s` and leaves the contents of `LeftOdd`. -/
theorem stepOdd (s : St F) (E : Set ℕ) (K : PUnit → sProp 𝕄) :
    iprop(Held c arg1 arg2 arg3 arg4 arg5 arg6 arg7 arg8 arg9 arg10 arg11 arg12 s ∗ (∀ y4 y6 y8 y9 y10, ⌜LeftOdd c i arg1 harg1 arg2 harg2 arg3 harg3 arg4 harg4 arg5 harg5 arg6 harg6 arg7 harg7 arg8 harg8 arg9 harg9 arg10 harg10 arg11 harg11 arg12 harg12 s y4 y6 y8 y9 y10⌝ -∗ Held c arg1 arg2 arg3 arg4 arg5 arg6 arg7 arg8 arg9 arg10 arg11 arg12 { s with a4 := y4, a6 := y6, a8 := y8, a9 := y9, a10 := y10 } -∗ K ⟨⟩))
      ⊢ wp frame (wpE (defs₀ (F := F)) Variants.none c none) E (progOdd i arg1 harg1 arg2 harg2 arg3 harg3 arg4 harg4 arg5 harg5 arg6 harg6 arg7 harg7 arg8 harg8 arg9 harg9 arg10 harg10 arg11 harg11 arg12 harg12 (kStat i) (kQuant i) (kDot i)) K := by
  unfold Held
  iintro ⟨⟨H1, H2, H3, H4, H5, H6, H7, H8, H9, H10, H11, H12⟩, Hk⟩
  iapply ((runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.2.2 E K)
  isplitl [H1]; · iexact H1
  isplitl [H2]; · iexact H2
  isplitl [H3]; · iexact H3
  isplitl [H4]; · iexists _; iexact H4
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  iintro ⟨H1, H2, H3, ⟨%f4, H4⟩, H6, H7, ⟨%f8, H8⟩, H9, H10, H11, H12⟩
  ispecialize Hk $$ %(arg4.view.read (Elt F) (arg4.view.writes (Elt F) f4 (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).1))
  ispecialize Hk $$ %(arg6.view.read (Elt F) (arg6.view.writes (Elt F) (harg6.unread s.a6) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.1))
  ispecialize Hk $$ %(arg8.view.read (Elt F) (arg8.view.writes (Elt F) f8 (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.1))
  ispecialize Hk $$ %(arg9.view.read (Elt F) (arg9.view.writes (Elt F) (harg9.unread s.a9) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.1))
  ispecialize Hk $$ %(arg10.view.read (Elt F) (arg10.view.writes (Elt F) (harg10.unread s.a10) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.2.1))
  ispecialize Hk $$ %(⟨⟨f4, rfl⟩, rfl, ⟨f8, rfl⟩, rfl, rfl⟩)
  iapply Hk
  isplitl [H1]
  · iexact H1
  isplitl [H2]
  · iexact H2
  isplitl [H3]
  · iexact H3
  isplitl [H4]
  · unfold owns; iexists _; isplitr; swap; · iexact H4
    ipureintro; rfl
  isplitl [H5]
  · iexact H5
  isplitl [H6]
  · unfold owns; iexists _; isplitr; swap; · iexact H6
    ipureintro; rfl
  isplitl [H7]
  · iexact H7
  isplitl [H8]
  · unfold owns; iexists _; isplitr; swap; · iexact H8
    ipureintro; rfl
  isplitl [H9]
  · unfold owns; iexists _; isplitr; swap; · iexact H9
    ipureintro; rfl
  isplitl [H10]
  · unfold owns; iexists _; isplitr; swap; · iexact H10
    ipureintro; rfl
  isplitl [H11]
  · iexact H11
  iexact H12

/-- The contents the stores of `progEven` leave, from contents `s`. -/
def LeftEven (s : St F) (y4 : Vec F S512x2048 .i8) (y6 : Vec F S512x2304 .f32) (y7 : Vec F S512x2048 .bf16) (y9 : Vec F S512x128 .f32) (y10 : Vec F S512x128 .f32) : Prop :=
  (∃ f, y4 = arg4.view.read (Elt F) (arg4.view.writes (Elt F) f (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).1))
  ∧ y6 = arg6.view.read (Elt F) (arg6.view.writes (Elt F) (harg6.unread s.a6) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.1)
  ∧ (∃ f, y7 = arg7.view.read (Elt F) (arg7.view.writes (Elt F) f (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.1))
  ∧ y9 = arg9.view.read (Elt F) (arg9.view.writes (Elt F) (harg9.unread s.a9) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.1)
  ∧ y10 = arg10.view.read (Elt F) (arg10.view.writes (Elt F) (harg10.unread s.a10) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.2.1)

/-- `progEven` runs from contents `s` and leaves the contents of `LeftEven`. -/
theorem stepEven (s : St F) (E : Set ℕ) (K : PUnit → sProp 𝕄) :
    iprop(Held c arg1 arg2 arg3 arg4 arg5 arg6 arg7 arg8 arg9 arg10 arg11 arg12 s ∗ (∀ y4 y6 y7 y9 y10, ⌜LeftEven c i arg1 harg1 arg2 harg2 arg3 harg3 arg4 harg4 arg5 harg5 arg6 harg6 arg7 harg7 arg8 harg8 arg9 harg9 arg10 harg10 arg11 harg11 arg12 harg12 s y4 y6 y7 y9 y10⌝ -∗ Held c arg1 arg2 arg3 arg4 arg5 arg6 arg7 arg8 arg9 arg10 arg11 arg12 { s with a4 := y4, a6 := y6, a7 := y7, a9 := y9, a10 := y10 } -∗ K ⟨⟩))
      ⊢ wp frame (wpE (defs₀ (F := F)) Variants.none c none) E (progEven i arg1 harg1 arg2 harg2 arg3 harg3 arg4 harg4 arg5 harg5 arg6 harg6 arg7 harg7 arg8 harg8 arg9 harg9 arg10 harg10 arg11 harg11 arg12 harg12 (kStat i) (kQuant i) (kDot i)) K := by
  unfold Held
  iintro ⟨⟨H1, H2, H3, H4, H5, H6, H7, H8, H9, H10, H11, H12⟩, Hk⟩
  iapply ((runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.2.2 E K)
  isplitl [H1]; · iexact H1
  isplitl [H2]; · iexact H2
  isplitl [H3]; · iexact H3
  isplitl [H4]; · iexists _; iexact H4
  isplitl [H6]; · iexact H6
  isplitl [H7]; · iexists _; iexact H7
  isplitl [H8]; · iexact H8
  isplitl [H9]; · iexact H9
  isplitl [H10]; · iexact H10
  isplitl [H11]; · iexact H11
  isplitl [H12]; · iexact H12
  iintro ⟨H1, H2, H3, ⟨%f4, H4⟩, H6, ⟨%f7, H7⟩, H8, H9, H10, H11, H12⟩
  ispecialize Hk $$ %(arg4.view.read (Elt F) (arg4.view.writes (Elt F) f4 (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).1))
  ispecialize Hk $$ %(arg6.view.read (Elt F) (arg6.view.writes (Elt F) (harg6.unread s.a6) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.1))
  ispecialize Hk $$ %(arg7.view.read (Elt F) (arg7.view.writes (Elt F) f7 (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.1))
  ispecialize Hk $$ %(arg9.view.read (Elt F) (arg9.view.writes (Elt F) (harg9.unread s.a9) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.1))
  ispecialize Hk $$ %(arg10.view.read (Elt F) (arg10.view.writes (Elt F) (harg10.unread s.a10) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.2.1))
  ispecialize Hk $$ %(⟨⟨f4, rfl⟩, rfl, ⟨f7, rfl⟩, rfl, rfl⟩)
  iapply Hk
  isplitl [H1]
  · iexact H1
  isplitl [H2]
  · iexact H2
  isplitl [H3]
  · iexact H3
  isplitl [H4]
  · unfold owns; iexists _; isplitr; swap; · iexact H4
    ipureintro; rfl
  isplitl [H5]
  · iexact H5
  isplitl [H6]
  · unfold owns; iexists _; isplitr; swap; · iexact H6
    ipureintro; rfl
  isplitl [H7]
  · unfold owns; iexists _; isplitr; swap; · iexact H7
    ipureintro; rfl
  isplitl [H8]
  · iexact H8
  isplitl [H9]
  · unfold owns; iexists _; isplitr; swap; · iexact H9
    ipureintro; rfl
  isplitl [H10]
  · unfold owns; iexists _; isplitr; swap; · iexact H10
    ipureintro; rfl
  isplitl [H11]
  · iexact H11
  iexact H12

/-- The contents the stores of `progFinish` leave, from contents `s`. -/
def LeftFinish (s : St F) (y5 : Vec F S512x128 .f32) (y11 : Vec F S512x128 .f32) (y12 : Vec F S512x128 .f32) : Prop :=
  (∃ f, y5 = arg5.view.read (Elt F) (arg5.view.writes (Elt F) f (runFinish c i arg1 harg1 arg2 harg2 arg3 harg3 arg4 harg4 arg5 harg5 arg6 harg6 arg7 harg7 arg8 harg8 arg9 harg9 arg10 harg10 arg11 harg11 arg12 harg12 s.a9 s.a10).1))
  ∧ (∃ f, y11 = arg11.view.read (Elt F) (arg11.view.writes (Elt F) f (runFinish c i arg1 harg1 arg2 harg2 arg3 harg3 arg4 harg4 arg5 harg5 arg6 harg6 arg7 harg7 arg8 harg8 arg9 harg9 arg10 harg10 arg11 harg11 arg12 harg12 s.a9 s.a10).2.1))
  ∧ (∃ f, y12 = arg12.view.read (Elt F) (arg12.view.writes (Elt F) f (runFinish c i arg1 harg1 arg2 harg2 arg3 harg3 arg4 harg4 arg5 harg5 arg6 harg6 arg7 harg7 arg8 harg8 arg9 harg9 arg10 harg10 arg11 harg11 arg12 harg12 s.a9 s.a10).2.2.1))

/-- `progFinish` runs from contents `s` and leaves the contents of `LeftFinish`. -/
theorem stepFinish (s : St F) (E : Set ℕ) (K : PUnit → sProp 𝕄) :
    iprop(Held c arg1 arg2 arg3 arg4 arg5 arg6 arg7 arg8 arg9 arg10 arg11 arg12 s ∗ (∀ y5 y11 y12, ⌜LeftFinish c i arg1 harg1 arg2 harg2 arg3 harg3 arg4 harg4 arg5 harg5 arg6 harg6 arg7 harg7 arg8 harg8 arg9 harg9 arg10 harg10 arg11 harg11 arg12 harg12 s y5 y11 y12⌝ -∗ Held c arg1 arg2 arg3 arg4 arg5 arg6 arg7 arg8 arg9 arg10 arg11 arg12 { s with a5 := y5, a11 := y11, a12 := y12 } -∗ K ⟨⟩))
      ⊢ wp frame (wpE (defs₀ (F := F)) Variants.none c none) E (progFinish i arg1 harg1 arg2 harg2 arg3 harg3 arg4 harg4 arg5 harg5 arg6 harg6 arg7 harg7 arg8 harg8 arg9 harg9 arg10 harg10 arg11 harg11 arg12 harg12) K := by
  unfold Held
  iintro ⟨⟨H1, H2, H3, H4, H5, H6, H7, H8, H9, H10, H11, H12⟩, Hk⟩
  iapply ((runFinish c i arg1 harg1 arg2 harg2 arg3 harg3 arg4 harg4 arg5 harg5 arg6 harg6 arg7 harg7 arg8 harg8 arg9 harg9 arg10 harg10 arg11 harg11 arg12 harg12 s.a9 s.a10).2.2.2 E K)
  isplitl [H5]; · iexists _; iexact H5
  isplitl [H9]; · iexact H9
  isplitl [H10]; · iexact H10
  isplitl [H11]; · iexists _; iexact H11
  isplitl [H12]; · iexists _; iexact H12
  iintro ⟨⟨%f5, H5⟩, H9, H10, ⟨%f11, H11⟩, ⟨%f12, H12⟩⟩
  ispecialize Hk $$ %(arg5.view.read (Elt F) (arg5.view.writes (Elt F) f5 (runFinish c i arg1 harg1 arg2 harg2 arg3 harg3 arg4 harg4 arg5 harg5 arg6 harg6 arg7 harg7 arg8 harg8 arg9 harg9 arg10 harg10 arg11 harg11 arg12 harg12 s.a9 s.a10).1))
  ispecialize Hk $$ %(arg11.view.read (Elt F) (arg11.view.writes (Elt F) f11 (runFinish c i arg1 harg1 arg2 harg2 arg3 harg3 arg4 harg4 arg5 harg5 arg6 harg6 arg7 harg7 arg8 harg8 arg9 harg9 arg10 harg10 arg11 harg11 arg12 harg12 s.a9 s.a10).2.1))
  ispecialize Hk $$ %(arg12.view.read (Elt F) (arg12.view.writes (Elt F) f12 (runFinish c i arg1 harg1 arg2 harg2 arg3 harg3 arg4 harg4 arg5 harg5 arg6 harg6 arg7 harg7 arg8 harg8 arg9 harg9 arg10 harg10 arg11 harg11 arg12 harg12 s.a9 s.a10).2.2.1))
  ispecialize Hk $$ %(⟨⟨f5, rfl⟩, ⟨f11, rfl⟩, ⟨f12, rfl⟩⟩)
  iapply Hk
  isplitl [H1]
  · iexact H1
  isplitl [H2]
  · iexact H2
  isplitl [H3]
  · iexact H3
  isplitl [H4]
  · iexact H4
  isplitl [H5]
  · unfold owns; iexists _; isplitr; swap; · iexact H5
    ipureintro; rfl
  isplitl [H6]
  · iexact H6
  isplitl [H7]
  · iexact H7
  isplitl [H8]
  · iexact H8
  isplitl [H9]
  · iexact H9
  isplitl [H10]
  · iexact H10
  isplitl [H11]
  · unfold owns; iexists _; isplitr; swap; · iexact H11
    ipureintro; rfl
  unfold owns; iexists _; isplitr; swap; · iexact H12
  ipureintro; rfl

end Cert.ProjKernelIdeal.Own

end
-- ==== Proof.Proj.Launch.lean ====
/- One point of the projection kernel as a step between buffer contents, the body obligation over any invariant of such steps, and the launch. -/
module

public import proofs.«01_k».proof.Proof.Proj.Step
public import Idealize.ShloMosaic.Lib.Pipeline.DatRel
public import Idealize.ShloMosaic.Lib.Pipeline.ArrRel

@[expose] public section

set_option maxRecDepth 16384

noncomputable section

namespace Cert.ProjKernelIdeal.Own

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg4 : Memref sig .tc .vmem S512x2048 .i8) (harg4 : arg4.IsWhole)
  (arg5 : Memref sig .tc .vmem S512x128 .f32) (harg5 : arg5.IsWhole)
  (arg6 : Memref sig .tc .vmem S512x2304 .f32) (harg6 : arg6.IsWhole)
  (arg7 : Memref sig .tc .vmem S512x2048 .bf16) (harg7 : arg7.IsWhole)
  (arg8 : Memref sig .tc .vmem S512x2048 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)

/-- The contents one point may leave, from the contents it finds, by the branch it takes. -/
inductive Trans (s : St F) : St F → Prop
  | first (h1 : k0_cond1 i = 1#1) (h2 : ¬ k0_cond2 i = 1#1) (h3 : ¬ k0_cond3 i = 1#1) (h4 : ¬ k0_cond4 i = 1#1) (y4 y7 y9 y10) (h : LeftFirst c i arg1 harg1 arg2 harg2 arg3 harg3 arg4 harg4 arg5 harg5 arg6 harg6 arg7 harg7 arg8 harg8 arg9 harg9 arg10 harg10 arg11 harg11 arg12 harg12 s y4 y7 y9 y10) :
      Trans s { s with a4 := y4, a7 := y7, a9 := y9, a10 := y10 }
  | firstFin (h1 : k0_cond1 i = 1#1) (h2 : ¬ k0_cond2 i = 1#1) (h3 : ¬ k0_cond3 i = 1#1) (h4 : k0_cond4 i = 1#1) (y4 y7 y9 y10) (h : LeftFirst c i arg1 harg1 arg2 harg2 arg3 harg3 arg4 harg4 arg5 harg5 arg6 harg6 arg7 harg7 arg8 harg8 arg9 harg9 arg10 harg10 arg11 harg11 arg12 harg12 s y4 y7 y9 y10) (z5 z11 z12) (h' : LeftFinish c i arg1 harg1 arg2 harg2 arg3 harg3 arg4 harg4 arg5 harg5 arg6 harg6 arg7 harg7 arg8 harg8 arg9 harg9 arg10 harg10 arg11 harg11 arg12 harg12 { s with a4 := y4, a7 := y7, a9 := y9, a10 := y10 } z5 z11 z12) :
      Trans s { ({ s with a4 := y4, a7 := y7, a9 := y9, a10 := y10 } : St F) with a5 := z5, a11 := z11, a12 := z12 }
  | odd (h1 : ¬ k0_cond1 i = 1#1) (h2 : k0_cond2 i = 1#1) (h3 : ¬ k0_cond3 i = 1#1) (h4 : ¬ k0_cond4 i = 1#1) (y4 y6 y8 y9 y10) (h : LeftOdd c i arg1 harg1 arg2 harg2 arg3 harg3 arg4 harg4 arg5 harg5 arg6 harg6 arg7 harg7 arg8 harg8 arg9 harg9 arg10 harg10 arg11 harg11 arg12 harg12 s y4 y6 y8 y9 y10) :
      Trans s { s with a4 := y4, a6 := y6, a8 := y8, a9 := y9, a10 := y10 }
  | oddFin (h1 : ¬ k0_cond1 i = 1#1) (h2 : k0_cond2 i = 1#1) (h3 : ¬ k0_cond3 i = 1#1) (h4 : k0_cond4 i = 1#1) (y4 y6 y8 y9 y10) (h : LeftOdd c i arg1 harg1 arg2 harg2 arg3 harg3 arg4 harg4 arg5 harg5 arg6 harg6 arg7 harg7 arg8 harg8 arg9 harg9 arg10 harg10 arg11 harg11 arg12 harg12 s y4 y6 y8 y9 y10) (z5 z11 z12) (h' : LeftFinish c i arg1 harg1 arg2 harg2 arg3 harg3 arg4 harg4 arg5 harg5 arg6 harg6 arg7 harg7 arg8 harg8 arg9 harg9 arg10 harg10 arg11 harg11 arg12 harg12 { s with a4 := y4, a6 := y6, a8 := y8, a9 := y9, a10 := y10 } z5 z11 z12) :
      Trans s { ({ s with a4 := y4, a6 := y6, a8 := y8, a9 := y9, a10 := y10 } : St F) with a5 := z5, a11 := z11, a12 := z12 }
  | even (h1 : ¬ k0_cond1 i = 1#1) (h2 : ¬ k0_cond2 i = 1#1) (h3 : k0_cond3 i = 1#1) (h4 : ¬ k0_cond4 i = 1#1) (y4 y6 y7 y9 y10) (h : LeftEven c i arg1 harg1 arg2 harg2 arg3 harg3 arg4 harg4 arg5 harg5 arg6 harg6 arg7 harg7 arg8 harg8 arg9 harg9 arg10 harg10 arg11 harg11 arg12 harg12 s y4 y6 y7 y9 y10) :
      Trans s { s with a4 := y4, a6 := y6, a7 := y7, a9 := y9, a10 := y10 }

/-- The branch conditions fall in one of five patterns. -/
def Cases : Prop :=
  (k0_cond1 i = 1#1 ∧ ¬ k0_cond2 i = 1#1 ∧ ¬ k0_cond3 i = 1#1 ∧ ¬ k0_cond4 i = 1#1)
  ∨ (k0_cond1 i = 1#1 ∧ ¬ k0_cond2 i = 1#1 ∧ ¬ k0_cond3 i = 1#1 ∧ k0_cond4 i = 1#1)
  ∨ (¬ k0_cond1 i = 1#1 ∧ k0_cond2 i = 1#1 ∧ ¬ k0_cond3 i = 1#1 ∧ ¬ k0_cond4 i = 1#1)
  ∨ (¬ k0_cond1 i = 1#1 ∧ k0_cond2 i = 1#1 ∧ ¬ k0_cond3 i = 1#1 ∧ k0_cond4 i = 1#1)
  ∨ (¬ k0_cond1 i = 1#1 ∧ ¬ k0_cond2 i = 1#1 ∧ k0_cond3 i = 1#1 ∧ ¬ k0_cond4 i = 1#1)

/-- The body at a point of any of the five patterns. -/
theorem step_body (hc : Cases i) (s : St F) (E : Set ℕ) (K : PUnit → sProp 𝕄) :
    iprop(Held c arg1 arg2 arg3 arg4 arg5 arg6 arg7 arg8 arg9 arg10 arg11 arg12 s ∗ (∀ s', ⌜Trans c i arg1 harg1 arg2 harg2 arg3 harg3 arg4 harg4 arg5 harg5 arg6 harg6 arg7 harg7 arg8 harg8 arg9 harg9 arg10 harg10 arg11 harg11 arg12 harg12 s s'⌝ -∗ Held c arg1 arg2 arg3 arg4 arg5 arg6 arg7 arg8 arg9 arg10 arg11 arg12 s' -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12) K := by
  rcases hc with ⟨h1, h2, h3, h4⟩ | ⟨h1, h2, h3, h4⟩ | ⟨h1, h2, h3, h4⟩ | ⟨h1, h2, h3, h4⟩ | ⟨h1, h2, h3, h4⟩
  · rw [split_first (h1 := h1) (h2 := h2) (h3 := h3) (h4 := h4)]
    iintro ⟨HS, Hk⟩
    iapply (stepFirst c i arg1 harg1 arg2 harg2 arg3 harg3 arg4 harg4 arg5 harg5 arg6 harg6 arg7 harg7 arg8 harg8 arg9 harg9 arg10 harg10 arg11 harg11 arg12 harg12 s E K)
    isplitl [HS]; · iexact HS
    iintro %y4 %y7 %y9 %y10 %h HS
    ispecialize Hk $$ %_ %(Trans.first h1 h2 h3 h4 y4 y7 y9 y10 h)
    iapply Hk; iexact HS
  · rw [split_first_fin (h1 := h1) (h2 := h2) (h3 := h3) (h4 := h4), wp_bind]
    iintro ⟨HS, Hk⟩
    iapply (stepFirst c i arg1 harg1 arg2 harg2 arg3 harg3 arg4 harg4 arg5 harg5 arg6 harg6 arg7 harg7 arg8 harg8 arg9 harg9 arg10 harg10 arg11 harg11 arg12 harg12 s E _)
    isplitl [HS]; · iexact HS
    iintro %y4 %y7 %y9 %y10 %h HS
    iapply (stepFinish c i arg1 harg1 arg2 harg2 arg3 harg3 arg4 harg4 arg5 harg5 arg6 harg6 arg7 harg7 arg8 harg8 arg9 harg9 arg10 harg10 arg11 harg11 arg12 harg12 _ E K)
    isplitl [HS]; · iexact HS
    iintro %z5 %z11 %z12 %h' HS
    ispecialize Hk $$ %_ %(Trans.firstFin h1 h2 h3 h4 y4 y7 y9 y10 h z5 z11 z12 h')
    iapply Hk; iexact HS
  · rw [split_odd (h1 := h1) (h2 := h2) (h3 := h3) (h4 := h4)]
    iintro ⟨HS, Hk⟩
    iapply (stepOdd c i arg1 harg1 arg2 harg2 arg3 harg3 arg4 harg4 arg5 harg5 arg6 harg6 arg7 harg7 arg8 harg8 arg9 harg9 arg10 harg10 arg11 harg11 arg12 harg12 s E K)
    isplitl [HS]; · iexact HS
    iintro %y4 %y6 %y8 %y9 %y10 %h HS
    ispecialize Hk $$ %_ %(Trans.odd h1 h2 h3 h4 y4 y6 y8 y9 y10 h)
    iapply Hk; iexact HS
  · rw [split_odd_fin (h1 := h1) (h2 := h2) (h3 := h3) (h4 := h4), wp_bind]
    iintro ⟨HS, Hk⟩
    iapply (stepOdd c i arg1 harg1 arg2 harg2 arg3 harg3 arg4 harg4 arg5 harg5 arg6 harg6 arg7 harg7 arg8 harg8 arg9 harg9 arg10 harg10 arg11 harg11 arg12 harg12 s E _)
    isplitl [HS]; · iexact HS
    iintro %y4 %y6 %y8 %y9 %y10 %h HS
    iapply (stepFinish c i arg1 harg1 arg2 harg2 arg3 harg3 arg4 harg4 arg5 harg5 arg6 harg6 arg7 harg7 arg8 harg8 arg9 harg9 arg10 harg10 arg11 harg11 arg12 harg12 _ E K)
    isplitl [HS]; · iexact HS
    iintro %z5 %z11 %z12 %h' HS
    ispecialize Hk $$ %_ %(Trans.oddFin h1 h2 h3 h4 y4 y6 y8 y9 y10 h z5 z11 z12 h')
    iapply Hk; iexact HS
  · rw [split_even (h1 := h1) (h2 := h2) (h3 := h3) (h4 := h4)]
    iintro ⟨HS, Hk⟩
    iapply (stepEven c i arg1 harg1 arg2 harg2 arg3 harg3 arg4 harg4 arg5 harg5 arg6 harg6 arg7 harg7 arg8 harg8 arg9 harg9 arg10 harg10 arg11 harg11 arg12 harg12 s E K)
    isplitl [HS]; · iexact HS
    iintro %y4 %y6 %y7 %y9 %y10 %h HS
    ispecialize Hk $$ %_ %(Trans.even h1 h2 h3 h4 y4 y6 y7 y9 y10 h)
    iapply Hk; iexact HS

/-- A point leaves its three input blocks as it found them. -/
theorem Trans.inputs {s s' : St F} (h : Trans c i arg1 harg1 arg2 harg2 arg3 harg3 arg4 harg4 arg5 harg5 arg6 harg6 arg7 harg7 arg8 harg8 arg9 harg9 arg10 harg10 arg11 harg11 arg12 harg12 s s') : s'.a1 = s.a1 ∧ s'.a2 = s.a2 ∧ s'.a3 = s.a3 := by
  cases h <;> exact ⟨rfl, rfl, rfl⟩

/-- Every point of the grid takes one of the five patterns. -/
theorem cases_at : ∀ t : Fin cfg0.N, Cases (grid0.coords t) := by
  unfold Cases; decide +kernel

end Body

/-- The contents after point `t` from the contents before it, at the buffers the pipeline hands the body. -/
def TransAt (c : Dev nD) (t : Fin cfg0.N) (s s' : St F) : Prop :=
  Trans c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) s s'

variable (m : (ℓ : Loc nD τ sig) → Buf (Elt F) ℓ) (ρ : Dev nD → PrngReg)
variable (Inv : Dev nD → ℕ → Vec F S512x2048 .bf16 → Vec F S512x2048 .bf16 → Vec F S512x128 .f32 → Vec F S512x128 .f32 → Vec F S512x128 .f32 → Vec F S512x128 .f32 → Prop)

/-- The scratch buffers at contents that meet `Inv`, and the generator register at some contents. -/
def Phi (c : Dev nD) (t : ℕ) : sProp 𝕄 :=
  iprop((∃ x7 x8 x9 x10 x11 x12, ⌜Inv c t x7 x8 x9 x10 x11 x12⌝ ∗ owns (c : Thread nD τ) (Memref.whole cc0_scratch0 : Memref sig .tc .vmem S512x2048 .bf16) fullShare x7 ∗ owns (c : Thread nD τ) (Memref.whole cc0_scratch1 : Memref sig .tc .vmem S512x2048 .bf16) fullShare x8 ∗ owns (c : Thread nD τ) (Memref.whole cc0_scratch2 : Memref sig .tc .vmem S512x128 .f32) fullShare x9 ∗ owns (c : Thread nD τ) (Memref.whole cc0_scratch3 : Memref sig .tc .vmem S512x128 .f32) fullShare x10 ∗ owns (c : Thread nD τ) (Memref.whole cc0_scratch4 : Memref sig .tc .vmem S512x128 .f32) fullShare x11 ∗ owns (c : Thread nD τ) (Memref.whole cc0_scratch5 : Memref sig .tc .vmem S512x128 .f32) fullShare x12) ∗ (∃ r, prngReg c r))

/-- The class's invariant with the scratch operands as buffers owned at some contents. -/
theorem PhiA0_eq (c : Dev nD) :
    (Pipeline.ΦA spec0 c : sProp 𝕄)
      = iprop(iprop((∃ d, owns (c : Thread nD τ) (Memref.whole cc0_scratch0 : Memref sig .tc .vmem S512x2048 .bf16) fullShare d) ∗ (∃ d, owns (c : Thread nD τ) (Memref.whole cc0_scratch1 : Memref sig .tc .vmem S512x2048 .bf16) fullShare d) ∗ (∃ d, owns (c : Thread nD τ) (Memref.whole cc0_scratch2 : Memref sig .tc .vmem S512x128 .f32) fullShare d) ∗ (∃ d, owns (c : Thread nD τ) (Memref.whole cc0_scratch3 : Memref sig .tc .vmem S512x128 .f32) fullShare d) ∗ (∃ d, owns (c : Thread nD τ) (Memref.whole cc0_scratch4 : Memref sig .tc .vmem S512x128 .f32) fullShare d) ∗ (∃ d, owns (c : Thread nD τ) (Memref.whole cc0_scratch5 : Memref sig .tc .vmem S512x128 .f32) fullShare d)) ∗ (∃ r, prngReg c r)) := by
  unfold Pipeline.ΦA; rw [scopedRest0_eq]; simp only [owns_whole]; try rfl

/-- The proof data: inputs at their blocks, nothing named of the outputs, the scratch under `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
  Φ t := Phi Inv c t.val
  q w := Pipeline.shareOf spec0 w
  owed _ := 0

theorem A_eq (c : Dev nD) (w : Fin cfg0.W) : (dats m Inv 0 c).A w = V m c (Pipeline.arrRef spec0 w) := by
  dsimp only [dats]
theorem after0_0 (c : Dev nD) (t : Fin cfg0.N) : (dats m Inv 0 c).after 0 t = iblk m c 0 t := by dsimp only [dats]
theorem after0_1 (c : Dev nD) (t : Fin cfg0.N) : (dats m Inv 0 c).after 1 t = iblk m c 1 t := by dsimp only [dats]
theorem after0_2 (c : Dev nD) (t : Fin cfg0.N) : (dats m Inv 0 c).after 2 t = iblk m c 2 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem before0_1 (c : Dev nD) (t : Fin cfg0.N) (d) : (dats m Inv 0 c).before 1 t d = iblk m c 1 t :=
  before0_1_of m (dats m Inv 0 c) (A_eq m Inv c 1) (after0_1 m Inv c) t d
theorem before0_2 (c : Dev nD) (t : Fin cfg0.N) (d) : (dats m Inv 0 c).before 2 t d = iblk m c 2 t :=
  before0_2_of m (dats m Inv 0 c) (A_eq m Inv c 2) (after0_2 m Inv c) t d

/-- The output windows, whose contents are held to a predicate. -/
def outs : Fin cfg0.W → Bool := fun | 0 => false | 1 => false | 2 => false | 3 => true | 4 => true | 5 => true

variable (Rl : Dev nD → (w : Fin cfg0.W) → Fin cfg0.N → ((cfg0.win w).block.Idx → Elt F (cfg0.win w).elt) → Prop)

/-- The relational data of one core. -/
def rdat (c : Dev nD) : Pipeline.RDat τ (Elt F) Unit ℕ (UR sig nD τ) ℕ cfg0 c := (dats m Inv 0 c).toRRel outs (Rl c)

/-- What an invariant and a predicate on the outputs have to satisfy: every step keeps both. -/
def Keeps : Prop :=
  ∀ (c : Dev nD) (t : Fin cfg0.N) (s s' : St F),
    s.a1 = iblk m c 0 t → s.a2 = iblk m c 1 t → s.a3 = iblk m c 2 t →
    (rdat m Inv Rl c).Finds 3 t s.a4 → (rdat m Inv Rl c).Finds 4 t s.a5 → (rdat m Inv Rl c).Finds 5 t s.a6 →
    Inv c t.val s.a7 s.a8 s.a9 s.a10 s.a11 s.a12 → TransAt c t s s' →
    Inv c (t.val + 1) s'.a7 s'.a8 s'.a9 s'.a10 s'.a11 s'.a12 ∧ Rl c 3 t s'.a4 ∧ Rl c 4 t s'.a5 ∧ Rl c 5 t s'.a6

/-- What the body is called with at point `t`, -/
def bodyPre (c : Dev nD) (t : Fin cfg0.N) : sProp 𝕄 :=
  iprop((dats m Inv 0 c).Φ t.castSucc ∗ (dats m Inv 0 c).owesAt () t.castSucc
    ∗ (∃ d, owns (c : Thread nD τ) (st0_0 t) fullShare ((dats m Inv 0 c).before 0 t d))
    ∗ (∃ d, owns (c : Thread nD τ) (st0_1 t) fullShare ((dats m Inv 0 c).before 1 t d))
    ∗ (∃ d, owns (c : Thread nD τ) (st0_2 t) fullShare ((dats m Inv 0 c).before 2 t d))
    ∗ (∃ Y, ⌜(rdat m Inv Rl c).Finds 3 t Y⌝ ∗ owns (c : Thread nD τ) (st0_3 t) fullShare Y)
    ∗ (∃ Y, ⌜(rdat m Inv Rl c).Finds 4 t Y⌝ ∗ owns (c : Thread nD τ) (st0_4 t) fullShare Y)
    ∗ (∃ Y, ⌜(rdat m Inv Rl c).Finds 5 t Y⌝ ∗ owns (c : Thread nD τ) (st0_5 t) fullShare Y))

/-- and what it returns. -/
def bodyPost (c : Dev nD) (t : Fin cfg0.N) : sProp 𝕄 :=
  iprop((dats m Inv 0 c).Φ t.succ ∗ (dats m Inv 0 c).owesAt () t.succ
    ∗ owns (c : Thread nD τ) (st0_0 t) fullShare ((dats m Inv 0 c).after 0 t)
    ∗ owns (c : Thread nD τ) (st0_1 t) fullShare ((dats m Inv 0 c).after 1 t)
    ∗ owns (c : Thread nD τ) (st0_2 t) fullShare ((dats m Inv 0 c).after 2 t)
    ∗ (∃ X, ⌜Rl c 3 t X⌝ ∗ owns (c : Thread nD τ) (st0_3 t) fullShare X)
    ∗ (∃ X, ⌜Rl c 4 t X⌝ ∗ owns (c : Thread nD τ) (st0_4 t) fullShare X)
    ∗ (∃ X, ⌜Rl c 5 t X⌝ ∗ owns (c : Thread nD τ) (st0_5 t) fullShare X))

theorem sound_body (hk : Keeps m Inv Rl) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost
  simp only [before0_0, before0_1, before0_2]
  rw [show (dats m Inv 0 c).owesAt () t.succ = (dats m Inv 0 c).owesAt () t.castSucc from rfl, after0_0, after0_1, after0_2,
    show (dats m Inv 0 c).Φ t.castSucc = Phi Inv c t.val from rfl, show (dats m Inv 0 c).Φ t.succ = Phi Inv c (t.val + 1) from rfl]
  unfold Phi
  iintro ⟨⟨⟨%x7, %x8, %x9, %x10, %x11, %x12, %hinv, HS7, HS8, HS9, HS10, HS11, HS12⟩, Hg⟩, Ho, ⟨%d0, H0⟩, ⟨%d1, H1⟩, ⟨%d2, H2⟩, ⟨%Y3, %hY3, H3⟩, ⟨%Y4, %hY4, H4⟩, ⟨%Y5, %hY5, H5⟩⟩
  iapply (step_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (cases_at t) ⟨iblk m c 0 t, iblk m c 1 t, iblk m c 2 t, Y3, Y4, Y5, x7, x8, x9, x10, x11, x12⟩ Set.univ _)
  isplitl [H0 H1 H2 H3 H4 H5 HS7 HS8 HS9 HS10 HS11 HS12]
  · unfold Held
    isplitl [H0]; · iexact H0
    isplitl [H1]; · iexact H1
    isplitl [H2]; · iexact H2
    isplitl [H3]; · iexact H3
    isplitl [H4]; · iexact H4
    isplitl [H5]; · iexact H5
    isplitl [HS7]; · iexact HS7
    isplitl [HS8]; · iexact HS8
    isplitl [HS9]; · iexact HS9
    isplitl [HS10]; · iexact HS10
    isplitl [HS11]; · iexact HS11
    iexact HS12
  iintro %s' %hs' H
  have hin := Trans.inputs _ _ _ _ _ _ _ _ _ _ _ _ _ _ _ _ _ _ _ _ _ _ _ _ _ _ hs'
  have hk' := hk c t _ s' rfl rfl rfl hY3 hY4 hY5 hinv hs'
  obtain ⟨e1, e2, e3⟩ := hin
  dsimp only at e1 e2 e3
  obtain ⟨k1, k2, k3, k4⟩ := hk'
  unfold Held
  rw [e1, e2, e3]
  icases H with ⟨H0, H1, H2, H3, H4, H5, HS7, HS8, HS9, HS10, HS11, HS12⟩
  isplitl [HS7 HS8 HS9 HS10 HS11 HS12 Hg]
  · isplitl [HS7 HS8 HS9 HS10 HS11 HS12]
    · iexists _, _, _, _, _, _
      isplitr
      · ipureintro; exact k1
      isplitl [HS7]; · iexact HS7
      isplitl [HS8]; · iexact HS8
      isplitl [HS9]; · iexact HS9
      isplitl [HS10]; · iexact HS10
      isplitl [HS11]; · iexact HS11
      iexact HS12
    iexact Hg
  isplitl [Ho]; · iexact Ho
  isplitl [H0]; · iexact H0
  isplitl [H1]; · iexact H1
  isplitl [H2]; · iexact H2
  isplitl [H3]
  · iexists _; isplitr
    · ipureintro; exact k2
    iexact H3
  isplitl [H4]
  · iexists _; isplitr
    · ipureintro; exact k3
    iexact H4
  iexists _; isplitr
  · ipureintro; exact k4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hk : Keeps m Inv Rl) (c : Dev nD) :
    Pipeline.BodyObligationRel (dats (F := F) m Inv 0 c) (defs₀ (F := F)) Variants.none () Set.univ outs (Rl c) := fun t => by
  rw [bigSep_W0, bigSep_W0, defs₀_row]
  exact triple_restated (sound_body m Inv Rl hk c t) rfl .rfl fun _ => .rfl

theorem hin (h0 : ∀ c x7 x8 x9 x10 x11 x12, Inv c 0 x7 x8 x9 x10 x11 x12) (c : Dev nD) : Pipeline.ΦA spec0 c ⊢ (rdat m Inv Rl c).Φ 0 := by
  rw [show (rdat m Inv Rl c).Φ 0 = Phi Inv c 0 from rfl, PhiA0_eq]
  unfold Phi
  iintro ⟨⟨⟨%x7, H7⟩, ⟨%x8, H8⟩, ⟨%x9, H9⟩, ⟨%x10, H10⟩, ⟨%x11, H11⟩, ⟨%x12, H12⟩⟩, Hg⟩
  isplitr [Hg]
  · iexists x7, x8, x9, x10, x11, x12
    isplitr
    · ipureintro; exact h0 c _ _ _ _ _ _
    isplitl [H7]; · iexact H7
    isplitl [H8]; · iexact H8
    isplitl [H9]; · iexact H9
    isplitl [H10]; · iexact H10
    isplitl [H11]; · iexact H11
    iexact H12
  iexact Hg

theorem hout (c : Dev nD) : (rdat m Inv Rl c).Φ (Fin.last cfg0.N) ⊢ Pipeline.ΦA spec0 c := by
  rw [show (rdat m Inv Rl c).Φ (Fin.last cfg0.N) = Phi Inv c cfg0.N from rfl, PhiA0_eq]
  unfold Phi
  iintro ⟨⟨%x7, %x8, %x9, %x10, %x11, %x12, -, H7, H8, H9, H10, H11, H12⟩, Hg⟩
  isplitr [Hg]
  · isplitl [H7]; · iexists _; iexact H7
    isplitl [H8]; · iexists _; iexact H8
    isplitl [H9]; · iexists _; iexact H9
    isplitl [H10]; · iexists _; iexact H10
    isplitl [H11]; · iexists _; iexact H11
    iexists _; iexact H12
  iexact Hg

set_option backward.isDefEq.respectTransparency.types false in
/-- The launch: every execution ends with each array as the pipeline's data say, and every semaphore at zero. -/
theorem run_main (hk : Keeps m Inv Rl) (h0 : ∀ c x7 x8 x9 x10 x11 x12, Inv c 0 x7 x8 x9 x10 x11 x12) :
    θ_run defs (onTc (τ := τ) (main (F := F))) (s₀ m ρ)
      (fun r => Pipeline.RDat.FramePost cfg0 (rdat m Inv Rl) (V m) r ∧ r.2.sem = fun _ => 0) :=
  Pipeline.RDat.θ_run_frame_track_shared (Q' := _) cfgs (0 : Fin 1) launch₀0 defs₀ Variants.none (rdat m Inv Rl) m ρ main
    (hbody := fun c => (body_obligation m Inv Rl hk c).toRRel) (hq := fun _ _ _ => rfl)
    (howed := fun _ _ => rfl) (V := V m) (hmain := hmain m Variants.none) (hA := A_eq m Inv) (hin := hin m Inv Rl h0) (hout := hout m Inv Rl)

/-- The frame: the arguments end unchanged and every semaphore at zero. -/
theorem frame_of_run (r : PUnit × MemSt nD τ sig (Elt F)) (h : Pipeline.RDat.FramePost cfg0 (rdat m Inv Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c 1 rfl).trans (A_eq m Inv c 1), (h.arr_in c 2 rfl).trans (A_eq m Inv c 2)⟩

end Cert.ProjKernelIdeal.Own

end
-- ==== Proof.Proj.Tiles.lean ====
/- What the stores of one point leave, tile by tile: the pieces of Run*.lean written as families over the row block `m` and the
   group of lanes `g`. -/
module

public import proofs.«01_k».proof.Proof.Proj.Step

@[expose] public section

set_option maxRecDepth 16384

noncomputable section

namespace Cert.ProjKernelIdeal.Own

open Cert.ProjKernelIdeal.Gen
open Idealize.ShloMosaic Idealize.ShloMosaic.TcCoe Idealize.ShloMosaic.Tactic

variable {F : FTy → Type} [FloatOps F]

/-! ## The tiles' rectangles -/

theorem inb_wide (m : Fin 4) (g : Fin 16) : ∀ a, (![128 * m.val, 128 * g.val] : Fin 2 → Nat) a + S128x128.size a ≤ S512x2048.size a := by
  revert m g; decide
theorem inb_lane (m : Fin 4) : ∀ a, (![128 * m.val, 0] : Fin 2 → Nat) a + S128x128.size a ≤ S512x128.size a := by
  revert m; decide
theorem inb_acc (n : Fin 9) : ∀ a, (![0, 256 * n.val] : Fin 2 → Nat) a + S512x256.size a ≤ S512x2304.size a := by
  revert n; decide
theorem inb_w (n : Fin 9) : ∀ a, (![0, 256 * n.val] : Fin 2 → Nat) a + S1024x256.size a ≤ S1024x2304.size a := by
  revert n; decide
theorem slices_lane (g : Fin 16) : S128x128.Slices ![0, g.val] S128x1 := by revert g; decide

/-- Rows `128m …` and lanes `128g …` of a chunk. -/
def wide (m : Fin 4) (g : Fin 16) : Rect S512x2048 := Rect.unit (s := S512x2048) ![128 * m.val, 128 * g.val] S128x128.size (inb_wide m g)
/-- Rows `128m …` of the per-row tables. -/
def lanes (m : Fin 4) : Rect S512x128 := Rect.unit (s := S512x128) ![128 * m.val, 0] S128x128.size (inb_lane m)
/-- Columns `256n …` of the result block. -/
def accs (n : Fin 9) : Rect S512x2304 := Rect.unit (s := S512x2304) ![0, 256 * n.val] S512x256.size (inb_acc n)
/-- Columns `256n …` of the packed weights. -/
def ws (n : Fin 9) : Rect S1024x2304 := Rect.unit (s := S1024x2304) ![0, 256 * n.val] S1024x256.size (inb_w n)

/-! ## One tile's arithmetic -/

/-- The inverse scale of group `g` of chunk `q`, across the tile. -/
def invTile (q : BitVec 32) (g : Fin 16) (inv : Vec F S128x128 .f32) : FVec F S128x128 .f32 :=
  broadcastTo S128x128 (shapeCast S128x1 (extractStridedSlice S128x1 ![0, g.val]
    (dynamicRotate 1 (Scalar.remsi (Scalar.subi 128#32 (Scalar.muli q 16#32)) 128#32) none inv rotates_S128x128_d1) (slices_lane g))
    shapeCasts_S128x1_S128x1) broadcasts_S128x1_S128x128

/-- The codes of a tile, as numbers. -/
def codeTile (q : BitVec 32) (g : Fin 16) (inv r : Vec F S128x128 .f32) (x : Vec F S128x128 .bf16) : FVec F S128x128 .f32 :=
  minimumf (broadcast S128x128 (Scalar.sitofp .f32 7#32)) (maximumf (broadcast S128x128 (Scalar.sitofp .f32 4294967289#32))
    (roundeven (mulf (mulf (extf .f32 x bitsLt_bf16_f32) r) (invTile q g inv))))

/-- The codes of a tile, as the bytes stored. -/
def byteTile (q : BitVec 32) (g : Fin 16) (inv r : Vec F S128x128 .f32) (x : Vec F S128x128 .bf16) : IVec S128x128 8 :=
  trunci 8 (fptosi 32 (codeTile q g inv r x)) natLt_8_32

/-- The values of a tile: code times scale. -/
def valTile (q : BitVec 32) (g : Fin 16) (inv r : Vec F S128x128 .f32) (x : Vec F S128x128 .bf16) : FVec F S128x128 .bf16 :=
  shapeCast S128x128 (truncf .bf16 (mulf (codeTile q g inv r x)
    (divf (broadcast S128x128 (Scalar.ofBits .f32 0x3F800000#32)) (invTile q g inv))) bitsLt_bf16_f32) shapeCasts_S128x128_S128x128

/-- The groups in order. -/
def groups : List (Fin 16) := [0, 1, 2, 3, 4, 5, 6, 7, 8, 9, 10, 11, 12, 13, 14, 15]

/-- The sums of squares over the groups, lane by lane. -/
def sqTile (X : Fin 16 → Vec F S128x128 .bf16) : FVec F S128x128 .f32 :=
  groups.foldl (fun a g => addf a (mulf (extf .f32 (X g) bitsLt_bf16_f32) (extf .f32 (X g) bitsLt_bf16_f32)))
    (broadcast S128x128 (Scalar.ofBits .f32 0x00000000#32))

/-- The lane numbers. -/
def laneTile : IVec S128x128 32 := iota .tc S128x128 32 [1] iota_S128x128_d1_w32

/-- The largest magnitude of each row of group `g` in lane `g`. -/
def maxTile (X : Fin 16 → Vec F S128x128 .bf16) : FVec F S128x128 .f32 :=
  groups.foldl (fun a g => select (cmpi .eq laneTile (broadcast S128x128 (BitVec.ofNat 32 g.val)))
    (broadcastTo S128x128 (shapeCast S128x1 (shapeCast S128x1
      (multiReduction .maximumf [1] S128 (absf (extf .f32 (X g) bitsLt_bf16_f32)) 0xFF800000#32 reduces_S128x128_S128 (.inl rfl) rfl)
      shapeCasts_S128_S128x1) shapeCasts_S128x1_S128x1) broadcasts_S128x1_S128x128) a)
    (broadcast S128x128 (Scalar.ofBits .f32 0x00000000#32))

/-- The sums of squares so far. -/
def sumTile (k : BitVec 32) (X : Fin 16 → Vec F S128x128 .bf16) (old : Vec F S128x128 .f32) : FVec F S128x128 .f32 :=
  shapeCast S128x128 (Scalar.select (Scalar.cmpi .eq k 0#32) (sqTile X) (addf old (sqTile X))) shapeCasts_S128x128_S128x128

/-- The maxima so far: those of chunk `k` into its sixteen lanes. -/
def amaxTile (k : BitVec 32) (X : Fin 16 → Vec F S128x128 .bf16) (old : Vec F S128x128 .f32) : FVec F S128x128 .f32 :=
  shapeCast S128x128 (select (cmpi .eq (divsi laneTile (broadcast S128x128 16#32)) (broadcast S128x128 k))
    (dynamicRotate 1 (Scalar.muli k 16#32) none (maxTile X) rotates_S128x128_d1) old) shapeCasts_S128x128_S128x128

/-- The weights of one column block, unpacked: each byte's low nibble in the even row, its high nibble in the odd row. -/
def weightTile (w : Vec F S1024x256 .i8) : FVec F S2048x256 .bf16 :=
  sitofp .bf16 (shapeCast S2048x256 (concatenate S1024x2x256 1
    [⟨S1024x1x256, shapeCast S1024x1x256 (shrsi (shli (extui 32 w natLt_8_32) (broadcast S1024x256 28#32)) (broadcast S1024x256 28#32)) shapeCasts_S1024x256_S1024x1x256⟩,
     ⟨S1024x1x256, shapeCast S1024x1x256 (shrsi (shli (extui 32 w natLt_8_32) (broadcast S1024x256 24#32)) (broadcast S1024x256 28#32)) shapeCasts_S1024x256_S1024x1x256⟩]
    concatenates_S1024x1x256_S1024x1x256_S1024x2x256_d1) shapeCasts_S1024x2x256_S2048x256)

/-- One column block of the product, added to what is there unless the chunk is the first. -/
def dotTile (k : BitVec 32) (v : Vec F S512x2048 .bf16) (w : Vec F S1024x256 .i8) (old : Vec F S512x256 .f32) : FVec F S512x256 .f32 :=
  Scalar.select (Scalar.cmpi .eq k 0#32)
    (matmul dot_S512x2048_S2048x256_S512x256_1_0_0_1_n_n none v (weightTile w) (constant S512x256 .f32 0x00000000#32))
    (addf (shapeCast S512x256 old shapeCasts_S512x256_S512x256)
      (matmul dot_S512x2048_S2048x256_S512x256_1_0_0_1_n_n none v (weightTile w) (constant S512x256 .f32 0x00000000#32)))

/-! ## The pieces -/

def rows4 : List (Fin 4) := [3, 2, 1, 0]
def groups' : List (Fin 16) := [15, 14, 13, 12, 11, 10, 9, 8, 7, 6, 5, 4, 3, 2, 1, 0]

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg4 : Memref sig .tc .vmem S512x2048 .i8) (harg4 : arg4.IsWhole)
  (arg5 : Memref sig .tc .vmem S512x128 .f32) (harg5 : arg5.IsWhole)
  (arg6 : Memref sig .tc .vmem S512x2304 .f32) (harg6 : arg6.IsWhole)
  (arg7 : Memref sig .tc .vmem S512x2048 .bf16) (harg7 : arg7.IsWhole)
  (arg8 : Memref sig .tc .vmem S512x2048 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)
  (x1 x2 : Vec F S512x2048 .bf16) (x3 : Vec F S1024x2304 .i8) (x6 : Vec F S512x2304 .f32) (x7 x8 : Vec F S512x2048 .bf16)
  (x9 x10 x11 x12 : Vec F S512x128 .f32)

/-- The pieces of the codes' block. -/
def bytePieces (q : BitVec 32) : List (View.Piece (Elt F) S512x2048 .i8) :=
  rows4.flatMap fun m => groups'.map fun g => ⟨wide m g, byteTile q g (arg11.view.readAt (Elt F) (lanes m).toLoadRect (harg11.unread x11))
    (arg12.view.readAt (Elt F) (lanes m).toLoadRect (harg12.unread x12)) (arg2.view.readAt (Elt F) (wide m g).toLoadRect (harg2.unread x2))⟩

/-- The pieces of the values' buffer. -/
def valPieces (q : BitVec 32) : List (View.Piece (Elt F) S512x2048 .bf16) :=
  rows4.flatMap fun m => groups'.map fun g => ⟨wide m g, valTile q g (arg11.view.readAt (Elt F) (lanes m).toLoadRect (harg11.unread x11))
    (arg12.view.readAt (Elt F) (lanes m).toLoadRect (harg12.unread x12)) (arg2.view.readAt (Elt F) (wide m g).toLoadRect (harg2.unread x2))⟩

/-- The pieces of the sums of squares. -/
def sumPieces (k : BitVec 32) : List (View.Piece (Elt F) S512x128 .f32) :=
  rows4.map fun m => ⟨lanes m, sumTile k (fun g => arg1.view.readAt (Elt F) (wide m g).toLoadRect (harg1.unread x1))
    (arg9.view.readAt (Elt F) (lanes m).toLoadRect (harg9.unread x9))⟩

/-- The pieces of the maxima. -/
def amaxPieces (k : BitVec 32) : List (View.Piece (Elt F) S512x128 .f32) :=
  rows4.map fun m => ⟨lanes m, amaxTile k (fun g => arg1.view.readAt (Elt F) (wide m g).toLoadRect (harg1.unread x1))
    (arg10.view.readAt (Elt F) (lanes m).toLoadRect (harg10.unread x10))⟩

set_option maxHeartbeats 4000000 in
theorem runFirst_4 : (runFirst c i arg1 harg1 arg2 harg2 arg3 harg3 arg4 harg4 arg5 harg5 arg6 harg6 arg7 harg7 arg8 harg8 arg9 harg9 arg10 harg10 arg11 harg11 arg12 harg12 x1 x2 x9 x10 x11 x12).1 = bytePieces arg2 harg2 arg11 harg11 arg12 harg12 x2 x11 x12 (kQuant i) := by
  rfl

set_option maxHeartbeats 4000000 in
theorem runFirst_7 : (runFirst c i arg1 harg1 arg2 harg2 arg3 harg3 arg4 harg4 arg5 harg5 arg6 harg6 arg7 harg7 arg8 harg8 arg9 harg9 arg10 harg10 arg11 harg11 arg12 harg12 x1 x2 x9 x10 x11 x12).2.1 = valPieces arg2 harg2 arg11 harg11 arg12 harg12 x2 x11 x12 (kQuant i) := by
  rfl

set_option maxHeartbeats 4000000 in
theorem runFirst_9 : (runFirst c i arg1 harg1 arg2 harg2 arg3 harg3 arg4 harg4 arg5 harg5 arg6 harg6 arg7 harg7 arg8 harg8 arg9 harg9 arg10 harg10 arg11 harg11 arg12 harg12 x1 x2 x9 x10 x11 x12).2.2.1 = sumPieces arg1 harg1 arg9 harg9 x1 x9 (kStat i) := by
  rfl

set_option maxHeartbeats 4000000 in
theorem runFirst_10 : (runFirst c i arg1 harg1 arg2 harg2 arg3 harg3 arg4 harg4 arg5 harg5 arg6 harg6 arg7 harg7 arg8 harg8 arg9 harg9 arg10 harg10 arg11 harg11 arg12 harg12 x1 x2 x9 x10 x11 x12).2.2.2.1 = amaxPieces arg1 harg1 arg10 harg10 x1 x10 (kStat i) := by
  rfl

/-- The column blocks, the last first. -/
def cols9 : List (Fin 9) := [8, 7, 6, 5, 4, 3, 2, 1, 0]

/-- The pieces of the result block, from the values in the first buffer, -/
def accPieces (v : Vec F S512x2048 .bf16) (argv : Memref sig .tc .vmem S512x2048 .bf16) (hargv : argv.IsWhole) (k : BitVec 32) : List (View.Piece (Elt F) S512x2304 .f32) :=
  cols9.map fun n => ⟨accs n, dotTile k (argv.view.readAt (Elt F) (Rect.unit (s := S512x2048) ![0, 0] S512x2048.size inb_S512x2048_S512x2048_0_0).toLoadRect (hargv.unread v))
    (arg3.view.readAt (Elt F) (ws n).toLoadRect (harg3.unread x3)) (arg6.view.readAt (Elt F) (accs n).toLoadRect (harg6.unread x6))⟩

set_option maxHeartbeats 4000000 in
theorem runOdd_4 : (runOdd c i arg1 harg1 arg2 harg2 arg3 harg3 arg4 harg4 arg5 harg5 arg6 harg6 arg7 harg7 arg8 harg8 arg9 harg9 arg10 harg10 arg11 harg11 arg12 harg12 x1 x2 x3 x6 x7 x9 x10 x11 x12).1 = bytePieces arg2 harg2 arg11 harg11 arg12 harg12 x2 x11 x12 (kQuant i) := by
  rfl

set_option maxHeartbeats 4000000 in
theorem runOdd_6 : (runOdd c i arg1 harg1 arg2 harg2 arg3 harg3 arg4 harg4 arg5 harg5 arg6 harg6 arg7 harg7 arg8 harg8 arg9 harg9 arg10 harg10 arg11 harg11 arg12 harg12 x1 x2 x3 x6 x7 x9 x10 x11 x12).2.1 = accPieces arg3 harg3 arg6 harg6 x3 x6 x7 arg7 harg7 (kDot i) := by
  rfl

set_option maxHeartbeats 4000000 in
theorem runOdd_8 : (runOdd c i arg1 harg1 arg2 harg2 arg3 harg3 arg4 harg4 arg5 harg5 arg6 harg6 arg7 harg7 arg8 harg8 arg9 harg9 arg10 harg10 arg11 harg11 arg12 harg12 x1 x2 x3 x6 x7 x9 x10 x11 x12).2.2.1 = valPieces arg2 harg2 arg11 harg11 arg12 harg12 x2 x11 x12 (kQuant i) := by
  rfl

set_option maxHeartbeats 4000000 in
theorem runOdd_9 : (runOdd c i arg1 harg1 arg2 harg2 arg3 harg3 arg4 harg4 arg5 harg5 arg6 harg6 arg7 harg7 arg8 harg8 arg9 harg9 arg10 harg10 arg11 harg11 arg12 harg12 x1 x2 x3 x6 x7 x9 x10 x11 x12).2.2.2.1 = sumPieces arg1 harg1 arg9 harg9 x1 x9 (kStat i) := by
  rfl

set_option maxHeartbeats 4000000 in
theorem runOdd_10 : (runOdd c i arg1 harg1 arg2 harg2 arg3 harg3 arg4 harg4 arg5 harg5 arg6 harg6 arg7 harg7 arg8 harg8 arg9 harg9 arg10 harg10 arg11 harg11 arg12 harg12 x1 x2 x3 x6 x7 x9 x10 x11 x12).2.2.2.2.1 = amaxPieces arg1 harg1 arg10 harg10 x1 x10 (kStat i) := by
  rfl

set_option maxHeartbeats 4000000 in
theorem runEven_4 : (runEven c i arg1 harg1 arg2 harg2 arg3 harg3 arg4 harg4 arg5 harg5 arg6 harg6 arg7 harg7 arg8 harg8 arg9 harg9 arg10 harg10 arg11 harg11 arg12 harg12 x1 x2 x3 x6 x8 x9 x10 x11 x12).1 = bytePieces arg2 harg2 arg11 harg11 arg12 harg12 x2 x11 x12 (kQuant i) := by
  rfl

set_option maxHeartbeats 4000000 in
theorem runEven_6 : (runEven c i arg1 harg1 arg2 harg2 arg3 harg3 arg4 harg4 arg5 harg5 arg6 harg6 arg7 harg7 arg8 harg8 arg9 harg9 arg10 harg10 arg11 harg11 arg12 harg12 x1 x2 x3 x6 x8 x9 x10 x11 x12).2.1 = accPieces arg3 harg3 arg6 harg6 x3 x6 x8 arg8 harg8 (kDot i) := by
  rfl

set_option maxHeartbeats 4000000 in
theorem runEven_7 : (runEven c i arg1 harg1 arg2 harg2 arg3 harg3 arg4 harg4 arg5 harg5 arg6 harg6 arg7 harg7 arg8 harg8 arg9 harg9 arg10 harg10 arg11 harg11 arg12 harg12 x1 x2 x3 x6 x8 x9 x10 x11 x12).2.2.1 = valPieces arg2 harg2 arg11 harg11 arg12 harg12 x2 x11 x12 (kQuant i) := by
  rfl

set_option maxHeartbeats 4000000 in
theorem runEven_9 : (runEven c i arg1 harg1 arg2 harg2 arg3 harg3 arg4 harg4 arg5 harg5 arg6 harg6 arg7 harg7 arg8 harg8 arg9 harg9 arg10 harg10 arg11 harg11 arg12 harg12 x1 x2 x3 x6 x8 x9 x10 x11 x12).2.2.2.1 = sumPieces arg1 harg1 arg9 harg9 x1 x9 (kStat i) := by
  rfl

set_option maxHeartbeats 4000000 in
theorem runEven_10 : (runEven c i arg1 harg1 arg2 harg2 arg3 harg3 arg4 harg4 arg5 harg5 arg6 harg6 arg7 harg7 arg8 harg8 arg9 harg9 arg10 harg10 arg11 harg11 arg12 harg12 x1 x2 x3 x6 x8 x9 x10 x11 x12).2.2.2.2.1 = amaxPieces arg1 harg1 arg10 harg10 x1 x10 (kStat i) := by
  rfl

/-! ## The end of a block's statistics -/

/-- One over the root mean square of each row. -/
def rinvCol (x9 : Vec F S512x128 .f32) : FVec F S512x1 .f32 :=
  divf (broadcast S512x1 (Scalar.ofBits .f32 0x3F800000#32))
    (sqrt (addf (mulf (shapeCast S512x1 (multiReduction .add [1] S512 x9 0x00000000#32 reduces_S512x128_S512 (.inl rfl) rfl) shapeCasts_S512_S512x1)
      (broadcast S512x1 (Scalar.ofBits .f32 0x38800000#32))) (broadcast S512x1 (Scalar.ofBits .f32 0x3727C5AC#32))))

/-- The largest magnitude of each group of the normalised row. -/
def amaxFin (x9 x10 : Vec F S512x128 .f32) : FVec F S512x128 .f32 :=
  mulf x10 (broadcastTo S512x128 (rinvCol x9) broadcasts_S512x1_S512x128)

/-- The number whose exponent is the scale. -/
def scaleArg (a : FVec F S512x128 .f32) : FVec F S512x128 .f32 :=
  divf (mulf a (broadcast S512x128 (Scalar.ofBits .f32 0x3F6674CD#32))) (broadcast S512x128 (Scalar.ofBits .f32 0x40E00000#32))

/-- The two factors of each step of the search for the exponent. -/
def ladderSteps : List (BitVec 32 × BitVec 32) :=
  [(0x5F000000#32, 0x5F800000#32), (0x4F000000#32, 0x4F800000#32), (0x47000000#32, 0x47800000#32), (0x43000000#32, 0x43800000#32),
   (0x41000000#32, 0x41800000#32), (0x40000000#32, 0x40800000#32), (0x3F800000#32, 0x40000000#32)]

/-- The power of two just above `y`. -/
def ladder (y : FVec F S512x128 .f32) : FVec F S512x128 .f32 :=
  ladderSteps.foldl (fun a p => select (cmpf .oge y (mulf a (broadcast S512x128 (Scalar.ofBits .f32 p.1))))
      (mulf a (broadcast S512x128 (Scalar.ofBits .f32 p.2))) a)
    (select (cmpf .oge y (broadcast S512x128 (Scalar.ofBits .f32 0x3F000000#32)))
      (broadcast S512x128 (Scalar.ofBits .f32 0x3F800000#32)) (broadcast S512x128 (Scalar.ofBits .f32 0x00800000#32)))

/-- The scales of a block. -/
def scaleFin (x9 x10 : Vec F S512x128 .f32) : FVec F S512x128 .f32 :=
  select (cmpf .oeq (amaxFin x9 x10) (broadcast S512x128 (Scalar.ofBits .f32 0x00000000#32)))
    (broadcast S512x128 (Scalar.ofBits .f32 0x3F800000#32)) (ladder (scaleArg (amaxFin x9 x10)))

/-- One over the scales. -/
def invFin (x9 x10 : Vec F S512x128 .f32) : FVec F S512x128 .f32 :=
  shapeCast S512x128 (divf (broadcast S512x128 (Scalar.ofBits .f32 0x3F800000#32)) (scaleFin x9 x10)) shapeCasts_S512x128_S512x128

/-- One over the root mean square, across the lanes. -/
def rinvFin (x9 : Vec F S512x128 .f32) : FVec F S512x128 .f32 :=
  shapeCast S512x128 (broadcastTo S512x128 (shapeCast S512x1 (rinvCol x9) shapeCasts_S512x1_S512x1) broadcasts_S512x1_S512x128) shapeCasts_S512x128_S512x128

/-- The whole of a per-row table. -/
def whole : Rect S512x128 := Rect.unit (s := S512x128) ![0, 0] S512x128.size inb_S512x128_S512x128_0_0

set_option maxHeartbeats 4000000 in
theorem runFinish_5 : (runFinish c i arg1 harg1 arg2 harg2 arg3 harg3 arg4 harg4 arg5 harg5 arg6 harg6 arg7 harg7 arg8 harg8 arg9 harg9 arg10 harg10 arg11 harg11 arg12 harg12 x9 x10).1
    = [⟨whole, scaleFin (arg9.view.readAt (Elt F) whole.toLoadRect (harg9.unread x9)) (arg10.view.readAt (Elt F) whole.toLoadRect (harg10.unread x10))⟩] := by
  rfl

set_option maxHeartbeats 4000000 in
theorem runFinish_11 : (runFinish c i arg1 harg1 arg2 harg2 arg3 harg3 arg4 harg4 arg5 harg5 arg6 harg6 arg7 harg7 arg8 harg8 arg9 harg9 arg10 harg10 arg11 harg11 arg12 harg12 x9 x10).2.1
    = [⟨whole, invFin (arg9.view.readAt (Elt F) whole.toLoadRect (harg9.unread x9)) (arg10.view.readAt (Elt F) whole.toLoadRect (harg10.unread x10))⟩] := by
  rfl

set_option maxHeartbeats 4000000 in
theorem runFinish_12 : (runFinish c i arg1 harg1 arg2 harg2 arg3 harg3 arg4 harg4 arg5 harg5 arg6 harg6 arg7 harg7 arg8 harg8 arg9 harg9 arg10 harg10 arg11 harg11 arg12 harg12 x9 x10).2.2.1
    = [⟨whole, rinvFin (arg9.view.readAt (Elt F) whole.toLoadRect (harg9.unread x9))⟩] := by
  rfl

end Cert.ProjKernelIdeal.Own

end
-- ==== Proof.Quant.lean ====
/- The arithmetic of the quantiser over the extended reals: the power of two just above a number, found by comparing with powers
   of two or by a logarithm; the row's root mean square as a divisor or as a factor; and the largest magnitude of a scaled row. -/
module

public import Idealize.ShloMosaic.Lib.Pointwise
public import Idealize.ShloMosaic.Lib.IdealHost

@[expose] public section

set_option maxRecDepth 16384

noncomputable section

open Idealize.ShloMosaic

namespace Cert.Quant

/-- The power of two `2 ^ n`. -/
def two (n : ℤ) : EReal := ((((2 : ℝ) ^ n) : ℝ) : EReal)

theorem two_pos (n : ℤ) : (0 : EReal) < two n := by
  unfold two; exact_mod_cast zpow_pos (by norm_num : (0 : ℝ) < 2) n

theorem two_mul (a b : ℤ) : two a * two b = two (a + b) := by
  unfold two; rw [← EReal.coe_mul, zpow_add₀ (by norm_num : (2 : ℝ) ≠ 0)]

theorem two_zero : two 0 = 1 := by simp [two]

theorem div_two (n : ℤ) : Ideal.div 1 (two n) = two (-n) := by
  unfold Ideal.div
  rw [if_neg (two_pos n).ne', one_mul]
  unfold two
  rw [← EReal.coe_inv, zpow_neg]

/-- Dividing one by a power of two twice gives it back. -/
theorem div_div_two (n : ℤ) : Ideal.div 1 (Ideal.div 1 (two n)) = two n := by
  rw [div_two, div_two, neg_neg]

/-! ## The constants -/

theorem bits_half : Ideal.ofBits .f32 0x3F000000#32 = two (-1) := by
  unfold two; simp [Ideal.ofBits, Ideal.ieee, -EReal.coe_mul, -EReal.coe_pow]; norm_num
theorem bits_min : Ideal.ofBits .f32 0x00800000#32 = two (-126) := by
  unfold two; simp [Ideal.ofBits, Ideal.ieee, -EReal.coe_mul, -EReal.coe_pow]; norm_num
theorem bits_63 : Ideal.ofBits .f32 0x5F000000#32 = two (63) := by
  unfold two; simp [Ideal.ofBits, Ideal.ieee, -EReal.coe_mul, -EReal.coe_pow]; norm_num
theorem bits_64 : Ideal.ofBits .f32 0x5F800000#32 = two (64) := by
  unfold two; simp [Ideal.ofBits, Ideal.ieee, -EReal.coe_mul, -EReal.coe_pow]; norm_num
theorem bits_31 : Ideal.ofBits .f32 0x4F000000#32 = two (31) := by
  unfold two; simp [Ideal.ofBits, Ideal.ieee, -EReal.coe_mul, -EReal.coe_pow]; norm_num
theorem bits_32 : Ideal.ofBits .f32 0x4F800000#32 = two (32) := by
  unfold two; simp [Ideal.ofBits, Ideal.ieee, -EReal.coe_mul, -EReal.coe_pow]; norm_num
theorem bits_15 : Ideal.ofBits .f32 0x47000000#32 = two (15) := by
  unfold two; simp [Ideal.ofBits, Ideal.ieee, -EReal.coe_mul, -EReal.coe_pow]; norm_num
theorem bits_16 : Ideal.ofBits .f32 0x47800000#32 = two (16) := by
  unfold two; simp [Ideal.ofBits, Ideal.ieee, -EReal.coe_mul, -EReal.coe_pow]; norm_num
theorem bits_7 : Ideal.ofBits .f32 0x43000000#32 = two (7) := by
  unfold two; simp [Ideal.ofBits, Ideal.ieee, -EReal.coe_mul, -EReal.coe_pow]; norm_num
theorem bits_8 : Ideal.ofBits .f32 0x43800000#32 = two (8) := by
  unfold two; simp [Ideal.ofBits, Ideal.ieee, -EReal.coe_mul, -EReal.coe_pow]; norm_num
theorem bits_3 : Ideal.ofBits .f32 0x41000000#32 = two (3) := by
  unfold two; simp [Ideal.ofBits, Ideal.ieee, -EReal.coe_mul, -EReal.coe_pow]; norm_num
theorem bits_4 : Ideal.ofBits .f32 0x41800000#32 = two (4) := by
  unfold two; simp [Ideal.ofBits, Ideal.ieee, -EReal.coe_mul, -EReal.coe_pow]; norm_num
theorem bits_1 : Ideal.ofBits .f32 0x40000000#32 = two (1) := by
  unfold two; simp [Ideal.ofBits, Ideal.ieee, -EReal.coe_mul, -EReal.coe_pow]; norm_num
theorem bits_2 : Ideal.ofBits .f32 0x40800000#32 = two (2) := by
  unfold two; simp [Ideal.ofBits, Ideal.ieee, -EReal.coe_mul, -EReal.coe_pow]; norm_num
theorem bits_0 : Ideal.ofBits .f32 0x3F800000#32 = two (0) := by
  unfold two; simp [Ideal.ofBits, Ideal.ieee, -EReal.coe_mul, -EReal.coe_pow]; norm_num
theorem bits_14 : Ideal.ofBits .f32 0x46800000#32 = two (14) := by
  unfold two; simp [Ideal.ofBits, Ideal.ieee, -EReal.coe_mul, -EReal.coe_pow]; norm_num
theorem bits_neg14 : Ideal.ofBits .f32 0x38800000#32 = two (-14) := by
  unfold two; simp [Ideal.ofBits, Ideal.ieee, -EReal.coe_mul, -EReal.coe_pow]; norm_num
theorem bits_bot : Ideal.ofBits .f32 0xFF800000#32 = ⊥ := by
  simp [Ideal.ofBits, Ideal.ieee]
theorem bits_127 : Ideal.ofBits .f32 0x42FE0000#32 = ((127 : ℝ) : EReal) := by
  simp [Ideal.ofBits, Ideal.ieee, -EReal.coe_mul, -EReal.coe_pow]; norm_num
theorem bits_neg126 : Ideal.ofBits .f32 0xC2FC0000#32 = ((-126 : ℝ) : EReal) := by
  simp [Ideal.ofBits, Ideal.ieee, -EReal.coe_mul, -EReal.coe_pow]; norm_num
theorem bits_eps : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul, -EReal.coe_pow]

/-! ## The power of two just above a number -/

/-- One step of a search by comparisons: up by the factor `q` if the number is at least `p` times what is reached. -/
def climb (y a p q : EReal) : EReal := if a * p ≤ y then a * q else a

/-- The factors of the steps. -/
def factors : List (BitVec 32 × BitVec 32) :=
  [(0x5F000000#32, 0x5F800000#32), (0x4F000000#32, 0x4F800000#32), (0x47000000#32, 0x47800000#32), (0x43000000#32, 0x43800000#32),
   (0x41000000#32, 0x41800000#32), (0x40000000#32, 0x40800000#32), (0x3F800000#32, 0x40000000#32)]

/-- The power of two that the search finds. -/
def search (y : EReal) : EReal :=
  factors.foldl (fun a p => climb y a (Ideal.ofBits .f32 p.1) (Ideal.ofBits .f32 p.2))
    (if Ideal.ofBits .f32 0x3F000000#32 ≤ y then 1 else Ideal.ofBits .f32 0x00800000#32)

/-- The exponent held to the finite range. -/
def clip (n : ℤ) : ℤ := min 127 (max (-126) n)

/-- `L` is the largest exponent with `2 ^ L ≤ y`, as far as the range can tell. -/
def Log (y : EReal) (L : ℤ) : Prop := ∀ n : ℤ, -127 ≤ n → n ≤ 126 → (two n ≤ y ↔ n ≤ L)

/-- What is reached leaves the exponent sought within the next `K`. -/
def Near (L K : ℤ) (a : EReal) : Prop :=
  ∃ n, a = two n ∧ -126 ≤ n ∧ n ≤ clip (L + 1) ∧ clip (L + 1) < n + K ∧ n + K ≤ 128

theorem climb_near (y : EReal) (L : ℤ) (h : Log y L) (K : ℤ) (hK : 1 ≤ K) (a : EReal) (ha : Near L (K + K) a) :
    Near L K (climb y a (two (K - 1)) (two K)) := by
  obtain ⟨n, rfl, h1, h2, h3, h4⟩ := ha
  unfold climb
  rw [two_mul, two_mul]
  unfold clip at h2 h3
  by_cases hc : n + (K - 1) ≤ L
  · rw [if_pos ((h _ (by omega) (by omega)).2 hc)]
    exact ⟨n + K, rfl, by omega, by unfold clip; omega, by unfold clip; omega, by omega⟩
  · rw [if_neg fun hh => hc ((h _ (by omega) (by omega)).1 hh)]
    exact ⟨n, rfl, by omega, by unfold clip; omega, by unfold clip; omega, by omega⟩

theorem search_eq (y : EReal) (L : ℤ) (h : Log y L) : search y = two (clip (L + 1)) := by
  have h0 : Near L 128 (if two (-1) ≤ y then 1 else two (-126)) := by
    by_cases hc : (-1 : ℤ) ≤ L
    · rw [if_pos ((h (-1) (by norm_num) (by norm_num)).2 hc)]
      exact ⟨0, two_zero.symm, by omega, by unfold clip; omega, by unfold clip; omega, by omega⟩
    · rw [if_neg fun hh => hc ((h (-1) (by norm_num) (by norm_num)).1 hh)]
      exact ⟨-126, rfl, by omega, by unfold clip; omega, by unfold clip; omega, by omega⟩
  have h1 := climb_near y L h 64 (by norm_num) _ h0
  have h2 := climb_near y L h 32 (by norm_num) _ h1
  have h3 := climb_near y L h 16 (by norm_num) _ h2
  have h4 := climb_near y L h 8 (by norm_num) _ h3
  have h5 := climb_near y L h 4 (by norm_num) _ h4
  have h6 := climb_near y L h 2 (by norm_num) _ h5
  obtain ⟨n, hn, -, h7, h8, -⟩ := climb_near y L h 1 (by norm_num) _ h6
  have e : clip (L + 1) = n := by omega
  rw [e, ← hn]
  unfold search factors
  simp only [List.foldl, bits_half, bits_min, bits_63, bits_64, bits_31, bits_32, bits_15, bits_16, bits_7, bits_8, bits_3, bits_4, bits_1, bits_2, bits_0]
  norm_num

/-- The exponent that a logarithm gives, held to the range. -/
def expo (y : EReal) : EReal :=
  min ((127 : ℝ) : EReal) (max ((-126 : ℝ) : EReal)
    (Ideal.liftRound Int.floor (Ideal.div (Ideal.log y) (Ideal.log (two 1))) + 1))

theorem log_two : Ideal.log (two 1) = ((Real.log 2 : ℝ) : EReal) := by
  show (if (2 : ℝ) ^ (1 : ℤ) ≤ 0 then (⊥ : EReal) else ((Real.log ((2 : ℝ) ^ (1 : ℤ)) : ℝ) : EReal)) = _
  norm_num

theorem clip_coe (L : ℤ) : min ((127 : ℝ) : EReal) (max ((-126 : ℝ) : EReal) (((L : ℝ) : EReal) + 1)) = (((clip (L + 1) : ℤ) : ℝ) : EReal) := by
  unfold clip
  have e : (((L : ℝ) : EReal) + 1) = (((L + 1 : ℤ) : ℝ) : EReal) := by push_cast; rfl
  have hm : Monotone fun n : ℤ => (((n : ℝ)) : EReal) := fun a b h => by
    show ((a : ℝ) : EReal) ≤ ((b : ℝ) : EReal); exact_mod_cast h
  rw [e, hm.map_min, hm.map_max]
  norm_num

/-- Every number has such an exponent, and the logarithm gives it. -/
theorem expo_log (y : EReal) : ∃ L, Log y L ∧ expo y = (((clip (L + 1) : ℤ) : ℝ) : EReal) := by
  have hl : (0 : ℝ) < Real.log 2 := Real.log_pos (by norm_num)
  have hl' : ((Real.log 2 : ℝ) : EReal) ≠ 0 := by exact_mod_cast hl.ne'
  have low : y ≤ 0 → ∃ L, Log y L ∧ expo y = (((clip (L + 1) : ℤ) : ℝ) : EReal) := fun hy => by
    refine ⟨-1000, fun n h1 _ => ⟨fun hh => absurd (lt_of_lt_of_le (two_pos n) (hh.trans hy)) (lt_irrefl _), fun hh => by omega⟩, ?_⟩
    have : Ideal.log y = ⊥ := by
      induction y with
      | bot => rfl
      | top => exact absurd hy (by simp)
      | coe r => exact if_pos (by exact_mod_cast hy)
    unfold expo
    rw [this, log_two]
    unfold Ideal.div
    rw [if_neg hl', ← EReal.coe_inv, EReal.bot_mul_coe_of_pos (inv_pos.2 hl), show Ideal.liftRound Int.floor ⊥ = ⊥ from rfl]
    unfold clip
    norm_num
    exact_mod_cast (by norm_num : (-126 : ℝ) ≤ 127)
  induction y with
  | bot => exact low bot_le
  | top =>
    refine ⟨1000, fun n _ h1 => ⟨fun _ => by omega, fun _ => le_top⟩, ?_⟩
    unfold expo
    rw [log_two]
    unfold Ideal.div
    rw [if_neg hl', ← EReal.coe_inv, show Ideal.log ⊤ = ⊤ from rfl, EReal.top_mul_coe_of_pos (inv_pos.2 hl),
      show Ideal.liftRound Int.floor ⊤ = ⊤ from rfl]
    unfold clip
    norm_num
    exact Or.inr (by rw [show (⊤ : EReal) + 1 = ⊤ from rfl]; exact le_top)
  | coe r =>
    by_cases hr : r ≤ 0
    · exact low (by exact_mod_cast hr)
    · have hr' : 0 < r := not_le.1 hr
      refine ⟨⌊Real.log r / Real.log 2⌋, fun n _ _ => ?_, ?_⟩
      · unfold two
        rw [EReal.coe_le_coe_iff, Int.le_floor, le_div_iff₀ hl, ← Real.log_zpow, Real.log_le_log_iff (by positivity) hr']
      · unfold expo
        rw [log_two, show Ideal.log (r : EReal) = ((Real.log r : ℝ) : EReal) from if_neg hr]
        unfold Ideal.div
        rw [if_neg hl', ← EReal.coe_inv, ← EReal.coe_mul, ← div_eq_mul_inv]
        exact clip_coe _

theorem pow_two (n : ℤ) : Ideal.pow (two 1) ((n : ℝ) : EReal) = two n := by
  show ((Real.rpow ((2 : ℝ) ^ (1 : ℤ)) (n : ℝ) : ℝ) : EReal) = _
  unfold two
  rw [zpow_one]
  exact congrArg _ (Real.rpow_intCast 2 n)

/-- The scale of a group whose largest magnitude is `a`, by the search, -/
def scaleS (a : EReal) : EReal :=
  if a = 0 then 1 else search (Ideal.div (a * Ideal.ofBits .f32 0x3F6674CD#32) (Ideal.ofBits .f32 0x40E00000#32))

/-- and its exponent by the logarithm. -/
def expoR (a : EReal) : EReal :=
  if a = 0 then 0 else expo (Ideal.div (a * Ideal.ofBits .f32 0x3F6674CD#32) (Ideal.ofBits .f32 0x40E00000#32))

theorem scale_two (a : EReal) : ∃ n : ℤ, scaleS a = two n ∧ expoR a = ((n : ℝ) : EReal) := by
  unfold scaleS expoR
  by_cases h : a = 0
  · rw [if_pos h, if_pos h]; exact ⟨0, two_zero.symm, by simp⟩
  · rw [if_neg h, if_neg h]
    obtain ⟨L, h1, h2⟩ := expo_log (Ideal.div (a * Ideal.ofBits .f32 0x3F6674CD#32) (Ideal.ofBits .f32 0x40E00000#32))
    exact ⟨_, search_eq _ L h1, h2⟩

/-- The scale is two to the exponent, -/
theorem scale_eq (a : EReal) : Ideal.pow (two 1) (expoR a) = scaleS a := by
  obtain ⟨n, h1, h2⟩ := scale_two a
  rw [h1, h2, pow_two]

/-- its inverse two to minus the exponent, -/
theorem inv_eq (a : EReal) : Ideal.pow (two 1) (-expoR a) = Ideal.div 1 (scaleS a) := by
  obtain ⟨n, h1, h2⟩ := scale_two a
  rw [h1, h2, div_two, ← EReal.coe_neg, ← Int.cast_neg, pow_two]

/-- and inverting twice gives it back. -/
theorem inv_inv (a : EReal) : Ideal.div 1 (Ideal.div 1 (scaleS a)) = scaleS a := by
  obtain ⟨n, h1, -⟩ := scale_two a
  rw [h1, div_div_two]

/-! ## The root mean square -/

/-- One over the root mean square of a row whose squares sum to `S`. -/
def rinv (S : EReal) : EReal := Ideal.div 1 (Ideal.sqrt (S * Ideal.ofBits .f32 0x38800000#32 + Ideal.ofBits .f32 0x3727C5AC#32))

theorem mean_eq (S : EReal) : Ideal.div S (Ideal.ofBits .f32 0x46800000#32) = S * Ideal.ofBits .f32 0x38800000#32 := by
  rw [bits_14, bits_neg14]
  unfold Ideal.div
  rw [if_neg (two_pos 14).ne']
  unfold two
  rw [← EReal.coe_inv, ← zpow_neg]

theorem sqrt_pos (S : EReal) (hS : 0 ≤ S) :
    0 < Ideal.sqrt (S * Ideal.ofBits .f32 0x38800000#32 + Ideal.ofBits .f32 0x3727C5AC#32) := by
  obtain ⟨e, he, h⟩ := bits_eps
  rw [h, bits_neg14]
  induction S with
  | bot => exact absurd hS (by simp)
  | top =>
    unfold two
    rw [EReal.top_mul_coe_of_pos (by positivity), EReal.top_add_coe]
    exact EReal.zero_lt_top
  | coe s =>
    have hs : 0 ≤ s := by exact_mod_cast hS
    unfold two
    rw [← EReal.coe_mul, ← EReal.coe_add]
    have : 0 < s * (2 : ℝ) ^ (-14 : ℤ) + e := by positivity
    rw [show Ideal.sqrt ((s * (2 : ℝ) ^ (-14 : ℤ) + e : ℝ) : EReal) = ((Real.sqrt (s * (2 : ℝ) ^ (-14 : ℤ) + e) : ℝ) : EReal) from
      if_neg this.le.not_gt]
    exact_mod_cast Real.sqrt_pos.2 this

/-- Dividing by the root mean square is multiplying by `rinv`. -/
theorem div_rms (x S : EReal) (hS : 0 ≤ S) :
    Ideal.div x (Ideal.sqrt (Ideal.div S (Ideal.ofBits .f32 0x46800000#32) + Ideal.ofBits .f32 0x3727C5AC#32)) = x * rinv S := by
  rw [mean_eq]
  unfold rinv Ideal.div
  rw [if_neg (sqrt_pos S hS).ne', if_neg (sqrt_pos S hS).ne', one_mul]

theorem rinv_nonneg (S : EReal) (hS : 0 ≤ S) : 0 ≤ rinv S := by
  unfold rinv Ideal.div
  rw [if_neg (sqrt_pos S hS).ne', one_mul]
  exact EReal.inv_nonneg_of_nonneg (sqrt_pos S hS).le

theorem sq_nonneg (x : EReal) : 0 ≤ x * x := by
  rcases le_total 0 x with h | h
  · exact mul_nonneg h h
  · exact EReal.mul_nonneg_iff.2 (Or.inr ⟨h, h⟩)

/-! ## The largest magnitude -/

/-- The largest magnitude of 128 numbers. -/
def amax (f : Fin 128 → EReal) : EReal :=
  Finset.fold max (Ideal.ofBits .f32 0xFF800000#32) (fun x => FloatOps.absf (F := Ideal) (φ := .f32) (f x)) Finset.univ

theorem abs_mul (x r : EReal) (hr : 0 ≤ r) : FloatOps.absf (F := Ideal) (φ := .f32) (x * r) = FloatOps.absf (F := Ideal) (φ := .f32) x * r := by
  show max (x * r) (-(x * r)) = max x (-x) * r
  rw [← EReal.neg_mul]
  have hm : Monotone fun v : EReal => v * r := fun a b hab => mul_le_mul_of_nonneg_right hab hr
  exact (hm.map_max).symm

theorem abs_nonneg (x : EReal) : (0 : EReal) ≤ FloatOps.absf (F := Ideal) (φ := .f32) x := by
  show 0 ≤ max x (-x)
  rcases le_total 0 x with h | h
  · exact le_max_of_le_left h
  · exact le_max_of_le_right (EReal.neg_nonneg.2 h)

/-- Scaling by a number that is not negative scales the largest magnitude. -/
theorem amax_mul (f : Fin 128 → EReal) (r : EReal) (hr : 0 ≤ r) : amax (fun x => f x * r) = amax f * r := by
  unfold amax
  have hm : Monotone fun v : EReal => v * r := fun a b hab => mul_le_mul_of_nonneg_right hab hr
  rw [← Finset.fold_hom (op := max) (op' := max) (m := fun v : EReal => v * r) (fun a b => hm.map_max)]
  simp only [abs_mul _ r hr]
  refine le_antisymm ?_ ?_
  · refine Finset.fold_max_le _ |>.2 ⟨?_, fun x hx => (Finset.le_fold_max _).2 (Or.inr ⟨x, hx, le_rfl⟩)⟩
    rw [bits_bot]; exact bot_le
  · refine Finset.fold_max_le _ |>.2 ⟨?_, fun x hx => (Finset.le_fold_max _).2 (Or.inr ⟨x, hx, le_rfl⟩)⟩
    refine (Finset.le_fold_max _).2 (Or.inr ⟨0, Finset.mem_univ _, ?_⟩)
    rw [bits_bot]
    exact mul_le_mul_of_nonneg_right bot_le hr

/-- The code of a value. -/
def code (v : EReal) : EReal := min (((7#32).toInt : ℝ) : EReal) (max (((4294967289#32).toInt : ℝ) : EReal) (Ideal.liftRound Ideal.roundHalfEven v))

end Cert.Quant
end
-- ==== Proof.Proj.Spec.lean ====
/- What the projection computes, entry by entry, as functions of the activations and the packed weights. -/
module

public import proofs.«01_k».proof.Proof.Nibbles
public import proofs.«01_k».proof.Proof.Quant

@[expose] public section

set_option maxRecDepth 16384

noncomputable section

open Idealize.ShloMosaic

namespace Cert.ProjSpec

variable (X : Fin 3072 → Fin 16384 → EReal) (W : Fin 8192 → Fin 2304 → BitVec 8)

/-- The sum of the squares of a row. -/
def ssq (R : Fin 3072) : EReal := ∑ c, X R c * X R c

/-- The largest magnitude of group `l` of a row. -/
def top (R : Fin 3072) (l : Fin 128) : EReal := Quant.amax fun x => X R ⟨128 * l.val + x.val, by omega⟩

/-- The scale of a group. -/
def scl (R : Fin 3072) (l : Fin 128) : EReal := Quant.scaleS (top X R l * Quant.rinv (ssq X R))

/-- The inverse scale of a group. -/
def inv (R : Fin 3072) (l : Fin 128) : EReal := Ideal.div 1 (scl X R l)

/-- The code of an entry, as a number. -/
def cod (R : Fin 3072) (c : Fin 16384) : EReal :=
  Quant.code (X R c * Quant.rinv (ssq X R) * inv X R ⟨c.val / 128, by omega⟩)

/-- The code of an entry, as a byte. -/
def byt (R : Fin 3072) (c : Fin 16384) : BitVec 8 := BitVec.setWidth 8 (Ideal.fptosi 32 (cod X R c))

/-- The quantised value of an entry. -/
def val (R : Fin 3072) (c : Fin 16384) : EReal := cod X R c * scl X R ⟨c.val / 128, by omega⟩

/-- The weight of a channel: an even channel's in the low nibble, an odd one's in the high. -/
def wt (c : Fin 16384) (n : Fin 2304) : EReal :=
  if c.val % 2 = 0 then Nibbles.lo (W ⟨c.val / 2, by omega⟩ n) else Nibbles.hi (W ⟨c.val / 2, by omega⟩ n)

/-- The product of a row with a column. -/
def acc (R : Fin 3072) (n : Fin 2304) : EReal := ∑ c, val X R c * wt W c n

theorem ssq_nonneg (R : Fin 3072) : 0 ≤ ssq X R := Finset.sum_nonneg fun c _ => Quant.sq_nonneg _

/-- Dividing one by the inverse scale gives the scale. -/
theorem div_inv (R : Fin 3072) (l : Fin 128) : Ideal.div 1 (inv X R l) = scl X R l := Quant.inv_inv _

theorem wt_even (k : Fin 8192) (n : Fin 2304) : wt W ⟨2 * k.val, by omega⟩ n = Nibbles.lo (W k n) := by
  unfold wt
  rw [if_pos (show 2 * k.val % 2 = 0 by omega)]
  exact congrArg (fun j => Nibbles.lo (W j n)) (Fin.ext (show 2 * k.val / 2 = k.val by omega))

theorem wt_odd (k : Fin 8192) (n : Fin 2304) : wt W ⟨1 + 2 * k.val, by omega⟩ n = Nibbles.hi (W k n) := by
  unfold wt
  rw [if_neg (show ¬ (1 + 2 * k.val) % 2 = 0 by omega)]
  exact congrArg (fun j => Nibbles.hi (W j n)) (Fin.ext (show (1 + 2 * k.val) / 2 = k.val by omega))

/-- The product by even and odd channels. -/
theorem acc_even_odd (R : Fin 3072) (n : Fin 2304) : acc X W R n
    = (∑ k : Fin 8192, val X R ⟨2 * k.val, by omega⟩ * Nibbles.lo (W k n))
      + ∑ k : Fin 8192, val X R ⟨1 + 2 * k.val, by omega⟩ * Nibbles.hi (W k n) := by
  unfold acc
  rw [Nibbles.sum_even_odd 8192 16384 rfl]
  simp only [wt_even, wt_odd]

end Cert.ProjSpec
end
-- ==== Proof.Proj.Values.lean ====
/- The tiles of Tiles.lean over the extended reals, read at one entry. -/
module

public import proofs.«01_k».proof.Proof.Proj.Tiles
public import proofs.«01_k».proof.Proof.Proj.Spec
public import Idealize.ShloMosaic.Lib.Pointwise
public import Idealize.ShloMosaic.Lib.KernelVsHost

@[expose] public section

set_option maxRecDepth 16384

noncomputable section

namespace Cert.ProjKernelIdeal.Own

open Cert.ProjKernelIdeal.Gen
open Idealize.ShloMosaic Idealize.ShloMosaic.TcCoe Idealize.SL.Sem

/-- The lane that a rotation by `128 - 16k` brings to lane `g`. -/
theorem rot_back : ∀ (k : Fin 8) (g : Fin 16),
    (g.val + 128 - (Scalar.remsi (Scalar.subi 128#32 (Scalar.muli (BitVec.ofNat 32 k.val) 16#32)) 128#32).toNat % 128) % 128 = g.val + 16 * k.val := by
  decide

/-- The lane that a rotation by `16k` brings to lane `b`. -/
theorem rot_forth : ∀ (k : Fin 8) (b : Fin 128), b.val / 16 = k.val →
    (b.val + 128 - (Scalar.muli (BitVec.ofNat 32 k.val) 16#32).toNat % 128) % 128 = b.val - 16 * k.val := by
  decide +kernel

theorem lane_chunk : ∀ (k : Fin 8) (b : Fin 128),
    IntOp.cmpi .eq (IntOp.divsi .vector (BitVec.ofNat 32 b.val) 16#32) (BitVec.ofNat 32 k.val) = if b.val / 16 = k.val then 1#1 else 0#1 := by
  decide +kernel

theorem lane_eq : ∀ (b : Fin 128) (g : Fin 16),
    IntOp.cmpi .eq (BitVec.ofNat 32 b.val) (BitVec.ofNat 32 g.val) = if b.val = g.val then 1#1 else 0#1 := by
  decide +kernel

theorem chunk_zero : ∀ k : Fin 8, Scalar.cmpi .eq (BitVec.ofNat 32 k.val) 0#32 = if k.val = 0 then 1#1 else 0#1 := by
  decide

theorem invTile_at (k : Fin 8) (g : Fin 16) (inv : Vec Ideal S128x128 .f32) (a b : Fin 128) :
    invTile (F := Ideal) (BitVec.ofNat 32 k.val) g inv (ix2 a b) = inv (ix2 a ⟨g.val + 16 * k.val, by omega⟩) := by
  pointwise [invTile]
  simp only [rot_back]

theorem codeTile_at (k : Fin 8) (g : Fin 16) (inv r : Vec Ideal S128x128 .f32) (x : Vec Ideal S128x128 .bf16) (a b : Fin 128) :
    codeTile (F := Ideal) (BitVec.ofNat 32 k.val) g inv r x (ix2 a b)
      = Quant.code (x (ix2 a b) * r (ix2 a b) * inv (ix2 a ⟨g.val + 16 * k.val, by omega⟩)) := by
  rw [← invTile_at k g inv a b]
  pointwise [codeTile, Quant.code]

theorem byteTile_at (k : Fin 8) (g : Fin 16) (inv r : Vec Ideal S128x128 .f32) (x : Vec Ideal S128x128 .bf16) (a b : Fin 128) :
    byteTile (F := Ideal) (BitVec.ofNat 32 k.val) g inv r x (ix2 a b)
      = BitVec.setWidth 8 (Ideal.fptosi 32 (Quant.code (x (ix2 a b) * r (ix2 a b) * inv (ix2 a ⟨g.val + 16 * k.val, by omega⟩)))) := by
  rw [← codeTile_at]
  pointwise [byteTile]
  rfl

theorem valTile_at (k : Fin 8) (g : Fin 16) (inv r : Vec Ideal S128x128 .f32) (x : Vec Ideal S128x128 .bf16) (a b : Fin 128) :
    valTile (F := Ideal) (BitVec.ofNat 32 k.val) g inv r x (ix2 a b)
      = Quant.code (x (ix2 a b) * r (ix2 a b) * inv (ix2 a ⟨g.val + 16 * k.val, by omega⟩))
        * Ideal.div 1 (inv (ix2 a ⟨g.val + 16 * k.val, by omega⟩)) := by
  rw [← codeTile_at, ← invTile_at k g inv a b]
  pointwise [valTile]

theorem sqTile_at (X : Fin 16 → Vec Ideal S128x128 .bf16) (a b : Fin 128) :
    sqTile (F := Ideal) X (ix2 a b) = ∑ g, X g (ix2 a b) * X g (ix2 a b) := by
  pointwise [sqTile, groups, List.foldl]
  simp only [Fin.sum_univ_castSucc, Fin.sum_univ_zero, zero_add]
  rfl

theorem sumTile_at (k : Fin 8) (X : Fin 16 → Vec Ideal S128x128 .bf16) (old : Vec Ideal S128x128 .f32) (a b : Fin 128) :
    sumTile (F := Ideal) (BitVec.ofNat 32 k.val) X old (ix2 a b)
      = if k.val = 0 then ∑ g, X g (ix2 a b) * X g (ix2 a b) else old (ix2 a b) + ∑ g, X g (ix2 a b) * X g (ix2 a b) := by
  rw [← sqTile_at]
  unfold sumTile
  rw [chunk_zero]
  by_cases h : k.val = 0
  · rw [if_pos h, if_pos h]
    pointwise []
  · rw [if_neg h, if_neg h]
    pointwise []

theorem maxTile_at (X : Fin 16 → Vec Ideal S128x128 .bf16) (a : Fin 128) (b : Fin 16) :
    maxTile (F := Ideal) X (ix2 a ⟨b.val, by omega⟩) = Quant.amax fun x => X b (ix2 a x) := by
  pointwise [maxTile, groups, List.foldl, laneTile]
  fin_cases b <;> rfl

theorem amaxTile_at (k : Fin 8) (X : Fin 16 → Vec Ideal S128x128 .bf16) (old : Vec Ideal S128x128 .f32) (a b : Fin 128) :
    amaxTile (F := Ideal) (BitVec.ofNat 32 k.val) X old (ix2 a b)
      = if h : b.val / 16 = k.val then Quant.amax fun x => X ⟨b.val - 16 * k.val, by omega⟩ (ix2 a x) else old (ix2 a b) := by
  pointwise [amaxTile, laneTile]
  rw [lane_chunk]
  by_cases h : b.val / 16 = k.val
  · rw [if_pos h, dif_pos h]
    simp only [rot_forth k b h]
    exact maxTile_at X a ⟨b.val - 16 * k.val, by omega⟩
  · rw [if_neg h, dif_neg h]
    rfl

/-- The two bytes' rows, unpacked. -/
theorem weightTile_even (w : Vec Ideal S1024x256 .i8) (k : Fin 1024) (n : Fin 256) :
    weightTile (F := Ideal) w (ix2 ⟨2 * k.val, by omega⟩ n) = Nibbles.lo (w (ix2 k n)) := by
  have h1 : (⟨2 * k.val / 2, by omega⟩ : Fin 1024) = k := Fin.ext (show 2 * k.val / 2 = k.val by omega)
  have h2 : 2 * k.val % 2 < 1 := by omega
  pointwise [weightTile]
  simp only [h1, h2, dite_true, Nibbles.lo_shift, Nibbles.lo]

theorem weightTile_odd (w : Vec Ideal S1024x256 .i8) (k : Fin 1024) (n : Fin 256) :
    weightTile (F := Ideal) w (ix2 ⟨1 + 2 * k.val, by omega⟩ n) = Nibbles.hi (w (ix2 k n)) := by
  have h1 : (⟨(1 + 2 * k.val) / 2, by omega⟩ : Fin 1024) = k := Fin.ext (show (1 + 2 * k.val) / 2 = k.val by omega)
  have h2 : ¬ (1 + 2 * k.val) % 2 < 1 := by omega
  pointwise [weightTile]
  simp only [h1, h2, dite_false, Nibbles.hi_shift, Nibbles.hi]

theorem dotTile_at (k : Fin 8) (v : Vec Ideal S512x2048 .bf16) (w : Vec Ideal S1024x256 .i8) (old : Vec Ideal S512x256 .f32) (a : Fin 512) (b : Fin 256) :
    dotTile (F := Ideal) (BitVec.ofNat 32 k.val) v w old (ix2 a b)
      = if k.val = 0 then ∑ x, v (ix2 a x) * weightTile w (ix2 x b) else old (ix2 a b) + ∑ x, v (ix2 a x) * weightTile w (ix2 x b) := by
  unfold dotTile
  rw [chunk_zero]
  by_cases h : k.val = 0
  · rw [if_pos h, if_pos h]
    pointwise []
  · rw [if_neg h, if_neg h]
    pointwise []

theorem rinvCol_at (x9 : Vec Ideal S512x128 .f32) (a : Fin 512) :
    rinvCol (F := Ideal) x9 (ix2 a 0) = Quant.rinv (∑ x, x9 (ix2 a x)) := by
  pointwise [rinvCol, Quant.rinv]

theorem rinvFin_at (x9 : Vec Ideal S512x128 .f32) (a : Fin 512) (b : Fin 128) :
    rinvFin (F := Ideal) x9 (ix2 a b) = Quant.rinv (∑ x, x9 (ix2 a x)) := by
  rw [← rinvCol_at]
  pointwise [rinvFin]

theorem amaxFin_at (x9 x10 : Vec Ideal S512x128 .f32) (a : Fin 512) (b : Fin 128) :
    amaxFin (F := Ideal) x9 x10 (ix2 a b) = x10 (ix2 a b) * Quant.rinv (∑ x, x9 (ix2 a x)) := by
  rw [← rinvCol_at]
  pointwise [amaxFin]

theorem scaleArg_at (y : Vec Ideal S512x128 .f32) (a : Fin 512) (b : Fin 128) :
    scaleArg (F := Ideal) y (ix2 a b) = Ideal.div (y (ix2 a b) * Ideal.ofBits .f32 0x3F6674CD#32) (Ideal.ofBits .f32 0x40E00000#32) := by
  pointwise [scaleArg]

/-- A choice by a comparison, -/
theorem select_ge (y z p q : EReal) : Scalar.select (FloatOps.cmpf (F := Ideal) (φ := .f32) .oge y z) p q = if z ≤ y then p else q := by
  show (if BitVec.ofBool (decide (z ≤ y)) = 1#1 then p else q) = _
  by_cases h : z ≤ y <;> simp [h]
/-- or by a test against another number. -/
theorem select_eq (y z p q : EReal) : Scalar.select (FloatOps.cmpf (F := Ideal) (φ := .f32) .oeq y z) p q = if y = z then p else q := by
  show (if BitVec.ofBool (decide (y = z)) = 1#1 then p else q) = _
  by_cases h : y = z <;> simp [h]

/-- One step of the search at one entry. -/
theorem climb_at (y z : FVec Ideal S512x128 .f32) (p q : BitVec 32) (i : S512x128.Idx) :
    select (cmpf .oge y (mulf z (broadcast S512x128 (Scalar.ofBits (F := Ideal) .f32 p)))) (mulf z (broadcast S512x128 (Scalar.ofBits (F := Ideal) .f32 q))) z i
      = Quant.climb (y i) (z i) (Ideal.ofBits .f32 p) (Ideal.ofBits .f32 q) :=
  select_ge _ _ _ _

theorem bits_one : Ideal.ofBits .f32 0x3F800000#32 = 1 := by rw [Quant.bits_0, Quant.two_zero]
theorem bits_zero : Ideal.ofBits .f32 0x00000000#32 = 0 := by simp [Ideal.ofBits, Ideal.ieee]

/-- The start of the search at one entry. -/
theorem start_at (y : FVec Ideal S512x128 .f32) (i : S512x128.Idx) :
    select (cmpf .oge y (broadcast S512x128 (Scalar.ofBits (F := Ideal) .f32 0x3F000000#32)))
      (broadcast S512x128 (Scalar.ofBits (F := Ideal) .f32 0x3F800000#32)) (broadcast S512x128 (Scalar.ofBits (F := Ideal) .f32 0x00800000#32)) i
      = if Ideal.ofBits .f32 0x3F000000#32 ≤ y i then 1 else Ideal.ofBits .f32 0x00800000#32 := by
  rw [← bits_one]
  exact select_ge _ _ _ _

theorem ladder_at (y : FVec Ideal S512x128 .f32) (i : S512x128.Idx) : ladder (F := Ideal) y i = Quant.search (y i) := by
  unfold ladder Quant.search ladderSteps Quant.factors
  simp only [List.foldl, climb_at, start_at]

theorem scaleFin_at (x9 x10 : Vec Ideal S512x128 .f32) (a : Fin 512) (b : Fin 128) :
    scaleFin (F := Ideal) x9 x10 (ix2 a b) = Quant.scaleS (x10 (ix2 a b) * Quant.rinv (∑ x, x9 (ix2 a x))) := by
  unfold Quant.scaleS
  rw [← amaxFin_at, ← scaleArg_at, ← ladder_at]
  rw [← bits_one, ← bits_zero]
  exact select_eq _ _ _ _

theorem invFin_at (x9 x10 : Vec Ideal S512x128 .f32) (a : Fin 512) (b : Fin 128) :
    invFin (F := Ideal) x9 x10 (ix2 a b) = Ideal.div 1 (Quant.scaleS (x10 (ix2 a b) * Quant.rinv (∑ x, x9 (ix2 a x)))) := by
  rw [← scaleFin_at]
  pointwise [invFin]

end Cert.ProjKernelIdeal.Own

end
-- ==== Proof.Proj.Pieces.lean ====
/- The contents that the pieces of Tiles.lean leave, read at one entry. -/
module

public import proofs.«01_k».proof.Proof.Proj.Values
public import Idealize.ShloMosaic.Lib.WholeRead

@[expose] public section

set_option maxRecDepth 16384

noncomputable section

namespace Cert.ProjKernelIdeal.Own

open Cert.ProjKernelIdeal.Gen
open Idealize.ShloMosaic Idealize.ShloMosaic.TcCoe Idealize.SL.Sem

/-! ## The rectangles' entries -/

theorem ix_ext {n0 n1 : ℕ} {i j : (⟨2, ![n0, n1]⟩ : Shape).Idx} (h0 : (i 0).val = (j 0).val) (h1 : (i 1).val = (j 1).val) : i = j := by
  rw [eq_ix2 i, eq_ix2 j, Fin.ext h0, Fin.ext h1]

theorem wide_emb (m : Fin 4) (g : Fin 16) (a b : Fin 128) :
    (wide m g).emb (ix2 a b) = (ix2 ⟨128 * m.val + a.val, by omega⟩ ⟨128 * g.val + b.val, by omega⟩ : S512x2048.Idx) :=
  ix_ext (by show 128 * m.val + 1 * a.val = 128 * m.val + a.val; omega) (by show 128 * g.val + 1 * b.val = 128 * g.val + b.val; omega)

theorem lanes_emb (m : Fin 4) (a b : Fin 128) :
    (lanes m).emb (ix2 a b) = (ix2 ⟨128 * m.val + a.val, by omega⟩ b : S512x128.Idx) :=
  ix_ext (by show 128 * m.val + 1 * a.val = 128 * m.val + a.val; omega) (by show 0 + 1 * b.val = b.val; omega)

theorem accs_emb (n : Fin 9) (a : Fin 512) (b : Fin 256) :
    (accs n).emb (ix2 a b) = (ix2 a ⟨256 * n.val + b.val, by omega⟩ : S512x2304.Idx) :=
  ix_ext (by show 0 + 1 * a.val = a.val; omega) (by show 256 * n.val + 1 * b.val = 256 * n.val + b.val; omega)

theorem ws_emb (n : Fin 9) (a : Fin 1024) (b : Fin 256) :
    (ws n).emb (ix2 a b) = (ix2 a ⟨256 * n.val + b.val, by omega⟩ : S1024x2304.Idx) :=
  ix_ext (by show 0 + 1 * a.val = a.val; omega) (by show 256 * n.val + 1 * b.val = 256 * n.val + b.val; omega)

theorem whole_emb (i : S512x128.Idx) : whole.emb i = i := ix_ext (by show 0 + 1 * (i 0).val = (i 0).val; omega) (by show 0 + 1 * (i 1).val = (i 1).val; omega)

theorem mem_rows4 : ∀ m : Fin 4, m ∈ rows4 := by decide
theorem mem_groups' : ∀ g : Fin 16, g ∈ groups' := by decide
theorem mem_cols9 : ∀ n : Fin 9, n ∈ cols9 := by decide

theorem mem_wide (R : Fin 512) (C : Fin 2048) : (ix2 R C : S512x2048.Idx) ∈ (wide ⟨R.val / 128, by omega⟩ ⟨C.val / 128, by omega⟩).set :=
  Rect.mem_set_unit.2 fun a => by
    fin_cases a
    · show 128 * (R.val / 128) ≤ R.val ∧ R.val < 128 * (R.val / 128) + 128
      omega
    · show 128 * (C.val / 128) ≤ C.val ∧ C.val < 128 * (C.val / 128) + 128
      omega

theorem mem_lanes (R : Fin 512) (l : Fin 128) : (ix2 R l : S512x128.Idx) ∈ (lanes ⟨R.val / 128, by omega⟩).set :=
  Rect.mem_set_unit.2 fun a => by
    fin_cases a
    · show 128 * (R.val / 128) ≤ R.val ∧ R.val < 128 * (R.val / 128) + 128
      omega
    · show 0 ≤ l.val ∧ l.val < 0 + 128
      omega

theorem mem_accs (R : Fin 512) (n : Fin 2304) : (ix2 R n : S512x2304.Idx) ∈ (accs ⟨n.val / 256, by omega⟩).set :=
  Rect.mem_set_unit.2 fun a => by
    fin_cases a
    · show 0 ≤ R.val ∧ R.val < 0 + 512
      omega
    · show 256 * (n.val / 256) ≤ n.val ∧ n.val < 256 * (n.val / 256) + 256
      omega

/-! ## The stores -/

variable
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg6 : Memref sig .tc .vmem S512x2304 .f32) (harg6 : arg6.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)
  (x1 x2 : Vec Ideal S512x2048 .bf16) (x3 : Vec Ideal S1024x2304 .i8) (x6 : Vec Ideal S512x2304 .f32)
  (x9 x10 x11 x12 : Vec Ideal S512x128 .f32)

theorem read_wide (arg : Memref sig .tc .vmem S512x2048 .bf16) (harg : arg.IsWhole) (x : Vec Ideal S512x2048 .bf16) (m : Fin 4) (g : Fin 16) (a b : Fin 128) :
    View.readAt (Elt Ideal) arg.view (wide m g).toLoadRect (harg.unread x) (ix2 a b) = x (ix2 ⟨128 * m.val + a.val, by omega⟩ ⟨128 * g.val + b.val, by omega⟩) := by
  exact (harg.readAt_unread x _ _).trans (congrArg x (wide_emb m g a b))

theorem read_lanes (arg : Memref sig .tc .vmem S512x128 .f32) (harg : arg.IsWhole) (x : Vec Ideal S512x128 .f32) (m : Fin 4) (a b : Fin 128) :
    View.readAt (Elt Ideal) arg.view (lanes m).toLoadRect (harg.unread x) (ix2 a b) = x (ix2 ⟨128 * m.val + a.val, by omega⟩ b) := by
  exact (harg.readAt_unread x _ _).trans (congrArg x (lanes_emb m a b))

/-- The code of an entry of chunk `k` of the block, from the tables. -/
def codeOf (k : Fin 8) (R : Fin 512) (C : Fin 2048) : EReal :=
  Quant.code (x2 (ix2 R C) * x12 (ix2 R ⟨C.val % 128, by omega⟩) * x11 (ix2 R ⟨C.val / 128 + 16 * k.val, by omega⟩))

theorem codeOf_tile (k : Fin 8) (m : Fin 4) (g : Fin 16) (a b : Fin 128) :
    codeOf x2 x11 x12 k ⟨128 * m.val + a.val, by omega⟩ ⟨128 * g.val + b.val, by omega⟩
      = Quant.code (x2 (ix2 ⟨128 * m.val + a.val, by omega⟩ ⟨128 * g.val + b.val, by omega⟩) * x12 (ix2 ⟨128 * m.val + a.val, by omega⟩ b)
        * x11 (ix2 ⟨128 * m.val + a.val, by omega⟩ ⟨g.val + 16 * k.val, by omega⟩)) := by
  have e1 : (⟨(128 * g.val + b.val) % 128, by omega⟩ : Fin 128) = b := Fin.ext (by show (128 * g.val + b.val) % 128 = b.val; omega)
  have e2 : (⟨(128 * g.val + b.val) / 128 + 16 * k.val, by omega⟩ : Fin 128) = ⟨g.val + 16 * k.val, by omega⟩ :=
    Fin.ext (by show (128 * g.val + b.val) / 128 + 16 * k.val = g.val + 16 * k.val; omega)
  unfold codeOf
  simp only [e1, e2]

theorem bytes_at (k : Fin 8) (q : BitVec 32) (hq : q = BitVec.ofNat 32 k.val) (arg : Memref sig .tc .vmem S512x2048 .i8) (f) (R : Fin 512) (C : Fin 2048) :
    arg.view.read (Elt Ideal) (arg.view.writes (Elt Ideal) f (bytePieces arg2 harg2 arg11 harg11 arg12 harg12 x2 x11 x12 q)) (ix2 R C)
      = BitVec.setWidth 8 (Ideal.fptosi 32 (codeOf x2 x11 x12 k R C)) := by
  subst hq
  refine View.read_writes_apply_of_pieces _ _ (fun y : S512x2048.Idx => show Elt Ideal .i8 from BitVec.setWidth 8 (Ideal.fptosi 32 (codeOf x2 x11 x12 k (y 0) (y 1)))) _ ?_ _ ?_
  · intro p hp x
    obtain ⟨m, -, hp⟩ := List.mem_flatMap.1 hp
    obtain ⟨g, -, rfl⟩ := List.mem_map.1 hp
    obtain ⟨a, b, rfl⟩ : ∃ a b : Fin 128, x = ix2 a b := ⟨x 0, x 1, eq_ix2 x⟩
    dsimp only
    rw [wide_emb]
    refine (byteTile_at k g _ _ _ a b).trans ?_
    rw [read_wide arg2 harg2 x2 m g a b, read_lanes arg12 harg12 x12 m a b, read_lanes arg11 harg11 x11 m a]
    exact congrArg (fun v => BitVec.setWidth 8 (Ideal.fptosi 32 v)) (codeOf_tile x2 x11 x12 k m g a b).symm
  · exact ⟨_, List.mem_flatMap.2 ⟨_, mem_rows4 _, List.mem_map.2 ⟨_, mem_groups' _, rfl⟩⟩, mem_wide R C⟩

theorem vals_at (k : Fin 8) (q : BitVec 32) (hq : q = BitVec.ofNat 32 k.val) (arg : Memref sig .tc .vmem S512x2048 .bf16) (f) (R : Fin 512) (C : Fin 2048) :
    arg.view.read (Elt Ideal) (arg.view.writes (Elt Ideal) f (valPieces arg2 harg2 arg11 harg11 arg12 harg12 x2 x11 x12 q)) (ix2 R C)
      = codeOf x2 x11 x12 k R C * Ideal.div 1 (x11 (ix2 R ⟨C.val / 128 + 16 * k.val, by omega⟩)) := by
  subst hq
  refine View.read_writes_apply_of_pieces _ _ (fun y : S512x2048.Idx => show Elt Ideal .bf16 from codeOf x2 x11 x12 k (y 0) (y 1) * Ideal.div 1 (x11 (ix2 (y 0) ⟨(y 1).val / 128 + 16 * k.val, by have := (y 1).isLt; have h : S512x2048.size 1 = 2048 := rfl; omega⟩))) _ ?_ _ ?_
  · intro p hp x
    obtain ⟨m, -, hp⟩ := List.mem_flatMap.1 hp
    obtain ⟨g, -, rfl⟩ := List.mem_map.1 hp
    obtain ⟨a, b, rfl⟩ : ∃ a b : Fin 128, x = ix2 a b := ⟨x 0, x 1, eq_ix2 x⟩
    have e2 : (⟨(128 * g.val + b.val) / 128 + 16 * k.val, by omega⟩ : Fin 128) = ⟨g.val + 16 * k.val, by omega⟩ :=
      Fin.ext (by show (128 * g.val + b.val) / 128 + 16 * k.val = g.val + 16 * k.val; omega)
    dsimp only
    rw [wide_emb]
    refine (valTile_at k g _ _ _ a b).trans ?_
    rw [read_wide arg2 harg2 x2 m g a b, read_lanes arg12 harg12 x12 m a b, read_lanes arg11 harg11 x11 m a, ← codeOf_tile x2 x11 x12 k m g a b, ← e2]
    rfl
  · exact ⟨_, List.mem_flatMap.2 ⟨_, mem_rows4 _, List.mem_map.2 ⟨_, mem_groups' _, rfl⟩⟩, mem_wide R C⟩

/-- The squares of one lane over the sixteen groups of a chunk. -/
def sqOf (R : Fin 512) (l : Fin 128) : EReal := ∑ g : Fin 16, x1 (ix2 R ⟨128 * g.val + l.val, by omega⟩) * x1 (ix2 R ⟨128 * g.val + l.val, by omega⟩)

theorem sums_at (k : Fin 8) (q : BitVec 32) (hq : q = BitVec.ofNat 32 k.val) (arg : Memref sig .tc .vmem S512x128 .f32) (f) (R : Fin 512) (l : Fin 128) :
    arg.view.read (Elt Ideal) (arg.view.writes (Elt Ideal) f (sumPieces arg1 harg1 arg9 harg9 x1 x9 q)) (ix2 R l)
      = if k.val = 0 then sqOf x1 R l else x9 (ix2 R l) + sqOf x1 R l := by
  subst hq
  refine View.read_writes_apply_of_pieces _ _ (fun y : S512x128.Idx => show Elt Ideal .f32 from if k.val = 0 then sqOf x1 (y 0) (y 1) else x9 (ix2 (y 0) (y 1)) + sqOf x1 (y 0) (y 1)) _ ?_ _ ?_
  · intro p hp x
    obtain ⟨m, -, rfl⟩ := List.mem_map.1 hp
    obtain ⟨a, b, rfl⟩ : ∃ a b : Fin 128, x = ix2 a b := ⟨x 0, x 1, eq_ix2 x⟩
    dsimp only
    rw [lanes_emb]
    refine (sumTile_at k _ _ a b).trans ?_
    rw [read_lanes arg9 harg9 x9 m a b, Finset.sum_congr rfl fun g _ => congrArg₂ (· * ·) (read_wide arg1 harg1 x1 m g a b) (read_wide arg1 harg1 x1 m g a b)]
    rfl
  · exact ⟨_, List.mem_map.2 ⟨_, mem_rows4 _, rfl⟩, mem_lanes R l⟩

/-- The largest magnitude of one group of a chunk. -/
def topOf (R : Fin 512) (g : Fin 16) : EReal := Quant.amax fun x => x1 (ix2 R ⟨128 * g.val + x.val, by omega⟩)

theorem amaxs_at (k : Fin 8) (q : BitVec 32) (hq : q = BitVec.ofNat 32 k.val) (arg : Memref sig .tc .vmem S512x128 .f32) (f) (R : Fin 512) (l : Fin 128) :
    arg.view.read (Elt Ideal) (arg.view.writes (Elt Ideal) f (amaxPieces arg1 harg1 arg10 harg10 x1 x10 q)) (ix2 R l)
      = if h : l.val / 16 = k.val then topOf x1 R ⟨l.val - 16 * k.val, by omega⟩ else x10 (ix2 R l) := by
  subst hq
  refine View.read_writes_apply_of_pieces _ _ (fun y : S512x128.Idx => show Elt Ideal .f32 from if h : (y 1).val / 16 = k.val then topOf x1 (y 0) ⟨(y 1).val - 16 * k.val, by omega⟩ else x10 (ix2 (y 0) (y 1))) _ ?_ _ ?_
  · intro p hp x
    obtain ⟨m, -, rfl⟩ := List.mem_map.1 hp
    obtain ⟨a, b, rfl⟩ : ∃ a b : Fin 128, x = ix2 a b := ⟨x 0, x 1, eq_ix2 x⟩
    dsimp only
    rw [lanes_emb]
    refine (amaxTile_at k _ _ a b).trans ?_
    refine dite_congr rfl (fun h => ?_) (fun h => read_lanes arg10 harg10 x10 m a b)
    exact congrArg Quant.amax (funext fun x => read_wide arg1 harg1 x1 m _ a x)
  · exact ⟨_, List.mem_map.2 ⟨_, mem_rows4 _, rfl⟩, mem_lanes R l⟩

/-- The weight of channel `x` of a chunk, from the packed bytes. -/
def wtOf (x : Fin 2048) (n : Fin 2304) : EReal :=
  if x.val % 2 = 0 then Nibbles.lo (x3 (ix2 ⟨x.val / 2, by omega⟩ n)) else Nibbles.hi (x3 (ix2 ⟨x.val / 2, by omega⟩ n))

theorem read_ws (n : Fin 9) (a : Fin 1024) (b : Fin 256) :
    View.readAt (Elt Ideal) arg3.view (ws n).toLoadRect (harg3.unread x3) (ix2 a b) = x3 (ix2 a ⟨256 * n.val + b.val, by omega⟩) := by
  exact (harg3.readAt_unread x3 _ _).trans (congrArg x3 (ws_emb n a b))

theorem weight_at (n : Fin 9) (x : Fin 2048) (b : Fin 256) :
    weightTile (F := Ideal) (View.readAt (Elt Ideal) arg3.view (ws n).toLoadRect (harg3.unread x3)) (ix2 x b) = wtOf x3 x ⟨256 * n.val + b.val, by omega⟩ := by
  unfold wtOf
  by_cases h : x.val % 2 = 0
  · have e : x = ⟨2 * (⟨x.val / 2, by omega⟩ : Fin 1024).val, by omega⟩ := Fin.ext (by show x.val = 2 * (x.val / 2); omega)
    rw [if_pos h, ← read_ws arg3 harg3 x3 n _ b]
    exact (congrArg (fun z => weightTile (F := Ideal) (View.readAt (Elt Ideal) arg3.view (ws n).toLoadRect (harg3.unread x3)) (ix2 z b)) e).trans (weightTile_even _ _ _)
  · have e : x = ⟨1 + 2 * (⟨x.val / 2, by omega⟩ : Fin 1024).val, by omega⟩ := Fin.ext (by show x.val = 1 + 2 * (x.val / 2); omega)
    rw [if_neg h, ← read_ws arg3 harg3 x3 n _ b]
    exact (congrArg (fun z => weightTile (F := Ideal) (View.readAt (Elt Ideal) arg3.view (ws n).toLoadRect (harg3.unread x3)) (ix2 z b)) e).trans (weightTile_odd _ _ _)

theorem read_full (arg : Memref sig .tc .vmem S512x2048 .bf16) (harg : arg.IsWhole) (x : Vec Ideal S512x2048 .bf16) (a : Fin 512) (z : Fin 2048) :
    View.readAt (Elt Ideal) arg.view (Rect.unit (s := S512x2048) ![0, 0] S512x2048.size inb_S512x2048_S512x2048_0_0).toLoadRect (harg.unread x) (ix2 a z) = x (ix2 a z) :=
  (harg.readAt_unread x _ _).trans (congrArg x (ix_ext (by
    show 0 + 1 * a.val = a.val; omega) (by show 0 + 1 * z.val = z.val; omega)))

/-- The product of a row of values with a column of a chunk's weights. -/
def dotOf (v : Vec Ideal S512x2048 .bf16) (R : Fin 512) (n : Fin 2304) : EReal := ∑ x : Fin 2048, v (ix2 R x) * wtOf x3 x n

theorem accs_at (k : Fin 8) (q : BitVec 32) (hq : q = BitVec.ofNat 32 k.val) (v : Vec Ideal S512x2048 .bf16) (argv : Memref sig .tc .vmem S512x2048 .bf16)
    (hargv : argv.IsWhole) (arg : Memref sig .tc .vmem S512x2304 .f32) (f) (R : Fin 512) (n : Fin 2304) :
    arg.view.read (Elt Ideal) (arg.view.writes (Elt Ideal) f (accPieces arg3 harg3 arg6 harg6 x3 x6 v argv hargv q)) (ix2 R n)
      = if k.val = 0 then dotOf x3 v R n else x6 (ix2 R n) + dotOf x3 v R n := by
  subst hq
  refine View.read_writes_apply_of_pieces _ _ (fun y : S512x2304.Idx => show Elt Ideal .f32 from if k.val = 0 then dotOf x3 v (y 0) (y 1) else x6 (ix2 (y 0) (y 1)) + dotOf x3 v (y 0) (y 1)) _ ?_ _ ?_
  · intro p hp x
    obtain ⟨m, -, rfl⟩ := List.mem_map.1 hp
    obtain ⟨a, b, rfl⟩ : ∃ (a : Fin 512) (b : Fin 256), x = ix2 a b := ⟨x 0, x 1, eq_ix2 x⟩
    have hd : (∑ z : Fin 2048, View.readAt (Elt Ideal) argv.view (Rect.unit (s := S512x2048) ![0, 0] S512x2048.size inb_S512x2048_S512x2048_0_0).toLoadRect (hargv.unread v) (ix2 a z)
        * weightTile (F := Ideal) (View.readAt (Elt Ideal) arg3.view (ws m).toLoadRect (harg3.unread x3)) (ix2 z b)) = dotOf x3 v a ⟨256 * m.val + b.val, by omega⟩ :=
      Finset.sum_congr rfl fun z _ => congrArg₂ (· * ·) (read_full argv hargv v a z) (weight_at arg3 harg3 x3 m z b)
    dsimp only
    rw [accs_emb]
    refine (dotTile_at k _ _ _ a b).trans ?_
    exact if_congr Iff.rfl hd (congrArg₂ (· + ·) ((harg6.readAt_unread x6 _ _).trans (congrArg x6 (accs_emb m a b))) hd)
  · exact ⟨_, List.mem_map.2 ⟨_, mem_cols9 _, rfl⟩, mem_accs R n⟩

/-- A store of the whole table leaves what is stored. -/
theorem whole_at (arg : Memref sig .tc .vmem S512x128 .f32) (f) (w : Vec Ideal S512x128 .f32) (i : S512x128.Idx) :
    arg.view.read (Elt Ideal) (arg.view.writes (Elt Ideal) f [⟨whole, w⟩]) i = w i := by
  refine View.read_writes_apply_of_pieces _ _ (w) _ ?_ _ ?_
  · intro p hp x
    obtain rfl := List.mem_singleton.1 hp
    exact congrArg w (whole_emb x).symm
  · refine ⟨_, List.mem_singleton.2 rfl, ?_⟩
    rw [← Rect.map_emb_univ]
    exact Finset.mem_map.2 ⟨i, Finset.mem_univ _, whole_emb i⟩

theorem read_whole (arg : Memref sig .tc .vmem S512x128 .f32) (harg : arg.IsWhole) (x : Vec Ideal S512x128 .f32) :
    View.readAt (Elt Ideal) arg.view whole.toLoadRect (harg.unread x) = x :=
  funext fun i => (harg.readAt_unread x _ i).trans (congrArg x (whole_emb i))

end Cert.ProjKernelIdeal.Own

end
-- ==== Proof.Proj.Partial.lean ====
/- The sums of the projection taken chunk by chunk, a chunk being 2048 channels. -/
module

public import proofs.«01_k».proof.Proof.Proj.Spec

@[expose] public section

set_option maxRecDepth 16384

noncomputable section

open Idealize.ShloMosaic

namespace Cert.ProjSpec

variable (X : Fin 3072 → Fin 16384 → EReal) (W : Fin 8192 → Fin 2304 → BitVec 8)

/-- The squares of lane `l` over the groups of chunk `q`. -/
def sqc (R : Fin 3072) (l : Fin 128) (q : ℕ) : EReal :=
  ∑ g : Fin 16, X R ⟨(2048 * q + 128 * g.val + l.val) % 16384, by omega⟩ * X R ⟨(2048 * q + 128 * g.val + l.val) % 16384, by omega⟩

/-- The squares of lane `l` over the first `j` chunks. -/
def psq (R : Fin 3072) (l : Fin 128) (j : ℕ) : EReal := ∑ q ∈ Finset.range j, sqc X R l q

theorem psq_one (R : Fin 3072) (l : Fin 128) : psq X R l 1 = sqc X R l 0 := by simp [psq]
theorem psq_succ (R : Fin 3072) (l : Fin 128) (j : ℕ) : psq X R l (j + 1) = psq X R l j + sqc X R l j := Finset.sum_range_succ _ _

/-- All the squares of a row. -/
theorem sum_psq (R : Fin 3072) : ∑ l, psq X R l 8 = ssq X R := by
  unfold psq ssq sqc
  rw [Fin.sum_univ_tiles 8 2048 rfl]
  simp only [Finset.sum_range]
  rw [Finset.sum_comm]
  refine Finset.sum_congr rfl fun q _ => ?_
  rw [Fin.sum_univ_tiles 16 128 rfl, Finset.sum_comm]
  refine Finset.sum_congr rfl fun g _ => Finset.sum_congr rfl fun l _ => ?_
  have e : (⟨(2048 * q.val + 128 * g.val + l.val) % 16384, by omega⟩ : Fin 16384) = ⟨q.val * 2048 + (g.val * 128 + l.val), by omega⟩ :=
    Fin.ext (by show (2048 * q.val + 128 * g.val + l.val) % 16384 = q.val * 2048 + (g.val * 128 + l.val); omega)
  exact congrArg (fun z => X R z * X R z) e

/-- The product over the channels of chunk `q`. -/
def accc (R : Fin 3072) (n : Fin 2304) (q : ℕ) : EReal :=
  ∑ x : Fin 2048, val X R ⟨(2048 * q + x.val) % 16384, by omega⟩ * wt W ⟨(2048 * q + x.val) % 16384, by omega⟩ n

/-- The product over the first `j` chunks. -/
def pacc (R : Fin 3072) (n : Fin 2304) (j : ℕ) : EReal := ∑ q ∈ Finset.range j, accc X W R n q

theorem pacc_one (R : Fin 3072) (n : Fin 2304) : pacc X W R n 1 = accc X W R n 0 := by simp [pacc]
theorem pacc_succ (R : Fin 3072) (n : Fin 2304) (j : ℕ) : pacc X W R n (j + 1) = pacc X W R n j + accc X W R n j := Finset.sum_range_succ _ _

/-- The product over all the channels. -/
theorem pacc_all (R : Fin 3072) (n : Fin 2304) : pacc X W R n 8 = acc X W R n := by
  unfold pacc acc accc
  rw [Fin.sum_univ_tiles 8 2048 rfl]
  simp only [Finset.sum_range]
  refine Finset.sum_congr rfl fun q _ => Finset.sum_congr rfl fun x _ => ?_
  have e : (⟨(2048 * q.val + x.val) % 16384, by omega⟩ : Fin 16384) = ⟨q.val * 2048 + x.val, by omega⟩ :=
    Fin.ext (by show (2048 * q.val + x.val) % 16384 = q.val * 2048 + x.val; omega)
  exact congrArg (fun z => val X R z * wt W z n) e

end Cert.ProjSpec
end
-- ==== Proof.Proj.Sched.lean ====
/- The schedule of the projection kernel: which chunk each point collects statistics of, quantises and multiplies, and which block of
   each array it sees. -/
module

public import proofs.«01_k».proof.Proof.Proj.Launch
public import proofs.«01_k».proof.Proof.Proj.Pieces
public import proofs.«01_k».proof.Proof.Proj.Partial
public import Idealize.ShloMosaic.Lib.Pipeline.ValueKit

@[expose] public section

set_option maxRecDepth 16384

noncomputable section

namespace Cert.ProjKernelIdeal.Own

open Cert.ProjKernelIdeal.Gen
open Idealize.ShloMosaic Idealize.ShloMosaic.TcCoe Idealize.SL.Sem

/-- The chunk quantised at point `t`. -/
def qc (t : ℕ) : ℕ := min (t - 8) 47

theorem kStat_at : ∀ t : Fin cfg0.N, kStat (grid0.coords t) = BitVec.ofNat 32 (t.val % 8) := by decide +kernel
theorem kQuant_at : ∀ t : Fin cfg0.N, kQuant (grid0.coords t) = BitVec.ofNat 32 (qc t.val % 8) := by decide +kernel
theorem kDot_at : ∀ t : Fin cfg0.N, kDot (grid0.coords t) = BitVec.ofNat 32 ((t.val - 9) % 8) := by decide +kernel
theorem cond1_at : ∀ t : Fin cfg0.N, k0_cond1 (grid0.coords t) = 1#1 ↔ t.val ≤ 8 := by decide +kernel
theorem cond2_at : ∀ t : Fin cfg0.N, k0_cond2 (grid0.coords t) = 1#1 ↔ 8 < t.val ∧ t.val % 2 = 1 := by decide +kernel
theorem cond3_at : ∀ t : Fin cfg0.N, k0_cond3 (grid0.coords t) = 1#1 ↔ 8 < t.val ∧ t.val % 2 = 0 := by decide +kernel
theorem cond4_at : ∀ t : Fin cfg0.N, k0_cond4 (grid0.coords t) = 1#1 ↔ t.val % 8 = 7 ∧ t.val ≤ 47 := by decide +kernel
theorem fetch4_at : ∀ t : Fin cfg0.N, (cfg0.win 4).fetch t = false := by decide +kernel
theorem fetch5_at : ∀ t : Fin cfg0.N, (cfg0.win 5).fetch t = false := by decide +kernel
theorem flush4_at : ∀ t : Fin cfg0.N, 47 ≤ t.val → t.val < 56 → (cfg0.win 4).flush t = false := by decide +kernel
theorem flush5_at : ∀ t : Fin cfg0.N, 9 ≤ t.val → (t.val - 9) % 8 ≠ 7 → (cfg0.win 5).flush t = false := by decide +kernel

/-- Which block of each array a point sees. -/
theorem idx : ∀ t : Fin cfg0.N, win0_0.index t = ![min t.val 47 / 8, min t.val 47 % 8] ∧ win0_1.index t = ![qc t.val / 8, qc t.val % 8]
    ∧ win0_2.index t = ![(t.val - 9) % 8, 0] ∧ win0_3.index t = ![qc t.val / 8, qc t.val % 8] ∧ win0_4.index t = ![min t.val 47 / 8, 0]
    ∧ win0_5.index t = ![(t.val - 9) / 8, 0] :=
  (by decide +kernel : ∀ t : Fin grid0.N, _)

theorem lt57 (t : Fin cfg0.N) : t.val < 57 := lt_of_lt_of_eq t.isLt N_0

variable (m : (ℓ : Loc nD τ sig) → Buf (Elt Ideal) ℓ)

/-- The activations and the packed weights a core starts with. -/
def acts (c : Dev nD) : Fin 3072 → Fin 16384 → EReal := fun R C =>
  (show FVec Ideal S3072x16384 .bf16 from m ((c : Thread nD τ).loc main_arg0)) (ix2 R C)
def wgts (c : Dev nD) : Fin 8192 → Fin 2304 → BitVec 8 := fun k n =>
  (show IVec S8192x2304 8 from m ((c : Thread nD τ).loc main_arg1)) (ix2 k n)

theorem blk0 (c : Dev nD) (t : Fin cfg0.N) (R : Fin 3072) (C : Fin 16384) (r : Fin 512) (x : Fin 2048)
    (hR : R.val = 512 * (min t.val 47 / 8) + r.val) (hC : C.val = 2048 * (min t.val 47 % 8) + x.val) :
    (show FVec Ideal S512x2048 .bf16 from iblk m c 0 t) (ix2 r x) = acts m c R C := by
  unfold acts
  blk_point [iblk, V, idx t]
  all_goals omega

theorem blk1 (c : Dev nD) (t : Fin cfg0.N) (R : Fin 3072) (C : Fin 16384) (r : Fin 512) (x : Fin 2048)
    (hR : R.val = 512 * (qc t.val / 8) + r.val) (hC : C.val = 2048 * (qc t.val % 8) + x.val) :
    (show FVec Ideal S512x2048 .bf16 from iblk m c 1 t) (ix2 r x) = acts m c R C := by
  unfold acts
  blk_point [iblk, V, idx t]
  all_goals omega

theorem blk2 (c : Dev nD) (t : Fin cfg0.N) (K : Fin 8192) (n : Fin 2304) (k : Fin 1024)
    (hK : K.val = 1024 * ((t.val - 9) % 8) + k.val) :
    (show IVec S1024x2304 8 from iblk m c 2 t) (ix2 k n) = wgts m c K n := by
  unfold wgts
  blk_point [iblk, V, idx t]
  all_goals omega

end Cert.ProjKernelIdeal.Own

end
-- ==== Proof.Proj.Left.lean ====
/- The contents that one point of the projection kernel leaves, entry by entry. -/
module

public import proofs.«01_k».proof.Proof.Proj.Sched

@[expose] public section

set_option maxRecDepth 16384

noncomputable section

namespace Cert.ProjKernelIdeal.Own

open Cert.ProjKernelIdeal.Gen
open Idealize.ShloMosaic Idealize.ShloMosaic.TcCoe Idealize.SL.Sem

/-- The codes and the values of chunk `q` are stored, -/
def Quanted (s : St Ideal) (q : Fin 8) (y4 : Vec Ideal S512x2048 .i8) (v : Vec Ideal S512x2048 .bf16) : Prop :=
  ∀ (R : Fin 512) (C : Fin 2048), y4 (ix2 R C) = BitVec.setWidth 8 (Ideal.fptosi 32 (codeOf s.a2 s.a11 s.a12 q R C))
    ∧ v (ix2 R C) = codeOf s.a2 s.a11 s.a12 q R C * Ideal.div 1 (s.a11 (ix2 R ⟨C.val / 128 + 16 * q.val, by omega⟩))

/-- chunk `k` is taken into the statistics, -/
def Stated (s : St Ideal) (k : Fin 8) (y9 y10 : Vec Ideal S512x128 .f32) : Prop :=
  ∀ (R : Fin 512) (l : Fin 128), y9 (ix2 R l) = (if k.val = 0 then sqOf s.a1 R l else s.a9 (ix2 R l) + sqOf s.a1 R l)
    ∧ y10 (ix2 R l) = if h : l.val / 16 = k.val then topOf s.a1 R ⟨l.val - 16 * k.val, by omega⟩ else s.a10 (ix2 R l)

/-- the values `v` of chunk `d` are taken into the product, -/
def Dotted (s : St Ideal) (v : Vec Ideal S512x2048 .bf16) (d : Fin 8) (y6 : Vec Ideal S512x2304 .f32) : Prop :=
  ∀ (R : Fin 512) (n : Fin 2304), y6 (ix2 R n) = if d.val = 0 then dotOf s.a3 v R n else s.a6 (ix2 R n) + dotOf s.a3 v R n

/-- and the statistics of a block are turned into its scales. -/
def Finished (s : St Ideal) (y5 y11 y12 : Vec Ideal S512x128 .f32) : Prop :=
  ∀ (R : Fin 512) (l : Fin 128), y5 (ix2 R l) = Quant.scaleS (s.a10 (ix2 R l) * Quant.rinv (∑ x, s.a9 (ix2 R x)))
    ∧ y11 (ix2 R l) = Ideal.div 1 (Quant.scaleS (s.a10 (ix2 R l) * Quant.rinv (∑ x, s.a9 (ix2 R x))))
    ∧ y12 (ix2 R l) = Quant.rinv (∑ x, s.a9 (ix2 R x))

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg4 : Memref sig .tc .vmem S512x2048 .i8) (harg4 : arg4.IsWhole)
  (arg5 : Memref sig .tc .vmem S512x128 .f32) (harg5 : arg5.IsWhole)
  (arg6 : Memref sig .tc .vmem S512x2304 .f32) (harg6 : arg6.IsWhole)
  (arg7 : Memref sig .tc .vmem S512x2048 .bf16) (harg7 : arg7.IsWhole)
  (arg8 : Memref sig .tc .vmem S512x2048 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)

theorem left_first (s : St Ideal) (k q : Fin 8) (hk : kStat i = BitVec.ofNat 32 k.val) (hq : kQuant i = BitVec.ofNat 32 q.val) (y4 y7 y9 y10)
    (h : LeftFirst c i arg1 harg1 arg2 harg2 arg3 harg3 arg4 harg4 arg5 harg5 arg6 harg6 arg7 harg7 arg8 harg8 arg9 harg9 arg10 harg10 arg11 harg11 arg12 harg12 s y4 y7 y9 y10) : Quanted s q y4 y7 ∧ Stated s k y9 y10 := by
  obtain ⟨⟨f4, h4⟩, ⟨f7, h7⟩, h9, h10⟩ := h
  rw [runFirst_4] at h4
  rw [runFirst_7] at h7
  rw [runFirst_9] at h9
  rw [runFirst_10] at h10
  subst h4 h7 h9 h10
  exact ⟨fun R C => ⟨bytes_at _ _ _ _ _ _ _ _ _ q _ hq _ _ R C, vals_at _ _ _ _ _ _ _ _ _ q _ hq _ _ R C⟩,
    fun R l => ⟨sums_at _ _ _ _ _ _ k _ hk _ _ R l, amaxs_at _ _ _ _ _ _ k _ hk _ _ R l⟩⟩

theorem left_odd (s : St Ideal) (k q d : Fin 8) (hk : kStat i = BitVec.ofNat 32 k.val) (hq : kQuant i = BitVec.ofNat 32 q.val) (hd : kDot i = BitVec.ofNat 32 d.val) (y4 y6 y8 y9 y10)
    (h : LeftOdd c i arg1 harg1 arg2 harg2 arg3 harg3 arg4 harg4 arg5 harg5 arg6 harg6 arg7 harg7 arg8 harg8 arg9 harg9 arg10 harg10 arg11 harg11 arg12 harg12 s y4 y6 y8 y9 y10) : Quanted s q y4 y8 ∧ Stated s k y9 y10 ∧ Dotted s s.a7 d y6 := by
  obtain ⟨⟨f4, h4⟩, h6, ⟨f8, h8⟩, h9, h10⟩ := h
  rw [runOdd_4] at h4
  rw [runOdd_6] at h6
  rw [runOdd_8] at h8
  rw [runOdd_9] at h9
  rw [runOdd_10] at h10
  subst h4 h6 h8 h9 h10
  exact ⟨fun R C => ⟨bytes_at _ _ _ _ _ _ _ _ _ q _ hq _ _ R C, vals_at _ _ _ _ _ _ _ _ _ q _ hq _ _ R C⟩,
    fun R l => ⟨sums_at _ _ _ _ _ _ k _ hk _ _ R l, amaxs_at _ _ _ _ _ _ k _ hk _ _ R l⟩,
    fun R n => accs_at _ _ _ _ _ _ d _ hd _ _ _ _ _ R n⟩

theorem left_even (s : St Ideal) (k q d : Fin 8) (hk : kStat i = BitVec.ofNat 32 k.val) (hq : kQuant i = BitVec.ofNat 32 q.val) (hd : kDot i = BitVec.ofNat 32 d.val) (y4 y6 y7 y9 y10)
    (h : LeftEven c i arg1 harg1 arg2 harg2 arg3 harg3 arg4 harg4 arg5 harg5 arg6 harg6 arg7 harg7 arg8 harg8 arg9 harg9 arg10 harg10 arg11 harg11 arg12 harg12 s y4 y6 y7 y9 y10) : Quanted s q y4 y7 ∧ Stated s k y9 y10 ∧ Dotted s s.a8 d y6 := by
  obtain ⟨⟨f4, h4⟩, h6, ⟨f7, h7⟩, h9, h10⟩ := h
  rw [runEven_4] at h4
  rw [runEven_6] at h6
  rw [runEven_7] at h7
  rw [runEven_9] at h9
  rw [runEven_10] at h10
  subst h4 h6 h7 h9 h10
  exact ⟨fun R C => ⟨bytes_at _ _ _ _ _ _ _ _ _ q _ hq _ _ R C, vals_at _ _ _ _ _ _ _ _ _ q _ hq _ _ R C⟩,
    fun R l => ⟨sums_at _ _ _ _ _ _ k _ hk _ _ R l, amaxs_at _ _ _ _ _ _ k _ hk _ _ R l⟩,
    fun R n => accs_at _ _ _ _ _ _ d _ hd _ _ _ _ _ R n⟩

theorem left_finish (s : St Ideal) (y5 y11 y12) (h : LeftFinish c i arg1 harg1 arg2 harg2 arg3 harg3 arg4 harg4 arg5 harg5 arg6 harg6 arg7 harg7 arg8 harg8 arg9 harg9 arg10 harg10 arg11 harg11 arg12 harg12 s y5 y11 y12) : Finished s y5 y11 y12 := by
  obtain ⟨⟨f5, h5⟩, ⟨f11, h11⟩, ⟨f12, h12⟩⟩ := h
  rw [runFinish_5] at h5
  rw [runFinish_11] at h11
  rw [runFinish_12] at h12
  subst h5 h11 h12
  intro R l
  refine ⟨(whole_at _ _ _ _).trans ?_, (whole_at _ _ _ _).trans ?_, (whole_at _ _ _ _).trans ?_⟩
  · refine (scaleFin_at _ _ R l).trans ?_
    rw [read_whole arg9 harg9 s.a9, read_whole arg10 harg10 s.a10]
  · refine (invFin_at _ _ R l).trans ?_
    rw [read_whole arg9 harg9 s.a9, read_whole arg10 harg10 s.a10]
  · refine (rinvFin_at _ R l).trans ?_
    rw [read_whole arg9 harg9 s.a9]

end Cert.ProjKernelIdeal.Own

end
-- ==== Proof.Proj.Keeps.lean ====
/- What the points of the projection kernel keep: the statistics of the chunks read so far, the tables of the block in hand, the values
   of the last chunk quantised, and the product over the chunks multiplied so far. -/
module

public import proofs.«01_k».proof.Proof.Proj.Left

@[expose] public section

set_option maxRecDepth 16384

noncomputable section

namespace Cert.ProjKernelIdeal.Own

open Cert.ProjKernelIdeal.Gen
open Idealize.ShloMosaic Idealize.ShloMosaic.TcCoe Idealize.SL.Sem

section Facts

variable (X : Fin 3072 → Fin 16384 → EReal) (W : Fin 8192 → Fin 2304 → BitVec 8)

/-- The statistics of row block `b` over its first `j` chunks, -/
def Stat (b j : ℕ) (x9 x10 : Vec Ideal S512x128 .f32) : Prop :=
  ∀ (R : Fin 3072) (r : Fin 512), R.val = 512 * b + r.val → ∀ l : Fin 128,
    (j ≠ 0 → x9 (ix2 r l) = ProjSpec.psq X R l j) ∧ (l.val / 16 < j → x10 (ix2 r l) = ProjSpec.top X R l)

/-- the tables of row block `b`, -/
def Tabs (b : ℕ) (x11 x12 : Vec Ideal S512x128 .f32) : Prop :=
  ∀ (R : Fin 3072) (r : Fin 512), R.val = 512 * b + r.val → ∀ l : Fin 128,
    x11 (ix2 r l) = ProjSpec.inv X R l ∧ x12 (ix2 r l) = Quant.rinv (ProjSpec.ssq X R)

/-- the values of chunk `j`, -/
def Vals (j : ℕ) (v : Vec Ideal S512x2048 .bf16) : Prop :=
  ∀ (R : Fin 3072) (C : Fin 16384) (r : Fin 512) (x : Fin 2048), R.val = 512 * (j / 8) + r.val → C.val = 2048 * (j % 8) + x.val →
    v (ix2 r x) = ProjSpec.val X R C

/-- the codes of chunk `j`, -/
def Codes (j : ℕ) (y : Vec Ideal S512x2048 .i8) : Prop :=
  ∀ (R : Fin 3072) (C : Fin 16384) (r : Fin 512) (x : Fin 2048), R.val = 512 * (j / 8) + r.val → C.val = 2048 * (j % 8) + x.val →
    y (ix2 r x) = ProjSpec.byt X R C

/-- the scales of row block `b`, -/
def Scales (b : ℕ) (y : Vec Ideal S512x128 .f32) : Prop :=
  ∀ (R : Fin 3072) (r : Fin 512), R.val = 512 * b + r.val → ∀ l : Fin 128, y (ix2 r l) = ProjSpec.scl X R l

/-- and the product of row block `b` over its first `j` chunks. -/
def Accs (b j : ℕ) (y : Vec Ideal S512x2304 .f32) : Prop :=
  ∀ (R : Fin 3072) (r : Fin 512), R.val = 512 * b + r.val → ∀ n : Fin 2304, y (ix2 r n) = ProjSpec.pacc X W R n j

theorem Stat.next {t : ℕ} {x9 x10 : Vec Ideal S512x128 .f32} (h : Stat X (t / 8) (t % 8 + 1) x9 x10) : Stat X ((t + 1) / 8) ((t + 1) % 8) x9 x10 := by
  intro R r hR l
  by_cases h7 : t % 8 = 7
  · exact ⟨fun h0 => absurd (show (t + 1) % 8 = 0 by omega) h0, fun h0 => by omega⟩
  · rw [show (t + 1) % 8 = t % 8 + 1 by omega]
    exact h R r (by omega) l

theorem finish_step {b : ℕ} {s : St Ideal} {y5 y11 y12 : Vec Ideal S512x128 .f32} (h : Stat X b 8 s.a9 s.a10) (hf : Finished s y5 y11 y12) :
    Scales X b y5 ∧ Tabs X b y11 y12 := by
  have hs : ∀ (R : Fin 3072) (r : Fin 512), R.val = 512 * b + r.val → (∑ x, s.a9 (ix2 r x)) = ProjSpec.ssq X R := fun R r hR => by
    rw [← ProjSpec.sum_psq]
    exact Finset.sum_congr rfl fun l _ => (h R r hR l).1 (by norm_num)
  have ht : ∀ (R : Fin 3072) (r : Fin 512), R.val = 512 * b + r.val → ∀ l : Fin 128, s.a10 (ix2 r l) = ProjSpec.top X R l := fun R r hR l =>
    (h R r hR l).2 (by omega)
  refine ⟨fun R r hR l => ?_, fun R r hR l => ⟨?_, ?_⟩⟩
  · rw [(hf r l).1, hs R r hR, ht R r hR]; rfl
  · rw [(hf r l).2.1, hs R r hR, ht R r hR]; rfl
  · rw [(hf r l).2.2, hs R r hR]

end Facts

variable (m : (ℓ : Loc nD τ sig) → Buf (Elt Ideal) ℓ) (c : Dev nD) (t : Fin cfg0.N)

theorem stat_step (h48 : t.val < 48) {s : St Ideal} (h1 : s.a1 = iblk m c 0 t) {y9 y10 : Vec Ideal S512x128 .f32}
    (h : Stat (acts m c) (t.val / 8) (t.val % 8) s.a9 s.a10) (hs : Stated s ⟨t.val % 8, by omega⟩ y9 y10) :
    Stat (acts m c) (t.val / 8) (t.val % 8 + 1) y9 y10 := by
  intro R r hR l
  obtain ⟨e9, e10⟩ := hs r l
  have hsq : sqOf s.a1 r l = ProjSpec.sqc (acts m c) R l (t.val % 8) := by
    unfold sqOf ProjSpec.sqc
    rw [h1]
    refine Finset.sum_congr rfl fun g _ => ?_
    have e := blk0 m c t R ⟨(2048 * (t.val % 8) + 128 * g.val + l.val) % 16384, by omega⟩ r ⟨128 * g.val + l.val, by omega⟩
      (by omega) (by show (2048 * (t.val % 8) + 128 * g.val + l.val) % 16384 = 2048 * (min t.val 47 % 8) + (128 * g.val + l.val); omega)
    exact congrArg₂ (· * ·) e e
  refine ⟨fun _ => ?_, fun hl => ?_⟩
  · rw [e9, hsq]
    by_cases h0 : t.val % 8 = 0
    · rw [if_pos h0, h0, ProjSpec.psq_one]
    · rw [if_neg h0, ProjSpec.psq_succ, (h R r hR l).1 h0]
  · rw [e10]
    by_cases hk : l.val / 16 = t.val % 8
    · rw [dif_pos hk]
      unfold topOf ProjSpec.top
      rw [h1]
      refine congrArg Quant.amax (funext fun x => ?_)
      exact blk0 m c t R ⟨128 * l.val + x.val, by omega⟩ r ⟨128 * (l.val - 16 * (t.val % 8)) + x.val, by omega⟩
        (by omega) (by show 128 * l.val + x.val = 2048 * (min t.val 47 % 8) + (128 * (l.val - 16 * (t.val % 8)) + x.val); omega)
    · rw [dif_neg hk]
      exact (h R r hR l).2 (by omega)

theorem quant_step {s : St Ideal} (h2 : s.a2 = iblk m c 1 t) {y4 : Vec Ideal S512x2048 .i8} {v : Vec Ideal S512x2048 .bf16}
    (h : Tabs (acts m c) (qc t.val / 8) s.a11 s.a12) (hq : Quanted s ⟨qc t.val % 8, by omega⟩ y4 v) :
    Codes (acts m c) (qc t.val) y4 ∧ Vals (acts m c) (qc t.val) v := by
  have hg : ∀ (C : Fin 16384) (x : Fin 2048), C.val = 2048 * (qc t.val % 8) + x.val →
      (⟨x.val / 128 + 16 * (qc t.val % 8), by omega⟩ : Fin 128) = ⟨C.val / 128, by omega⟩ := fun C x hC =>
    Fin.ext (by show x.val / 128 + 16 * (qc t.val % 8) = C.val / 128; omega)
  have hc : ∀ (R : Fin 3072) (C : Fin 16384) (r : Fin 512) (x : Fin 2048), R.val = 512 * (qc t.val / 8) + r.val → C.val = 2048 * (qc t.val % 8) + x.val →
      codeOf s.a2 s.a11 s.a12 ⟨qc t.val % 8, by omega⟩ r x = ProjSpec.cod (acts m c) R C := fun R C r x hR hC => by
    unfold codeOf ProjSpec.cod
    rw [(h R r hR _).1, (h R r hR _).2, h2]
    refine congrArg Quant.code (congrArg₂ (· * ·) (congrArg (· * Quant.rinv (ProjSpec.ssq (acts m c) R)) (blk1 m c t R C r x hR hC)) ?_)
    exact congrArg (ProjSpec.inv (acts m c) R) (hg C x hC)
  refine ⟨fun R C r x hR hC => ?_, fun R C r x hR hC => ?_⟩
  · rw [(hq r x).1, hc R C r x hR hC]; rfl
  · rw [(hq r x).2, hc R C r x hR hC, (h R r hR _).1, ProjSpec.div_inv]
    exact congrArg (fun l => ProjSpec.cod (acts m c) R C * ProjSpec.scl (acts m c) R l) (hg C x hC)

theorem dot_step (h9 : 9 ≤ t.val) {s : St Ideal} (h3 : s.a3 = iblk m c 2 t) {v : Vec Ideal S512x2048 .bf16} {y6 : Vec Ideal S512x2304 .f32}
    (hv : Vals (acts m c) (qc (t.val - 1)) v) (h : (t.val - 9) % 8 ≠ 0 → Accs (acts m c) (wgts m c) ((t.val - 9) / 8) ((t.val - 9) % 8) s.a6)
    (hd : Dotted s v ⟨(t.val - 9) % 8, by omega⟩ y6) : Accs (acts m c) (wgts m c) ((t.val - 9) / 8) ((t.val - 9) % 8 + 1) y6 := by
  intro R r hR n
  have ht := lt57 t
  have hq : qc (t.val - 1) = t.val - 9 := by unfold qc; omega
  rw [hq] at hv
  have hs : dotOf s.a3 v r n = ProjSpec.accc (acts m c) (wgts m c) R n ((t.val - 9) % 8) := by
    unfold dotOf ProjSpec.accc
    refine Finset.sum_congr rfl fun x _ => congrArg₂ (· * ·) (hv R _ r x hR ?_) ?_
    · show (2048 * ((t.val - 9) % 8) + x.val) % 16384 = 2048 * ((t.val - 9) % 8) + x.val
      omega
    · unfold wtOf ProjSpec.wt
      rw [h3]
      have e := blk2 m c t ⟨(2048 * ((t.val - 9) % 8) + x.val) % 16384 / 2, by omega⟩ n ⟨x.val / 2, by omega⟩
        (by show (2048 * ((t.val - 9) % 8) + x.val) % 16384 / 2 = 1024 * ((t.val - 9) % 8) + x.val / 2; omega)
      exact if_congr (by show x.val % 2 = 0 ↔ (2048 * ((t.val - 9) % 8) + x.val) % 16384 % 2 = 0; omega) (congrArg Nibbles.lo e) (congrArg Nibbles.hi e)
  rw [hd r n, hs]
  by_cases h0 : (t.val - 9) % 8 = 0
  · rw [if_pos h0, h0, ProjSpec.pacc_one]
  · rw [if_neg h0, ProjSpec.pacc_succ, h h0 R r hR n]

/-- What a point leaves, whichever of the five patterns it takes. -/
theorem trans_at (c : Dev nD) (t : Fin cfg0.N) (s s' : St Ideal) (h : TransAt c t s s') :
    ∃ v, Quanted s ⟨qc t.val % 8, by omega⟩ s'.a4 v ∧ Stated s ⟨t.val % 8, by omega⟩ s'.a9 s'.a10
      ∧ (t.val ≤ 8 → s'.a7 = v)
      ∧ (8 < t.val → t.val % 2 = 1 → s'.a8 = v ∧ Dotted s s.a7 ⟨(t.val - 9) % 8, by omega⟩ s'.a6)
      ∧ (8 < t.val → t.val % 2 = 0 → s'.a7 = v ∧ Dotted s s.a8 ⟨(t.val - 9) % 8, by omega⟩ s'.a6)
      ∧ (t.val % 8 = 7 ∧ t.val ≤ 47 → Finished s' s'.a5 s'.a11 s'.a12)
      ∧ (¬ (t.val % 8 = 7 ∧ t.val ≤ 47) → s'.a5 = s.a5 ∧ s'.a11 = s.a11 ∧ s'.a12 = s.a12) := by
  have hk := kStat_at t
  have hq := kQuant_at t
  have hd := kDot_at t
  cases h with
  | first h1 h2 h3 h4 y4 y7 y9 y10 h =>
    rw [cond1_at] at h1; rw [cond4_at] at h4
    obtain ⟨q, k⟩ := left_first _ _ _ _ _ _ _ _ _ _ _ _ _ _ _ _ _ _ _ _ _ _ _ _ _ _ s ⟨t.val % 8, by omega⟩ ⟨qc t.val % 8, by omega⟩ hk hq _ _ _ _ h
    exact ⟨y7, q, k, fun _ => rfl, fun h0 => by omega, fun h0 => by omega, fun h0 => absurd h0 h4, fun _ => ⟨rfl, rfl, rfl⟩⟩
  | firstFin h1 h2 h3 h4 y4 y7 y9 y10 h z5 z11 z12 h' =>
    rw [cond1_at] at h1; rw [cond4_at] at h4
    obtain ⟨q, k⟩ := left_first _ _ _ _ _ _ _ _ _ _ _ _ _ _ _ _ _ _ _ _ _ _ _ _ _ _ s ⟨t.val % 8, by omega⟩ ⟨qc t.val % 8, by omega⟩ hk hq _ _ _ _ h
    exact ⟨y7, q, k, fun _ => rfl, fun h0 => by omega, fun h0 => by omega, fun _ => left_finish _ _ _ _ _ _ _ _ _ _ _ _ _ _ _ _ _ _ _ _ _ _ _ _ _ _ _ _ _ _ h', fun h0 => absurd h4 h0⟩
  | odd h1 h2 h3 h4 y4 y6 y8 y9 y10 h =>
    rw [cond2_at] at h2; rw [cond4_at] at h4
    obtain ⟨q, k, d⟩ := left_odd _ _ _ _ _ _ _ _ _ _ _ _ _ _ _ _ _ _ _ _ _ _ _ _ _ _ s ⟨t.val % 8, by omega⟩ ⟨qc t.val % 8, by omega⟩ ⟨(t.val - 9) % 8, by omega⟩ hk hq hd _ _ _ _ _ h
    exact ⟨y8, q, k, fun h0 => by omega, fun _ _ => ⟨rfl, d⟩, fun _ h0 => by omega, fun h0 => absurd h0 h4, fun _ => ⟨rfl, rfl, rfl⟩⟩
  | oddFin h1 h2 h3 h4 y4 y6 y8 y9 y10 h z5 z11 z12 h' =>
    rw [cond2_at] at h2; rw [cond4_at] at h4
    obtain ⟨q, k, d⟩ := left_odd _ _ _ _ _ _ _ _ _ _ _ _ _ _ _ _ _ _ _ _ _ _ _ _ _ _ s ⟨t.val % 8, by omega⟩ ⟨qc t.val % 8, by omega⟩ ⟨(t.val - 9) % 8, by omega⟩ hk hq hd _ _ _ _ _ h
    exact ⟨y8, q, k, fun h0 => by omega, fun _ _ => ⟨rfl, d⟩, fun _ h0 => by omega, fun _ => left_finish _ _ _ _ _ _ _ _ _ _ _ _ _ _ _ _ _ _ _ _ _ _ _ _ _ _ _ _ _ _ h', fun h0 => absurd h4 h0⟩
  | even h1 h2 h3 h4 y4 y6 y7 y9 y10 h =>
    rw [cond3_at] at h3; rw [cond4_at] at h4
    obtain ⟨q, k, d⟩ := left_even _ _ _ _ _ _ _ _ _ _ _ _ _ _ _ _ _ _ _ _ _ _ _ _ _ _ s ⟨t.val % 8, by omega⟩ ⟨qc t.val % 8, by omega⟩ ⟨(t.val - 9) % 8, by omega⟩ hk hq hd _ _ _ _ _ h
    exact ⟨y7, q, k, fun h0 => by omega, fun _ h0 => by omega, fun _ _ => ⟨rfl, d⟩, fun h0 => absurd h0 h4, fun _ => ⟨rfl, rfl, rfl⟩⟩

/-- What holds of the scratch before point `t`, -/
def Inv (c : Dev nD) (t : ℕ) (x7 x8 : Vec Ideal S512x2048 .bf16) (x9 x10 x11 x12 : Vec Ideal S512x128 .f32) : Prop :=
  (t < 48 → Stat (acts m c) (t / 8) (t % 8) x9 x10) ∧ (8 ≤ t → Tabs (acts m c) (qc t / 8) x11 x12)
    ∧ (9 ≤ t → t % 2 = 1 → Vals (acts m c) (qc (t - 1)) x7) ∧ (9 ≤ t → t % 2 = 0 → Vals (acts m c) (qc (t - 1)) x8)

/-- and of each result's block after it. -/
def Rl (c : Dev nD) : (w : Fin cfg0.W) → Fin cfg0.N → ((cfg0.win w).block.Idx → Elt Ideal (cfg0.win w).elt) → Prop
  | ⟨3, _⟩, t, Y => 8 ≤ t.val → Codes (acts m c) (qc t.val) Y
  | ⟨4, _⟩, t, Y => (t.val % 8 = 7 ∧ t.val ≤ 47 → Scales (acts m c) (t.val / 8) Y) ∧ (47 ≤ t.val → Scales (acts m c) 5 Y)
  | ⟨5, _⟩, t, Y => 9 ≤ t.val → Accs (acts m c) (wgts m c) ((t.val - 9) / 8) ((t.val - 9) % 8 + 1) Y
  | _, _, _ => True

theorem inv_zero (c : Dev nD) (x7 x8 : Vec Ideal S512x2048 .bf16) (x9 x10 x11 x12 : Vec Ideal S512x128 .f32) : Inv m c 0 x7 x8 x9 x10 x11 x12 :=
  ⟨fun _ R r _ l => ⟨fun h => absurd rfl h, fun h => absurd h (Nat.not_lt_zero _)⟩, fun h => by omega, fun h => by omega, fun h => by omega⟩

/-- The scales found at an idle point are those of the last block. -/
theorem finds4 (c : Dev nD) (t : Fin cfg0.N) (h : 48 ≤ t.val) (Y) (hY : (rdat m (Inv m) (Rl m) c).Finds 4 t Y) : Scales (acts m c) 5 Y := by
  have ht := lt57 t
  rcases ((rdat m (Inv m) (Rl m) c).finds_of_pos (w := 4) (fetch4_at t) (by omega) Y).1 hY with hf | hl
  · rw [flush4_at _ (by show 47 ≤ t.val - 1; omega) (by show t.val - 1 < 56; omega)] at hf
    exact absurd hf Bool.false_ne_true
  · exact ((dats m (Inv m) 0 c).toRRel_leaves (fgt := outs) (Rl := Rl m c) rfl hl).2 (by show 47 ≤ t.val - 1; omega)

/-- The product found at a point that adds to it. -/
theorem finds5 (c : Dev nD) (t : Fin cfg0.N) (h : 9 ≤ t.val) (h0 : (t.val - 9) % 8 ≠ 0) (Y) (hY : (rdat m (Inv m) (Rl m) c).Finds 5 t Y) :
    Accs (acts m c) (wgts m c) ((t.val - 9) / 8) ((t.val - 9) % 8) Y := by
  rcases ((rdat m (Inv m) (Rl m) c).finds_of_pos (w := 5) (fetch5_at t) (by omega) Y).1 hY with hf | hl
  · rw [flush5_at _ (by show 9 ≤ t.val - 1; omega) (by show (t.val - 1 - 9) % 8 ≠ 7; omega)] at hf
    exact absurd hf Bool.false_ne_true
  · have hr := ((dats m (Inv m) 0 c).toRRel_leaves (fgt := outs) (Rl := Rl m c) rfl hl : Rl m c 5 _ Y) (by show 9 ≤ t.val - 1; omega)
    rw [show (t.val - 1 - 9) / 8 = (t.val - 9) / 8 by omega, show (t.val - 1 - 9) % 8 + 1 = (t.val - 9) % 8 by omega] at hr
    exact hr

/-- Every point keeps them. -/
theorem keeps : Keeps m (Inv m) (Rl m) := by
  intro c t s s' h1 h2 h3 f3 f4 f5 ⟨i1, i2, i3, i4⟩ hT
  have ht := lt57 t
  obtain ⟨v, hq, hs, ha, ho, he, hf, hn⟩ := trans_at c t s s' hT
  have hst : t.val < 48 → Stat (acts m c) (t.val / 8) (t.val % 8 + 1) s'.a9 s'.a10 := fun h => stat_step m c t h h1 (i1 h) hs
  have hfin : t.val % 8 = 7 ∧ t.val ≤ 47 → Scales (acts m c) (t.val / 8) s'.a5 ∧ Tabs (acts m c) (t.val / 8) s'.a11 s'.a12 := fun h => by
    have h8 := hst (by omega)
    rw [h.1] at h8
    exact finish_step _ h8 (hf h)
  have hqv : 8 ≤ t.val → Codes (acts m c) (qc t.val) s'.a4 ∧ Vals (acts m c) (qc t.val) v := fun h => quant_step m c t h2 (i2 h) hq
  refine ⟨⟨fun h => Stat.next _ (hst (by omega)), fun h => ?_, fun h hp => ?_, fun h hp => ?_⟩, fun h => (hqv h).1, ⟨fun h => (hfin h).1, fun h => ?_⟩, fun h => ?_⟩
  · by_cases h7 : t.val % 8 = 7 ∧ t.val ≤ 47
    · rw [show qc (t.val + 1) / 8 = t.val / 8 by unfold qc; omega]
      exact (hfin h7).2
    · obtain ⟨-, e11, e12⟩ := hn h7
      rw [e11, e12, show qc (t.val + 1) / 8 = qc t.val / 8 by unfold qc; omega]
      exact i2 (by omega)
  · have e : s'.a7 = v := by
      by_cases h8 : t.val ≤ 8
      · exact ha h8
      · exact (he (by omega) (by omega)).1
    rw [e]
    exact (hqv (by omega)).2
  · rw [(ho (by omega) (by omega)).1]
    exact (hqv (by omega)).2
  · by_cases h7 : t.val % 8 = 7 ∧ t.val ≤ 47
    · have := (hfin h7).1
      rw [show t.val / 8 = 5 by omega] at this
      exact this
    · rw [(hn h7).1]
      exact finds4 m c t (by omega) _ f4
  · have f : (t.val - 9) % 8 ≠ 0 → Accs (acts m c) (wgts m c) ((t.val - 9) / 8) ((t.val - 9) % 8) s.a6 := fun h0 => finds5 m c t h h0 _ f5
    by_cases hp : t.val % 2 = 1
    · exact dot_step m c t h h3 (i3 h hp) f (ho (by omega) hp).2
    · exact dot_step m c t h h3 (i4 h (by omega)) f (he (by omega) (by omega)).2

end Cert.ProjKernelIdeal.Own

end
-- ==== Proof.Proj.Reference.lean ====
/- What the reference of the projection computes, read at one entry. -/
module

public import proofs.«01_k».proof.Proof.Gen.ProjReferenceIdeal.Run
public import proofs.«01_k».proof.Proof.Nibbles
public import proofs.«01_k».proof.Proof.Proj.Spec
public import Idealize.ShloMosaic.Lib.Pointwise

@[expose] public section

set_option maxRecDepth 16384

noncomputable section

open Idealize.ShloMosaic Idealize.ShloMosaic.TcCoe Idealize.SL.Sem

namespace Cert.ProjReferenceIdeal.Value
open Cert.ProjReferenceIdeal Cert.ProjReferenceIdeal.Gen

variable (X : FVec Ideal S3072x16384 .bf16) (W : IVec S8192x2304 8)

/-! ## The reference's results as terms over its two arguments -/

/-- The normalised rows, in groups. -/
def normed : FVec Ideal S3072x128x128 .f32 :=
  shapeCast _ (Host.divf (extf .f32 X bitsLt_bf16_f32) (broadcastInDim S3072x16384 ![0, 1] bcast_S3072x1_S3072x16384_0_1 (Host.sqrt (addf (Host.divf (broadcastInDim S3072x1 ![0] bcast_S3072_S3072x1_0 (Host.reduceAdd (mulf (extf .f32 X bitsLt_bf16_f32) (extf .f32 X bitsLt_bf16_f32)) (constant S_ .f32 0x00000000#32) reducesTo_S3072x16384_S3072_d1 h_S_)) (broadcastInDim S3072x1 ![] bcast_S_S3072x1 (constant S_ .f32 0x46800000#32))) (broadcastInDim S3072x1 ![] bcast_S_S3072x1 (constant S_ .f32 0x3727C5AC#32)))))) shapeCasts_S3072x16384_S3072x128x128

/-- The largest magnitude of each group. -/
def mags : FVec Ideal S3072x128 .f32 :=
  Host.reduce FloatOps.maximumf (Host.absf (normed X)) (constant S_ .f32 0xFF800000#32) reducesTo_S3072x128x128_S3072x128_d2 h_S_

/-- The exponent of each group. -/
def expos : FVec Ideal S3072x128 .f32 :=
  select (cmpf .oeq (mags X) (broadcastInDim S3072x128 ![] bcast_S_S3072x128 (constant S_ .f32 0x00000000#32))) (broadcastInDim S3072x128 ![] bcast_S_S3072x128 (id (constant S_ .f32 0x00000000#32))) (minimumf (broadcastInDim S3072x128 ![] bcast_S_S3072x128 (id (constant S_ .f32 0x42FE0000#32))) (maximumf (broadcastInDim S3072x128 ![] bcast_S_S3072x128 (id (constant S_ .f32 0xC2FC0000#32))) (addf (Host.floor (Host.divf (Host.log (Host.divf (mulf (mags X) (broadcastInDim S3072x128 ![] bcast_S_S3072x128 (constant S_ .f32 0x3F6674CD#32))) (broadcastInDim S3072x128 ![] bcast_S_S3072x128 (constant S_ .f32 0x40E00000#32)))) (broadcastInDim S3072x128 ![] bcast_S_S3072x128 (Host.log (constant S_ .f32 0x40000000#32))))) (broadcastInDim S3072x128 ![] bcast_S_S3072x128 (constant S_ .f32 0x3F800000#32)))))

/-- Two to minus the exponent. -/
def invs : FVec Ideal S3072x128 .f32 :=
  Host.powf (broadcastInDim S3072x128 ![] bcast_S_S3072x128 (constant S_ .f32 0x40000000#32)) (Host.negf (expos X))

/-- The scales: two to the exponent. -/
def scales : FVec Ideal S3072x128 .f32 :=
  Host.powf (broadcastInDim S3072x128 ![] bcast_S_S3072x128 (constant S_ .f32 0x40000000#32)) (expos X)

/-- The codes, as numbers. -/
def codes : FVec Ideal S3072x128x128 .f32 :=
  minimumf (broadcastInDim S3072x128x128 ![] bcast_S_S3072x128x128 (sitofp .f32 (constantI S_ 32 7#32))) (maximumf (broadcastInDim S3072x128x128 ![] bcast_S_S3072x128x128 (sitofp .f32 (constantI S_ 32 4294967289#32))) (Host.roundeven (mulf (normed X) (broadcastInDim S3072x128x128 ![0, 1, 2] bcast_S3072x128x1_S3072x128x128_0_1_2 (broadcastInDim S3072x128x1 ![0, 1] bcast_S3072x128_S3072x128x1_0_1 (invs X))))))

/-- The quantised values. -/
def vals : FVec Ideal S3072x16384 .bf16 :=
  shapeCast _ (mulf (truncf .bf16 (codes X) bitsLt_bf16_f32) (broadcastInDim S3072x128x128 ![0, 1, 2] bcast_S3072x128x1_S3072x128x128_0_1_2 (broadcastInDim S3072x128x1 ![0, 1] bcast_S3072x128_S3072x128x1_0_1 (truncf .bf16 (scales X) bitsLt_bf16_f32)))) shapeCasts_S3072x128x128_S3072x16384

/-- The first result: the codes as bytes. -/
def REF1 : IVec S3072x16384 8 :=
  shapeCast _ (trunci 8 (fptosi 32 (codes X)) natLt_8_32) shapeCasts_S3072x128x128_S3072x16384

/-- The third result: the product with the weights. -/
def REF3 : FVec Ideal S3072x2304 .f32 :=
  addf (Host.dotGeneral dot_S3072x8192_S8192x2304_S3072x2304_1_0_0_1_n_n none (Host.slice S3072x8192 ![0, 0] ![1, 2] (vals X) slicesBy_S3072x16384_S3072x8192_0s1_0s2) (sitofp .bf16 (select (cmpi .sge (andi (extui 32 W natLt_8_32) (broadcastInDim S8192x2304 ![] bcast_S_S8192x2304 (constantI S_ 32 15#32))) (broadcastInDim S8192x2304 ![] bcast_S_S8192x2304 (constantI S_ 32 8#32))) (subi (andi (extui 32 W natLt_8_32) (broadcastInDim S8192x2304 ![] bcast_S_S8192x2304 (constantI S_ 32 15#32))) (broadcastInDim S8192x2304 ![] bcast_S_S8192x2304 (constantI S_ 32 16#32))) (andi (extui 32 W natLt_8_32) (broadcastInDim S8192x2304 ![] bcast_S_S8192x2304 (constantI S_ 32 15#32)))))) (Host.dotGeneral dot_S3072x8192_S8192x2304_S3072x2304_1_0_0_1_n_n none (Host.slice S3072x8192 ![0, 1] ![1, 2] (vals X) slicesBy_S3072x16384_S3072x8192_0s1_1s2) (sitofp .bf16 (select (cmpi .sge (Host.shrsi (extui 32 W natLt_8_32) (broadcastInDim S8192x2304 ![] bcast_S_S8192x2304 (constantI S_ 32 4#32))) (broadcastInDim S8192x2304 ![] bcast_S_S8192x2304 (constantI S_ 32 8#32))) (subi (Host.shrsi (extui 32 W natLt_8_32) (broadcastInDim S8192x2304 ![] bcast_S_S8192x2304 (constantI S_ 32 4#32))) (broadcastInDim S8192x2304 ![] bcast_S_S8192x2304 (constantI S_ 32 16#32))) (Host.shrsi (extui 32 W natLt_8_32) (broadcastInDim S8192x2304 ![] bcast_S_S8192x2304 (constantI S_ 32 4#32))))))

/-! ## One entry of each -/

/-- The activations by row and channel. -/
def act (R : Fin 3072) (c : Fin 16384) : EReal := X (ix2 R c)
/-- The packed weights by row and column. -/
def wgt (k : Fin 8192) (n : Fin 2304) : BitVec 8 := W (ix2 k n)

theorem splat_at {t : Shape} (h : S_.BroadcastsInDim t ![]) (b : BitVec 32) (i : t.Idx) :
    broadcastInDim t ![] h (constant (F := Ideal) S_ .f32 b) i = Ideal.ofBits .f32 b := rfl

theorem splat_id_at {t : Shape} (h : S_.BroadcastsInDim t ![]) (b : BitVec 32) (i : t.Idx) :
    broadcastInDim t ![] h (id (constant (F := Ideal) S_ .f32 b)) i = Ideal.ofBits .f32 b := rfl

theorem splat_log_at {t : Shape} (h : S_.BroadcastsInDim t ![]) (b : BitVec 32) (i : t.Idx) :
    broadcastInDim t ![] h (Host.log (constant (F := Ideal) S_ .f32 b)) i = Ideal.log (Ideal.ofBits .f32 b) := rfl

theorem pow_at {s : Shape} (a b : FVec Ideal s .f32) (i : s.Idx) : Host.powf a b i = Ideal.pow (a i) (b i) := rfl
theorem neg_at {s : Shape} (a : FVec Ideal s .f32) (i : s.Idx) : Host.negf a i = -(a i) := rfl

/-- The exponent over any operands. -/
theorem expo_at {s : Shape} (M z z0 lo hi c d lg o : FVec Ideal s .f32) (i : s.Idx) (hz : z i = 0) :
    select (cmpf .oeq M z) z0 (minimumf hi (maximumf lo (addf (Host.floor (Host.divf (Host.log (Host.divf (mulf M c) d)) lg)) o))) i
      = if M i = 0 then z0 i else min (hi i) (max (lo i)
          (Ideal.liftRound Int.floor (Ideal.div (Ideal.log (Ideal.div (M i * c i) (d i))) (lg i)) + o i)) := by
  pointwise
  rw [hz]

theorem normed_at (R : Fin 3072) (l x : Fin 128) :
    normed X (ix3 R l x) = act X R ⟨128 * l.val + x.val, by omega⟩ * Quant.rinv (ProjSpec.ssq (act X) R) := by
  rw [← Quant.div_rms _ _ (ProjSpec.ssq_nonneg _ R)]
  pointwise [normed, ProjSpec.ssq, act]
  simp only [Nat.mul_comm]

theorem mags_at (R : Fin 3072) (l : Fin 128) :
    mags X (ix2 R l) = ProjSpec.top (act X) R l * Quant.rinv (ProjSpec.ssq (act X) R) := by
  unfold ProjSpec.top
  rw [← Quant.amax_mul _ _ (Quant.rinv_nonneg _ (ProjSpec.ssq_nonneg _ R))]
  pointwise [mags, Quant.amax]
  simp only [normed_at]

theorem expos_at (R : Fin 3072) (l : Fin 128) :
    expos X (ix2 R l) = Quant.expoR (ProjSpec.top (act X) R l * Quant.rinv (ProjSpec.ssq (act X) R)) := by
  unfold expos
  rw [expo_at _ _ _ _ _ _ _ _ _ _ ((splat_at _ _ _).trans Ideal.ofBits_zero_f32)]
  rw [splat_id_at, splat_id_at, splat_id_at, splat_at, splat_at, splat_at, splat_log_at, mags_at]
  unfold Quant.expoR Quant.expo
  rw [Ideal.ofBits_zero_f32, Ideal.ofBits_one_f32, Quant.bits_127, Quant.bits_neg126, Quant.bits_1]

theorem invs_at (R : Fin 3072) (l : Fin 128) : invs X (ix2 R l) = ProjSpec.inv (act X) R l := by
  unfold invs ProjSpec.inv ProjSpec.scl
  rw [pow_at, neg_at, splat_at, expos_at, Quant.bits_1, Quant.inv_eq]

theorem scales_at (R : Fin 3072) (l : Fin 128) : scales X (ix2 R l) = ProjSpec.scl (act X) R l := by
  unfold scales ProjSpec.scl
  rw [pow_at, splat_at, expos_at, Quant.bits_1, Quant.scale_eq]

theorem codes_at (R : Fin 3072) (c : Fin 16384) :
    codes X (ix3 R ⟨c.val / 128, by omega⟩ ⟨c.val % 128, by omega⟩) = ProjSpec.cod (act X) R c := by
  have e : (⟨128 * (c.val / 128) + c.val % 128, by omega⟩ : Fin 16384) = c := Fin.ext (Nat.div_add_mod _ _)
  pointwise [codes, ProjSpec.cod, Quant.code]
  simp only [normed_at, invs_at, e]
  try rfl

/-- The first result's entries. -/
theorem REF1_at (R : Fin 3072) (c : Fin 16384) : REF1 X (ix2 R c) = ProjSpec.byt (act X) R c := by
  pointwise [REF1, ProjSpec.byt]
  rw [codes_at]
  try rfl

theorem vals_at (R : Fin 3072) (c : Fin 16384) : vals X (ix2 R c) = ProjSpec.val (act X) R c := by
  pointwise [vals, ProjSpec.val]
  rw [codes_at, scales_at]

/-- The third result's entries. -/
theorem REF3_at (R : Fin 3072) (n : Fin 2304) : REF3 X W (ix2 R n) = ProjSpec.acc (act X) (wgt W) R n := by
  rw [ProjSpec.acc_even_odd]
  pointwise [REF3]
  simp only [Nibbles.lo_select, Nibbles.hi_select, vals_at]
  rfl

end Cert.ProjReferenceIdeal.Value
end
-- ==== Proof.Proj.Final.lean ====
/- The result arrays of the projection kernel after the run. -/
module

public import proofs.«01_k».proof.Proof.Proj.Keeps
public import proofs.«01_k».proof.Proof.Proj.Reference
public import Idealize.ShloMosaic.Lib.Pipeline.ArrRel
public import Idealize.ShloMosaic.Lib.Claim

@[expose] public section

set_option maxRecDepth 16384

noncomputable section

namespace Cert.ProjKernelIdeal.Own

open Cert.ProjKernelIdeal.Gen
open Idealize.ShloMosaic Idealize.ShloMosaic.TcCoe Idealize.SL.Sem

variable (m : (ℓ : Loc nD τ sig) → Buf (Elt Ideal) ℓ)

theorem flush3_at : ∀ t : Fin cfg0.N, (cfg0.win 3).flush t = true → 8 ≤ t.val := by decide +kernel
theorem flush4_when : ∀ t : Fin cfg0.N, (cfg0.win 4).flush t = true → (t.val % 8 = 7 ∧ t.val ≤ 47) ∨ t.val = 56 := by decide +kernel
theorem flush5_when : ∀ t : Fin cfg0.N, (cfg0.win 5).flush t = true → 9 ≤ t.val ∧ (t.val - 9) % 8 = 7 := by decide +kernel

variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdat m (Inv m) (Rl m) c).Leaves w u (after w u))

include hL

/-- The codes. -/
theorem final3 : ((rdat m (Inv m) (Rl m) c).withAfter after).arrAt 3 cfg0.N
    = Cert.ProjReferenceIdeal.Value.REF1 (m ((c : Thread nD τ).loc main_arg0)) := by
  refine ((rdat m (Inv m) (Rl m) c).withAfter after).arrAt_eq_of_covers 3 _ (by decide +kernel) fun t hf y => ?_
  have hY := (dats m (Inv m) 0 c).toRRel_leaves (fgt := outs) (Rl := Rl m c) rfl (hL 3 t hf)
  blk_simp
  obtain ⟨r, x, rfl⟩ : ∃ (r : Fin 512) (x : Fin 2048), y = ix2 r x := ⟨y 0, y 1, eq_ix2 y⟩
  have h0 : ((win0_3.blk t).view.emb (ix2 r x) 0).val = 512 * (qc t.val / 8) + r.val := by
    blk_simp [idx t]; try omega
  have h1 : ((win0_3.blk t).view.emb (ix2 r x) 1).val = 2048 * (qc t.val % 8) + x.val := by
    blk_simp [idx t]; try omega
  refine (hY (flush3_at t hf) _ _ r x h0 h1).trans ?_
  exact ((congrArg (Cert.ProjReferenceIdeal.Value.REF1 (m ((c : Thread nD τ).loc main_arg0))) (eq_ix2 _)).trans
    (Cert.ProjReferenceIdeal.Value.REF1_at _ _ _)).symm

/-- The scales. -/
theorem final4 : ((rdat m (Inv m) (Rl m) c).withAfter after).arrAt 4 cfg0.N
    = Cert.ProjReferenceIdeal.Value.scales (m ((c : Thread nD τ).loc main_arg0)) := by
  refine ((rdat m (Inv m) (Rl m) c).withAfter after).arrAt_eq_of_covers 4 _ (by decide +kernel) fun t hf y => ?_
  have hY := (dats m (Inv m) 0 c).toRRel_leaves (fgt := outs) (Rl := Rl m c) rfl (hL 4 t hf)
  have hS : Scales (acts m c) (min t.val 47 / 8) (after 4 t) := by
    rcases flush4_when t hf with h | h
    · rw [show min t.val 47 / 8 = t.val / 8 by omega]; exact hY.1 h
    · rw [show min t.val 47 / 8 = 5 by omega]; exact hY.2 (by omega)
  blk_simp
  obtain ⟨r, l, rfl⟩ : ∃ (r : Fin 512) (l : Fin 128), y = ix2 r l := ⟨y 0, y 1, eq_ix2 y⟩
  have h0 : ((win0_4.blk t).view.emb (ix2 r l) 0).val = 512 * (min t.val 47 / 8) + r.val := by
    blk_simp [idx t]; try omega
  have h1 : (win0_4.blk t).view.emb (ix2 r l) 1 = l := Fin.ext (by
    blk_simp [idx t]; try omega)
  refine (hS _ r h0 l).trans ?_
  refine ((congrArg (Cert.ProjReferenceIdeal.Value.scales (m ((c : Thread nD τ).loc main_arg0))) ((eq_ix2 _).trans (congrArg (ix2 _) h1))).trans
    (Cert.ProjReferenceIdeal.Value.scales_at _ _ _)).symm

/-- The product. -/
theorem final5 : ((rdat m (Inv m) (Rl m) c).withAfter after).arrAt 5 cfg0.N
    = Cert.ProjReferenceIdeal.Value.REF3 (m ((c : Thread nD τ).loc main_arg0)) (m ((c : Thread nD τ).loc main_arg1)) := by
  refine ((rdat m (Inv m) (Rl m) c).withAfter after).arrAt_eq_of_covers 5 _ (by decide +kernel) fun t hf y => ?_
  have hY := (dats m (Inv m) 0 c).toRRel_leaves (fgt := outs) (Rl := Rl m c) rfl (hL 5 t hf)
  have hA : Accs (acts m c) (wgts m c) ((t.val - 9) / 8) 8 (after 5 t) := by
    obtain ⟨h9, h7⟩ := flush5_when t hf
    have := hY h9
    rw [h7] at this
    exact this
  blk_simp
  obtain ⟨r, n, rfl⟩ : ∃ (r : Fin 512) (n : Fin 2304), y = ix2 r n := ⟨y 0, y 1, eq_ix2 y⟩
  have h0 : ((win0_5.blk t).view.emb (ix2 r n) 0).val = 512 * ((t.val - 9) / 8) + r.val := by
    blk_simp [idx t]; try omega
  have h1 : (win0_5.blk t).view.emb (ix2 r n) 1 = n := Fin.ext (by
    blk_simp [idx t]; try omega)
  refine (hA _ r h0 n).trans ?_
  refine (ProjSpec.pacc_all (acts m c) (wgts m c) _ n).trans ?_
  refine ((congrArg (Cert.ProjReferenceIdeal.Value.REF3 (m ((c : Thread nD τ).loc main_arg0)) (m ((c : Thread nD τ).loc main_arg1))) ((eq_ix2 _).trans (congrArg (ix2 _) h1))).trans
    (Cert.ProjReferenceIdeal.Value.REF3_at _ _ _ _)).symm

omit hL

/-- The run: the three results are the reference's terms over the kernel's arguments, the arguments end unchanged, and every semaphore
    at zero. -/
theorem run (ρ : Dev nD → PrngReg) : θ_run defs (onTc (τ := τ) (main (F := Ideal))) ⟨m, fun _ => 0, ρ⟩ (fun r => (∀ c : Dev nD,
      r.2.mem ((c.tc : Thread nD τ).loc main_v0_0) = Cert.ProjReferenceIdeal.Value.REF1 (m ((c.tc : Thread nD τ).loc main_arg0))
      ∧ r.2.mem ((c.tc : Thread nD τ).loc main_v0_1) = Cert.ProjReferenceIdeal.Value.scales (m ((c.tc : Thread nD τ).loc main_arg0))
      ∧ r.2.mem ((c.tc : Thread nD τ).loc main_v0_2) = Cert.ProjReferenceIdeal.Value.REF3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => by
      obtain ⟨after, hL, hA⟩ := Pipeline.RDat.FramePost.exists_exact h.1 c
      exact ⟨(hA 3).trans (final3 m c after hL), (hA 4).trans (final4 m c after hL), (hA 5).trans (final5 m c after hL), frame_of_run m (Inv m) (Rl m) r h.1 c⟩, h.2⟩)
    (run_main m ρ (Inv m) (Rl m) (keeps m) (inv_zero m))

end Cert.ProjKernelIdeal.Own

end
-- ==== Proof.Proj.RefRun.lean ====
/- The run of the projection's reference, with its results named. -/
module

public import proofs.«01_k».proof.Proof.Proj.Reference

@[expose] public section

set_option maxRecDepth 65536

noncomputable section

open Idealize.ShloMosaic Idealize.ShloMosaic.TcCoe Idealize.SL.Sem

namespace Cert.ProjReferenceIdeal.Value
open Cert.ProjReferenceIdeal Cert.ProjReferenceIdeal.Gen

/-- The reference ends with the codes, the scales and the product of its arguments, which it leaves unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = REF1 (m ((c.tc : Thread nD τ).loc main_arg0))
      ∧ r.2.mem ((c.tc : Thread nD τ).loc main_v30) = scales (m ((c.tc : Thread nD τ).loc main_arg0))
      ∧ r.2.mem ((c.tc : Thread nD τ).loc main_v66) = REF3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h1, h2, h3, h4, h5⟩ := h c
    refine ⟨h1.trans ?_, h2.trans ?_, h3.trans ?_, h4, h5⟩
    · unfold REF1 codes invs expos mags normed; rfl
    · unfold scales expos mags normed; rfl
    · unfold res_main_v66 REF3 vals codes invs scales expos mags normed; rfl) (run (F := Ideal) m ρ)

end Cert.ProjReferenceIdeal.Value

end
-- ==== Proof.Proj.Bits.Progs.lean ====
/- The four programs the body of the projection kernel runs: the first points without a product, the two parities with one, and the
   step that turns the statistics of a block of rows into its scales. -/
module

public import proofs.«01_k».proof.Proof.Gen.ProjKernel.Frame
public import proofs.«01_k».proof.Proof.Gen.ProjKernel.Skeleton

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chunk whose statistics point `i` collects. -/
def kStat (i : grid0.Coords) : BitVec 32 := Scalar.remsi (BitVec.ofNat 32 (i 0).val) 8#32

/-- The chunk that point `i` quantises. -/
def kQuant (i : grid0.Coords) : BitVec 32 :=
  Scalar.remsi (Scalar.minsi 47#32 (Scalar.maxsi 0#32 (Scalar.subi (BitVec.ofNat 32 (i 0).val) 8#32))) 8#32

/-- The chunk that point `i` multiplies. -/
def kDot (i : grid0.Coords) : BitVec 32 :=
  Scalar.remsi (Scalar.maxsi (Scalar.subi (Scalar.subi (BitVec.ofNat 32 (i 0).val) 8#32) 1#32) 0#32) 8#32

/-- The body at the points that only collect statistics and quantise (the first nine). -/
noncomputable def progFirst (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (v0 v4 : BitVec 32) :
    Prog (TpuEff nD τ sig (Elt F) Λ₀ .tc) PUnit := do
  let ⟨v2228, v2410, v2414, v2417⟩ : Σ' (v2228 : IVec S128x128 32) (v2410 : FVec F S128x128 .f32) (v2414 : FVec F S128x128 .f32), FVec F S128x1 .f32 ← k0_part58 i arg1 harg1 arg2 harg2 arg3 harg3 arg4 harg4 arg5 harg5 arg6 harg6 arg7 harg7 arg8 harg8 arg9 harg9 arg10 harg10 arg11 harg11 arg12 harg12 v0 v4
  let v2429 : Vec F S128x128 .f32 ← Prog.lift (.load arg10 (Rect.unit (s := S512x128) ![384, 0] S128x128.size inb_S512x128_S128x128_384_0).toLoadRect (View.loadsAt_vmem h_S128x128))
  let v2431 : Vec F S128x128 .f32 ← Prog.lift (.load arg10 (Rect.unit (s := S512x128) ![384, 0] S128x128.size inb_S512x128_S128x128_384_0).toLoadRect (View.loadsAt_vmem h_S128x128))
  Prog.lift (.store arg10 (Rect.unit (s := S512x128) ![384, 0] S128x128.size inb_S512x128_S128x128_384_0) (k0_pay1 i v2228 v2410 v2417 v2429) Finset.univ (View.stores_vmem_bits_univ h_S128x128 rfl) (.inl rfl))
  let v2435 : Vec F S128x128 .f32 ← Prog.lift (.load arg9 (Rect.unit (s := S512x128) ![384, 0] S128x128.size inb_S512x128_S128x128_384_0).toLoadRect (View.loadsAt_vmem h_S128x128))
  let v2438 : Vec F S128x128 .f32 ← Prog.lift (.load arg9 (Rect.unit (s := S512x128) ![384, 0] S128x128.size inb_S512x128_S128x128_384_0).toLoadRect (View.loadsAt_vmem h_S128x128))
  Prog.lift (.store arg9 (Rect.unit (s := S512x128) ![384, 0] S128x128.size inb_S512x128_S128x128_384_0) (k0_pay2 i v2414 v2435) Finset.univ (View.stores_vmem_bits_univ h_S128x128 rfl) (.inl rfl))
  pure ⟨⟩

/-- The body at an odd later point: the values of the step before are in the first buffer, the new ones go to the second. -/
noncomputable def progOdd (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (v0 v4 v8 : BitVec 32) :
    Prog (TpuEff nD τ sig (Elt F) Λ₀ .tc) PUnit := do
  let ⟨v2412, v2498, v2502, v2505, c7_i32_963⟩ : Σ' (v2412 : IVec S128x128 32) (v2498 : FVec F S128x128 .f32) (v2502 : FVec F S128x128 .f32) (v2505 : FVec F S128x1 .f32), BitVec 32 ← k0_part122 i arg1 harg1 arg2 harg2 arg3 harg3 arg4 harg4 arg5 harg5 arg6 harg6 arg7 harg7 arg8 harg8 arg9 harg9 arg10 harg10 arg11 harg11 arg12 harg12 v0 v4 v8
  let ⟨v2546, v2550, v2551⟩ : Σ' (v2546 : FVec F S128x128 .f32) (v2550 : FVec F S128x128 .f32), FVec F S128x128 .f32 ← k0_part119 i arg1 harg1 arg2 harg2 arg3 harg3 arg4 harg4 arg5 harg5 arg6 harg6 arg7 harg7 arg8 harg8 arg9 harg9 arg10 harg10 arg11 harg11 arg12 harg12 v2412 v2498 v2502 v2505 c7_i32_963
  let ⟨v2586, v2594, v2595⟩ : Σ' (v2586 : FVec F S128x128 .f32) (v2594 : FVec F S128x128 .f32), Vec F S128x128 .bf16 ← k0_part120 i arg1 harg1 arg2 harg2 arg3 harg3 arg4 harg4 arg5 harg5 arg6 harg6 arg7 harg7 arg8 harg8 arg9 harg9 arg10 harg10 arg11 harg11 arg12 harg12 v2412 v2546 v2550 v2551
  let ⟨v2625, v2631, v2633⟩ : Σ' (v2625 : Vec F S512x2048 .bf16) (v2631 : IVec S1024x256 32), IVec S1024x256 32 ← k0_part121 i arg1 harg1 arg2 harg2 arg3 harg3 arg4 harg4 arg5 harg5 arg6 harg6 arg7 harg7 arg8 harg8 arg9 harg9 arg10 harg10 arg11 harg11 arg12 harg12 v0 v2412 v2586 v2594 v2595
  let v2643 : Vec F S512x256 .f32 ← Prog.lift (.load arg6 (Rect.unit (s := S512x2304) ![0, 2048] S512x256.size inb_S512x2304_S512x256_0_2048).toLoadRect (View.loadsAt_vmem h_S512x256))
  let v2647 : Vec F S512x256 .f32 ← Prog.lift (.load arg6 (Rect.unit (s := S512x2304) ![0, 2048] S512x256.size inb_S512x2304_S512x256_0_2048).toLoadRect (View.loadsAt_vmem h_S512x256))
  Prog.lift (.store arg6 (Rect.unit (s := S512x2304) ![0, 2048] S512x256.size inb_S512x2304_S512x256_0_2048) (k0_pay3 i v2625 v2631 v2633 v2643) Finset.univ (View.stores_vmem_bits_univ h_S512x256 rfl) (.inl rfl))
  pure ⟨⟩

/-- The body at an even later point: the two value buffers swapped. -/
noncomputable def progEven (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (v0 v4 v8 : BitVec 32) :
    Prog (TpuEff nD τ sig (Elt F) Λ₀ .tc) PUnit := do
  let ⟨v2412, v2498, v2502, v2505, c7_i32_963⟩ : Σ' (v2412 : IVec S128x128 32) (v2498 : FVec F S128x128 .f32) (v2502 : FVec F S128x128 .f32) (v2505 : FVec F S128x1 .f32), BitVec 32 ← k0_part186 i arg1 harg1 arg2 harg2 arg3 harg3 arg4 harg4 arg5 harg5 arg6 harg6 arg7 harg7 arg8 harg8 arg9 harg9 arg10 harg10 arg11 harg11 arg12 harg12 v0 v4 v8
  let ⟨v2546, v2550, v2551⟩ : Σ' (v2546 : FVec F S128x128 .f32) (v2550 : FVec F S128x128 .f32), FVec F S128x128 .f32 ← k0_part183 i arg1 harg1 arg2 harg2 arg3 harg3 arg4 harg4 arg5 harg5 arg6 harg6 arg7 harg7 arg8 harg8 arg9 harg9 arg10 harg10 arg11 harg11 arg12 harg12 v2412 v2498 v2502 v2505 c7_i32_963
  let ⟨v2586, v2594, v2595⟩ : Σ' (v2586 : FVec F S128x128 .f32) (v2594 : FVec F S128x128 .f32), Vec F S128x128 .bf16 ← k0_part184 i arg1 harg1 arg2 harg2 arg3 harg3 arg4 harg4 arg5 harg5 arg6 harg6 arg7 harg7 arg8 harg8 arg9 harg9 arg10 harg10 arg11 harg11 arg12 harg12 v2412 v2546 v2550 v2551
  let ⟨v2625, v2631, v2633⟩ : Σ' (v2625 : Vec F S512x2048 .bf16) (v2631 : IVec S1024x256 32), IVec S1024x256 32 ← k0_part185 i arg1 harg1 arg2 harg2 arg3 harg3 arg4 harg4 arg5 harg5 arg6 harg6 arg7 harg7 arg8 harg8 arg9 harg9 arg10 harg10 arg11 harg11 arg12 harg12 v0 v2412 v2586 v2594 v2595
  let v2643 : Vec F S512x256 .f32 ← Prog.lift (.load arg6 (Rect.unit (s := S512x2304) ![0, 2048] S512x256.size inb_S512x2304_S512x256_0_2048).toLoadRect (View.loadsAt_vmem h_S512x256))
  let v2647 : Vec F S512x256 .f32 ← Prog.lift (.load arg6 (Rect.unit (s := S512x2304) ![0, 2048] S512x256.size inb_S512x2304_S512x256_0_2048).toLoadRect (View.loadsAt_vmem h_S512x256))
  Prog.lift (.store arg6 (Rect.unit (s := S512x2304) ![0, 2048] S512x256.size inb_S512x2304_S512x256_0_2048) (k0_pay4 i v2625 v2631 v2633 v2643) Finset.univ (View.stores_vmem_bits_univ h_S512x256 rfl) (.inl rfl))
  pure ⟨⟩

/-- The end of a row block: its scales from its statistics. -/
noncomputable def progFinish (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) :
    Prog (TpuEff nD τ sig (Elt F) Λ₀ .tc) PUnit := do
  let ⟨v38, v45, v47, v64, v67, v68⟩ : Σ' (v38 : FVec F S512x1 .f32) (v45 : FVec F S512x128 .f32) (v47 : IVec S512x128 1) (v64 : FVec F S512x128 .f32) (v67 : IVec S512x128 1), FVec F S512x128 .f32 ← k0_part187 i arg1 harg1 arg2 harg2 arg3 harg3 arg4 harg4 arg5 harg5 arg6 harg6 arg7 harg7 arg8 harg8 arg9 harg9 arg10 harg10 arg11 harg11 arg12 harg12
  let v99 : Vec F S512x128 .f32 ← Prog.lift (.load arg5 (Rect.unit (s := S512x128) ![0, 0] S512x128.size inb_S512x128_S512x128_0_0).toLoadRect (View.loadsAt_vmem h_S512x128))
  Prog.lift (.store arg5 (Rect.unit (s := S512x128) ![0, 0] S512x128.size inb_S512x128_S512x128_0_0) (k0_pay5 v45 v47 v64 v67 v68) Finset.univ (View.stores_vmem_bits_univ h_S512x128 rfl) (.inl rfl))
  let v100 : Vec F S512x128 .f32 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay6 v45 v47 v64 v67 v68) Finset.univ (View.stores_vmem_bits_univ h_S512x128 rfl) (.inl rfl))
  let v105 : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay7 v38) Finset.univ (View.stores_vmem_bits_univ h_S512x128 rfl) (.inl rfl))
  pure ⟨⟩

end Cert.ProjKernel.Own

end
-- ==== Proof.Proj.Bits.Split.lean ====
/- The body of the projection kernel, split by its branch conditions into the four programs of Progs.lean. -/
module

public import proofs.«01_k».proof.Proof.Proj.Bits.Progs

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg4 : Memref sig .tc .vmem S512x2048 .i8) (harg4 : arg4.IsWhole)
  (arg5 : Memref sig .tc .vmem S512x128 .f32) (harg5 : arg5.IsWhole)
  (arg6 : Memref sig .tc .vmem S512x2304 .f32) (harg6 : arg6.IsWhole)
  (arg7 : Memref sig .tc .vmem S512x2048 .bf16) (harg7 : arg7.IsWhole)
  (arg8 : Memref sig .tc .vmem S512x2048 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)

set_option maxHeartbeats 1000000 in
include harg1 harg2 harg3 harg4 harg5 harg6 harg7 harg8 harg9 harg10 harg11 harg12 in
theorem split_first (h1 : k0_cond1 i = 1#1) (h2 : ¬ k0_cond2 i = 1#1) (h3 : ¬ k0_cond3 i = 1#1) (h4 : ¬ k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = progFirst i arg1 harg1 arg2 harg2 arg3 harg3 arg4 harg4 arg5 harg5 arg6 harg6 arg7 harg7 arg8 harg8 arg9 harg9 arg10 harg10 arg11 harg11 arg12 harg12 (kStat i) (kQuant i) := by
  simp only [cc0_proj_eq_skeleton]
  unfold cc0_proj_skel progFirst
  simp only [dif_pos h1, dif_neg h2, dif_neg h3, dif_neg h4]

  rfl

set_option maxHeartbeats 1000000 in
include harg1 harg2 harg3 harg4 harg5 harg6 harg7 harg8 harg9 harg10 harg11 harg12 in
theorem split_first_fin (h1 : k0_cond1 i = 1#1) (h2 : ¬ k0_cond2 i = 1#1) (h3 : ¬ k0_cond3 i = 1#1) (h4 : k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = (progFirst i arg1 harg1 arg2 harg2 arg3 harg3 arg4 harg4 arg5 harg5 arg6 harg6 arg7 harg7 arg8 harg8 arg9 harg9 arg10 harg10 arg11 harg11 arg12 harg12 (kStat i) (kQuant i) >>= fun _ => progFinish i arg1 harg1 arg2 harg2 arg3 harg3 arg4 harg4 arg5 harg5 arg6 harg6 arg7 harg7 arg8 harg8 arg9 harg9 arg10 harg10 arg11 harg11 arg12 harg12) := by
  simp only [cc0_proj_eq_skeleton]
  unfold cc0_proj_skel progFirst progFinish
  simp only [dif_pos h1, dif_neg h2, dif_neg h3, dif_pos h4]
  simp only [bind_assoc, pure_bind]
  rfl

set_option maxHeartbeats 1000000 in
include harg1 harg2 harg3 harg4 harg5 harg6 harg7 harg8 harg9 harg10 harg11 harg12 in
theorem split_odd (h1 : ¬ k0_cond1 i = 1#1) (h2 : k0_cond2 i = 1#1) (h3 : ¬ k0_cond3 i = 1#1) (h4 : ¬ k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = progOdd i arg1 harg1 arg2 harg2 arg3 harg3 arg4 harg4 arg5 harg5 arg6 harg6 arg7 harg7 arg8 harg8 arg9 harg9 arg10 harg10 arg11 harg11 arg12 harg12 (kStat i) (kQuant i) (kDot i) := by
  simp only [cc0_proj_eq_skeleton]
  unfold cc0_proj_skel progOdd
  simp only [dif_neg h1, dif_pos h2, dif_neg h3, dif_neg h4]

  rfl

set_option maxHeartbeats 1000000 in
include harg1 harg2 harg3 harg4 harg5 harg6 harg7 harg8 harg9 harg10 harg11 harg12 in
theorem split_odd_fin (h1 : ¬ k0_cond1 i = 1#1) (h2 : k0_cond2 i = 1#1) (h3 : ¬ k0_cond3 i = 1#1) (h4 : k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = (progOdd i arg1 harg1 arg2 harg2 arg3 harg3 arg4 harg4 arg5 harg5 arg6 harg6 arg7 harg7 arg8 harg8 arg9 harg9 arg10 harg10 arg11 harg11 arg12 harg12 (kStat i) (kQuant i) (kDot i) >>= fun _ => progFinish i arg1 harg1 arg2 harg2 arg3 harg3 arg4 harg4 arg5 harg5 arg6 harg6 arg7 harg7 arg8 harg8 arg9 harg9 arg10 harg10 arg11 harg11 arg12 harg12) := by
  simp only [cc0_proj_eq_skeleton]
  unfold cc0_proj_skel progOdd progFinish
  simp only [dif_neg h1, dif_pos h2, dif_neg h3, dif_pos h4]
  simp only [bind_assoc, pure_bind]
  rfl

set_option maxHeartbeats 1000000 in
include harg1 harg2 harg3 harg4 harg5 harg6 harg7 harg8 harg9 harg10 harg11 harg12 in
theorem split_even (h1 : ¬ k0_cond1 i = 1#1) (h2 : ¬ k0_cond2 i = 1#1) (h3 : k0_cond3 i = 1#1) (h4 : ¬ k0_cond4 i = 1#1) :
    cc0_proj (F := F) i arg1 harg1 arg2 harg2 arg3 harg3 arg4 harg4 arg5 harg5 arg6 harg6 arg7 harg7 arg8 harg8 arg9 harg9 arg10 harg10 arg11 harg11 arg12 harg12
      = progEven i arg1 harg1 arg2 harg2 arg3 harg3 arg4 harg4 arg5 harg5 arg6 harg6 arg7 harg7 arg8 harg8 arg9 harg9 arg10 harg10 arg11 harg11 arg12 harg12 (kStat i) (kQuant i) (kDot i) := by
  simp only [cc0_proj_eq_skeleton]
  unfold cc0_proj_skel progEven
  simp only [dif_neg h1, dif_neg h2, dif_pos h3, dif_neg h4]

  rfl

end Cert.ProjKernel.Own

end
-- ==== Proof.Proj.Bits.RunFirst.lean ====
/- The program of the points before the first product, run symbolically: what it stores and that it leaves the rest. -/
module

public import proofs.«01_k».proof.Proof.Proj.Bits.Progs

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of `progFirst` leave, as pieces, with the proof that the program runs and leaves them. -/
noncomputable def runFirst (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x1 : Vec F S512x2048 .bf16) (x2 : Vec F S512x2048 .bf16) (x9 : Vec F S512x128 .f32) (x10 : Vec F S512x128 .f32) (x11 : Vec F S512x128 .f32) (x12 : Vec F S512x128 .f32) :
    Σ' (L4 : List (View.Piece (Elt F) S512x2048 .i8)) (L7 : List (View.Piece (Elt F) S512x2048 .bf16)) (L9 : List (View.Piece (Elt F) S512x128 .f32)), { L10 : List (View.Piece (Elt F) S512x128 .f32) //
      ∀ (E : Set ℕ) (K : PUnit → sProp 𝕄),
        iprop(owns (c : Thread nD τ) arg1 fullShare x1 ∗ owns (c : Thread nD τ) arg2 fullShare x2 ∗ (∃ d, owns (c : Thread nD τ) arg4 fullShare d) ∗ (∃ d, owns (c : Thread nD τ) arg7 fullShare d) ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ (∃ f, arg4.view.loc (c : Thread nD τ) ↦[arg4.view.set]{fullShare} arg4.view.writes (Elt F) f L4) ∗ (∃ f, arg7.view.loc (c : Thread nD τ) ↦[arg7.view.set]{fullShare} arg7.view.writes (Elt F) f L7) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg11 fullShare x11 ∗ owns (c : Thread nD τ) arg12 fullShare x12) -∗ K ⟨⟩))
          ⊢ wp frame (wpE (defs₀ (F := F)) Variants.none c none) E (progFirst i arg1 harg1 arg2 harg2 arg3 harg3 arg4 harg4 arg5 harg5 arg6 harg6 arg7 harg7 arg8 harg8 arg9 harg9 arg10 harg10 arg11 harg11 arg12 harg12 (kStat i) (kQuant i)) K } := by
  refine ⟨?_, ?_, ?_, ?_, fun E K => ?run⟩
  case run =>
    unfold progFirst
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f1, %hf1, H1⟩, ⟨%f2, %hf2, H2⟩, ⟨%d4, %f4, -, H4⟩, ⟨%d7, %f7, -, H7⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg9.eq_unread hf9; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; iexact H4
    isplitl [H7]
    · iexists _; iexact H7
    isplitl [H9]
    · iexact H9
    isplitl [H10]
    · iexact H10
    isplitl [H11]
    · iexists _; isplitr; · ipureintro; exact harg11.read_unread _
      iexact H11
    iexists _; isplitr; · ipureintro; exact harg12.read_unread _
    iexact H12

end Cert.ProjKernel.Own

end
-- ==== Proof.Proj.Bits.RunOdd.lean ====
/- The program of the odd points with a product, run symbolically: what it stores and that it leaves the rest. -/
module

public import proofs.«01_k».proof.Proof.Proj.Bits.Progs

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of `progOdd` leave, as pieces, with the proof that the program runs and leaves them. -/
noncomputable def runOdd (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x1 : Vec F S512x2048 .bf16) (x2 : Vec F S512x2048 .bf16) (x3 : Vec F S1024x2304 .i8) (x6 : Vec F S512x2304 .f32) (x7 : Vec F S512x2048 .bf16) (x9 : Vec F S512x128 .f32) (x10 : Vec F S512x128 .f32) (x11 : Vec F S512x128 .f32) (x12 : Vec F S512x128 .f32) :
    Σ' (L4 : List (View.Piece (Elt F) S512x2048 .i8)) (L6 : List (View.Piece (Elt F) S512x2304 .f32)) (L8 : List (View.Piece (Elt F) S512x2048 .bf16)) (L9 : List (View.Piece (Elt F) S512x128 .f32)), { L10 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (arg6.view.loc (c : Thread nD τ) ↦[arg6.view.set]{fullShare} arg6.view.writes (Elt F) (harg6.unread x6) L6) ∗ owns (c : Thread nD τ) arg7 fullShare x7 ∗ (∃ f, arg8.view.loc (c : Thread nD τ) ↦[arg8.view.set]{fullShare} arg8.view.writes (Elt F) f L8) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg11 fullShare x11 ∗ owns (c : Thread nD τ) arg12 fullShare x12) -∗ K ⟨⟩))
          ⊢ wp frame (wpE (defs₀ (F := F)) Variants.none c none) E (progOdd i arg1 harg1 arg2 harg2 arg3 harg3 arg4 harg4 arg5 harg5 arg6 harg6 arg7 harg7 arg8 harg8 arg9 harg9 arg10 harg10 arg11 harg11 arg12 harg12 (kStat i) (kQuant i) (kDot i)) K } := by
  refine ⟨?_, ?_, ?_, ?_, ?_, fun E K => ?run⟩
  case run =>
    unfold progOdd
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton]
    unfold owns
    iintro ⟨⟨%f1, %hf1, H1⟩, ⟨%f2, %hf2, H2⟩, ⟨%f3, %hf3, H3⟩, ⟨%d4, %f4, -, H4⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg6.eq_unread hf6; obtain rfl := harg7.eq_unread hf7; obtain rfl := harg9.eq_unread hf9; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H6]
    · iexact H6
    isplitl [H7]
    · iexists _; isplitr; · ipureintro; exact harg7.read_unread _
      iexact H7
    isplitl [H8]
    · iexists _; iexact H8
    isplitl [H9]
    · iexact H9
    isplitl [H10]
    · iexact H10
    isplitl [H11]
    · iexists _; isplitr; · ipureintro; exact harg11.read_unread _
      iexact H11
    iexists _; isplitr; · ipureintro; exact harg12.read_unread _
    iexact H12

end Cert.ProjKernel.Own

end
-- ==== Proof.Proj.Bits.RunEven.lean ====
/- The program of the even points with a product, run symbolically: what it stores and that it leaves the rest. -/
module

public import proofs.«01_k».proof.Proof.Proj.Bits.Progs

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of `progEven` leave, as pieces, with the proof that the program runs and leaves them. -/
noncomputable def runEven (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x1 : Vec F S512x2048 .bf16) (x2 : Vec F S512x2048 .bf16) (x3 : Vec F S1024x2304 .i8) (x6 : Vec F S512x2304 .f32) (x8 : Vec F S512x2048 .bf16) (x9 : Vec F S512x128 .f32) (x10 : Vec F S512x128 .f32) (x11 : Vec F S512x128 .f32) (x12 : Vec F S512x128 .f32) :
    Σ' (L4 : List (View.Piece (Elt F) S512x2048 .i8)) (L6 : List (View.Piece (Elt F) S512x2304 .f32)) (L7 : List (View.Piece (Elt F) S512x2048 .bf16)) (L9 : List (View.Piece (Elt F) S512x128 .f32)), { L10 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg6 fullShare x6 ∗ (∃ d, owns (c : Thread nD τ) arg7 fullShare d) ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (arg6.view.loc (c : Thread nD τ) ↦[arg6.view.set]{fullShare} arg6.view.writes (Elt F) (harg6.unread x6) L6) ∗ (∃ f, arg7.view.loc (c : Thread nD τ) ↦[arg7.view.set]{fullShare} arg7.view.writes (Elt F) f L7) ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg11 fullShare x11 ∗ owns (c : Thread nD τ) arg12 fullShare x12) -∗ K ⟨⟩))
          ⊢ wp frame (wpE (defs₀ (F := F)) Variants.none c none) E (progEven i arg1 harg1 arg2 harg2 arg3 harg3 arg4 harg4 arg5 harg5 arg6 harg6 arg7 harg7 arg8 harg8 arg9 harg9 arg10 harg10 arg11 harg11 arg12 harg12 (kStat i) (kQuant i) (kDot i)) K } := by
  refine ⟨?_, ?_, ?_, ?_, ?_, fun E K => ?run⟩
  case run =>
    unfold progEven
    simp only [k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton]
    unfold owns
    iintro ⟨⟨%f1, %hf1, H1⟩, ⟨%f2, %hf2, H2⟩, ⟨%f3, %hf3, H3⟩, ⟨%d4, %f4, -, H4⟩, ⟨%f6, %hf6, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg6.eq_unread hf6; obtain rfl := harg8.eq_unread hf8; obtain rfl := harg9.eq_unread hf9; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H6]
    · iexact H6
    isplitl [H7]
    · iexists _; iexact H7
    isplitl [H8]
    · iexists _; isplitr; · ipureintro; exact harg8.read_unread _
      iexact H8
    isplitl [H9]
    · iexact H9
    isplitl [H10]
    · iexact H10
    isplitl [H11]
    · iexists _; isplitr; · ipureintro; exact harg11.read_unread _
      iexact H11
    iexists _; isplitr; · ipureintro; exact harg12.read_unread _
    iexact H12

end Cert.ProjKernel.Own

end
-- ==== Proof.Proj.Bits.RunFinish.lean ====
/- The program that ends a block of rows, run symbolically: it stores the scales and the two tables of inverses. -/
module

public import proofs.«01_k».proof.Proof.Proj.Bits.Progs

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of `progFinish` leave, as pieces, with the proof that the program runs and leaves them. -/
noncomputable def runFinish (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1024x2304 .i8) (harg3 : arg3.IsWhole) (arg4 : Memref sig .tc .vmem S512x2048 .i8) (harg4 : arg4.IsWhole) (arg5 : Memref sig .tc .vmem S512x128 .f32) (harg5 : arg5.IsWhole) (arg6 : Memref sig .tc .vmem S512x2304 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x9 : Vec F S512x128 .f32) (x10 : Vec F S512x128 .f32) :
    Σ' (L5 : List (View.Piece (Elt F) S512x128 .f32)) (L11 : List (View.Piece (Elt F) S512x128 .f32)), { L12 : List (View.Piece (Elt F) S512x128 .f32) //
      ∀ (E : Set ℕ) (K : PUnit → sProp 𝕄),
        iprop((∃ d, owns (c : Thread nD τ) arg5 fullShare d) ∗ owns (c : Thread nD τ) arg9 fullShare x9 ∗ owns (c : Thread nD τ) arg10 fullShare x10 ∗ (∃ d, owns (c : Thread nD τ) arg11 fullShare d) ∗ (∃ d, owns (c : Thread nD τ) arg12 fullShare d)
            ∗ (iprop((∃ f, arg5.view.loc (c : Thread nD τ) ↦[arg5.view.set]{fullShare} arg5.view.writes (Elt F) f L5) ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (progFinish i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    unfold progFinish
    simp only [k0_part187_eq_skeleton]
    unfold owns
    iintro ⟨⟨%d5, %f5, -, H5⟩, ⟨%f9, %hf9, H9⟩, ⟨%f10, %hf10, H10⟩, ⟨%d11, %f11, -, H11⟩, ⟨%d12, %f12, -, H12⟩, Hk⟩
    obtain rfl := harg9.eq_unread hf9; obtain rfl := harg10.eq_unread hf10
    sl_exec
    sl_step
    iapply Hk
    isplitl [H5]
    · iexists _; iexact H5
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; iexact H12

end Cert.ProjKernel.Own

end
-- ==== Proof.Proj.Bits.Step.lean ====
/- What each of the four programs leaves in the buffers it is called with, as a step from the contents before to the contents after. -/
module

public import proofs.«01_k».proof.Proof.Proj.Bits.Split
public import proofs.«01_k».proof.Proof.Proj.Bits.RunFirst
public import proofs.«01_k».proof.Proof.Proj.Bits.RunOdd
public import proofs.«01_k».proof.Proof.Proj.Bits.RunEven
public import proofs.«01_k».proof.Proof.Proj.Bits.RunFinish

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the twelve buffers the body is called with. -/
structure St (F : FTy → Type) where
  a1 : Vec F S512x2048 .bf16
  a2 : Vec F S512x2048 .bf16
  a3 : Vec F S1024x2304 .i8
  a4 : Vec F S512x2048 .i8
  a5 : Vec F S512x128 .f32
  a6 : Vec F S512x2304 .f32
  a7 : Vec F S512x2048 .bf16
  a8 : Vec F S512x2048 .bf16
  a9 : Vec F S512x128 .f32
  a10 : Vec F S512x128 .f32
  a11 : Vec F S512x128 .f32
  a12 : Vec F S512x128 .f32

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg4 : Memref sig .tc .vmem S512x2048 .i8) (harg4 : arg4.IsWhole)
  (arg5 : Memref sig .tc .vmem S512x128 .f32) (harg5 : arg5.IsWhole)
  (arg6 : Memref sig .tc .vmem S512x2304 .f32) (harg6 : arg6.IsWhole)
  (arg7 : Memref sig .tc .vmem S512x2048 .bf16) (harg7 : arg7.IsWhole)
  (arg8 : Memref sig .tc .vmem S512x2048 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)

/-- The twelve buffers, held whole at contents `s`. -/
def Held (s : St F) : sProp 𝕄 :=
  iprop(owns (c : Thread nD τ) arg1 fullShare s.a1 ∗ owns (c : Thread nD τ) arg2 fullShare s.a2 ∗ owns (c : Thread nD τ) arg3 fullShare s.a3 ∗ owns (c : Thread nD τ) arg4 fullShare s.a4 ∗ owns (c : Thread nD τ) arg5 fullShare s.a5 ∗ owns (c : Thread nD τ) arg6 fullShare s.a6 ∗ owns (c : Thread nD τ) arg7 fullShare s.a7 ∗ owns (c : Thread nD τ) arg8 fullShare s.a8 ∗ owns (c : Thread nD τ) arg9 fullShare s.a9 ∗ owns (c : Thread nD τ) arg10 fullShare s.a10 ∗ owns (c : Thread nD τ) arg11 fullShare s.a11 ∗ owns (c : Thread nD τ) arg12 fullShare s.a12)

/-- The contents the stores of `progFirst` leave, from contents `s`. -/
def LeftFirst (s : St F) (y4 : Vec F S512x2048 .i8) (y7 : Vec F S512x2048 .bf16) (y9 : Vec F S512x128 .f32) (y10 : Vec F S512x128 .f32) : Prop :=
  (∃ f, y4 = arg4.view.read (Elt F) (arg4.view.writes (Elt F) f (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).1))
  ∧ (∃ f, y7 = arg7.view.read (Elt F) (arg7.view.writes (Elt F) f (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.1))
  ∧ y9 = arg9.view.read (Elt F) (arg9.view.writes (Elt F) (harg9.unread s.a9) (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.1)
  ∧ y10 = arg10.view.read (Elt F) (arg10.view.writes (Elt F) (harg10.unread s.a10) (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.2.1)

/-- `progFirst` runs from contents `s` and leaves the contents of `LeftFirst`. -/
theorem stepFirst (s : St F) (E : Set ℕ) (K : PUnit → sProp 𝕄) :
    iprop(Held c arg1 arg2 arg3 arg4 arg5 arg6 arg7 arg8 arg9 arg10 arg11 arg12 s ∗ (∀ y4 y7 y9 y10, ⌜LeftFirst c i arg1 harg1 arg2 harg2 arg3 harg3 arg4 harg4 arg5 harg5 arg6 harg6 arg7 harg7 arg8 harg8 arg9 harg9 arg10 harg10 arg11 harg11 arg12 harg12 s y4 y7 y9 y10⌝ -∗ Held c arg1 arg2 arg3 arg4 arg5 arg6 arg7 arg8 arg9 arg10 arg11 arg12 { s with a4 := y4, a7 := y7, a9 := y9, a10 := y10 } -∗ K ⟨⟩))
      ⊢ wp frame (wpE (defs₀ (F := F)) Variants.none c none) E (progFirst i arg1 harg1 arg2 harg2 arg3 harg3 arg4 harg4 arg5 harg5 arg6 harg6 arg7 harg7 arg8 harg8 arg9 harg9 arg10 harg10 arg11 harg11 arg12 harg12 (kStat i) (kQuant i)) K := by
  unfold Held
  iintro ⟨⟨H1, H2, H3, H4, H5, H6, H7, H8, H9, H10, H11, H12⟩, Hk⟩
  iapply ((runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.2.2 E K)
  isplitl [H1]; · iexact H1
  isplitl [H2]; · iexact H2
  isplitl [H4]; · iexists _; iexact H4
  isplitl [H7]; · iexists _; iexact H7
  isplitl [H9]; · iexact H9
  isplitl [H10]; · iexact H10
  isplitl [H11]; · iexact H11
  isplitl [H12]; · iexact H12
  iintro ⟨H1, H2, ⟨%f4, H4⟩, ⟨%f7, H7⟩, H9, H10, H11, H12⟩
  ispecialize Hk $$ %(arg4.view.read (Elt F) (arg4.view.writes (Elt F) f4 (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).1))
  ispecialize Hk $$ %(arg7.view.read (Elt F) (arg7.view.writes (Elt F) f7 (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.1))
  ispecialize Hk $$ %(arg9.view.read (Elt F) (arg9.view.writes (Elt F) (harg9.unread s.a9) (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.1))
  ispecialize Hk $$ %(arg10.view.read (Elt F) (arg10.view.writes (Elt F) (harg10.unread s.a10) (runFirst c i arg1 harg1 arg2 harg2 arg3 harg3 arg4 harg4 arg5 harg5 arg6 harg6 arg7 harg7 arg8 harg8 arg9 harg9 arg10 harg10 arg11 harg11 arg12 harg12 s.a1 s.a2 s.a9 s.a10 s.a11 s.a12).2.2.2.1))
  ispecialize Hk $$ %(⟨⟨f4, rfl⟩, ⟨f7, rfl⟩, rfl, rfl⟩)
  iapply Hk
  isplitl [H1]
  · iexact H1
  isplitl [H2]
  · iexact H2
  isplitl [H3]
  · iexact H3
  isplitl [H4]
  · unfold owns; iexists _; isplitr; swap; · iexact H4
    ipureintro; rfl
  isplitl [H5]
  · iexact H5
  isplitl [H6]
  · iexact H6
  isplitl [H7]
  · unfold owns; iexists _; isplitr; swap; · iexact H7
    ipureintro; rfl
  isplitl [H8]
  · iexact H8
  isplitl [H9]
  · unfold owns; iexists _; isplitr; swap; · iexact H9
    ipureintro; rfl
  isplitl [H10]
  · unfold owns; iexists _; isplitr; swap; · iexact H10
    ipureintro; rfl
  isplitl [H11]
  · iexact H11
  iexact H12

/-- The contents the stores of `progOdd` leave, from contents `s`. -/
def LeftOdd (s : St F) (y4 : Vec F S512x2048 .i8) (y6 : Vec F S512x2304 .f32) (y8 : Vec F S512x2048 .bf16) (y9 : Vec F S512x128 .f32) (y10 : Vec F S512x128 .f32) : Prop :=
  (∃ f, y4 = arg4.view.read (Elt F) (arg4.view.writes (Elt F) f (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).1))
  ∧ y6 = arg6.view.read (Elt F) (arg6.view.writes (Elt F) (harg6.unread s.a6) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.1)
  ∧ (∃ f, y8 = arg8.view.read (Elt F) (arg8.view.writes (Elt F) f (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.1))
  ∧ y9 = arg9.view.read (Elt F) (arg9.view.writes (Elt F) (harg9.unread s.a9) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.1)
  ∧ y10 = arg10.view.read (Elt F) (arg10.view.writes (Elt F) (harg10.unread s.a10) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.2.1)

/-- `progOdd` runs from contents `s` and leaves the contents of `LeftOdd`. -/
theorem stepOdd (s : St F) (E : Set ℕ) (K : PUnit → sProp 𝕄) :
    iprop(Held c arg1 arg2 arg3 arg4 arg5 arg6 arg7 arg8 arg9 arg10 arg11 arg12 s ∗ (∀ y4 y6 y8 y9 y10, ⌜LeftOdd c i arg1 harg1 arg2 harg2 arg3 harg3 arg4 harg4 arg5 harg5 arg6 harg6 arg7 harg7 arg8 harg8 arg9 harg9 arg10 harg10 arg11 harg11 arg12 harg12 s y4 y6 y8 y9 y10⌝ -∗ Held c arg1 arg2 arg3 arg4 arg5 arg6 arg7 arg8 arg9 arg10 arg11 arg12 { s with a4 := y4, a6 := y6, a8 := y8, a9 := y9, a10 := y10 } -∗ K ⟨⟩))
      ⊢ wp frame (wpE (defs₀ (F := F)) Variants.none c none) E (progOdd i arg1 harg1 arg2 harg2 arg3 harg3 arg4 harg4 arg5 harg5 arg6 harg6 arg7 harg7 arg8 harg8 arg9 harg9 arg10 harg10 arg11 harg11 arg12 harg12 (kStat i) (kQuant i) (kDot i)) K := by
  unfold Held
  iintro ⟨⟨H1, H2, H3, H4, H5, H6, H7, H8, H9, H10, H11, H12⟩, Hk⟩
  iapply ((runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.2.2 E K)
  isplitl [H1]; · iexact H1
  isplitl [H2]; · iexact H2
  isplitl [H3]; · iexact H3
  isplitl [H4]; · iexists _; iexact H4
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  iintro ⟨H1, H2, H3, ⟨%f4, H4⟩, H6, H7, ⟨%f8, H8⟩, H9, H10, H11, H12⟩
  ispecialize Hk $$ %(arg4.view.read (Elt F) (arg4.view.writes (Elt F) f4 (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).1))
  ispecialize Hk $$ %(arg6.view.read (Elt F) (arg6.view.writes (Elt F) (harg6.unread s.a6) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.1))
  ispecialize Hk $$ %(arg8.view.read (Elt F) (arg8.view.writes (Elt F) f8 (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.1))
  ispecialize Hk $$ %(arg9.view.read (Elt F) (arg9.view.writes (Elt F) (harg9.unread s.a9) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.1))
  ispecialize Hk $$ %(arg10.view.read (Elt F) (arg10.view.writes (Elt F) (harg10.unread s.a10) (runOdd c i arg1 harg1 arg2 harg2 arg3 harg3 arg4 harg4 arg5 harg5 arg6 harg6 arg7 harg7 arg8 harg8 arg9 harg9 arg10 harg10 arg11 harg11 arg12 harg12 s.a1 s.a2 s.a3 s.a6 s.a7 s.a9 s.a10 s.a11 s.a12).2.2.2.2.1))
  ispecialize Hk $$ %(⟨⟨f4, rfl⟩, rfl, ⟨f8, rfl⟩, rfl, rfl⟩)
  iapply Hk
  isplitl [H1]
  · iexact H1
  isplitl [H2]
  · iexact H2
  isplitl [H3]
  · iexact H3
  isplitl [H4]
  · unfold owns; iexists _; isplitr; swap; · iexact H4
    ipureintro; rfl
  isplitl [H5]
  · iexact H5
  isplitl [H6]
  · unfold owns; iexists _; isplitr; swap; · iexact H6
    ipureintro; rfl
  isplitl [H7]
  · iexact H7
  isplitl [H8]
  · unfold owns; iexists _; isplitr; swap; · iexact H8
    ipureintro; rfl
  isplitl [H9]
  · unfold owns; iexists _; isplitr; swap; · iexact H9
    ipureintro; rfl
  isplitl [H10]
  · unfold owns; iexists _; isplitr; swap; · iexact H10
    ipureintro; rfl
  isplitl [H11]
  · iexact H11
  iexact H12

/-- The contents the stores of `progEven` leave, from contents `s`. -/
def LeftEven (s : St F) (y4 : Vec F S512x2048 .i8) (y6 : Vec F S512x2304 .f32) (y7 : Vec F S512x2048 .bf16) (y9 : Vec F S512x128 .f32) (y10 : Vec F S512x128 .f32) : Prop :=
  (∃ f, y4 = arg4.view.read (Elt F) (arg4.view.writes (Elt F) f (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).1))
  ∧ y6 = arg6.view.read (Elt F) (arg6.view.writes (Elt F) (harg6.unread s.a6) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.1)
  ∧ (∃ f, y7 = arg7.view.read (Elt F) (arg7.view.writes (Elt F) f (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.1))
  ∧ y9 = arg9.view.read (Elt F) (arg9.view.writes (Elt F) (harg9.unread s.a9) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.1)
  ∧ y10 = arg10.view.read (Elt F) (arg10.view.writes (Elt F) (harg10.unread s.a10) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.2.1)

/-- `progEven` runs from contents `s` and leaves the contents of `LeftEven`. -/
theorem stepEven (s : St F) (E : Set ℕ) (K : PUnit → sProp 𝕄) :
    iprop(Held c arg1 arg2 arg3 arg4 arg5 arg6 arg7 arg8 arg9 arg10 arg11 arg12 s ∗ (∀ y4 y6 y7 y9 y10, ⌜LeftEven c i arg1 harg1 arg2 harg2 arg3 harg3 arg4 harg4 arg5 harg5 arg6 harg6 arg7 harg7 arg8 harg8 arg9 harg9 arg10 harg10 arg11 harg11 arg12 harg12 s y4 y6 y7 y9 y10⌝ -∗ Held c arg1 arg2 arg3 arg4 arg5 arg6 arg7 arg8 arg9 arg10 arg11 arg12 { s with a4 := y4, a6 := y6, a7 := y7, a9 := y9, a10 := y10 } -∗ K ⟨⟩))
      ⊢ wp frame (wpE (defs₀ (F := F)) Variants.none c none) E (progEven i arg1 harg1 arg2 harg2 arg3 harg3 arg4 harg4 arg5 harg5 arg6 harg6 arg7 harg7 arg8 harg8 arg9 harg9 arg10 harg10 arg11 harg11 arg12 harg12 (kStat i) (kQuant i) (kDot i)) K := by
  unfold Held
  iintro ⟨⟨H1, H2, H3, H4, H5, H6, H7, H8, H9, H10, H11, H12⟩, Hk⟩
  iapply ((runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.2.2 E K)
  isplitl [H1]; · iexact H1
  isplitl [H2]; · iexact H2
  isplitl [H3]; · iexact H3
  isplitl [H4]; · iexists _; iexact H4
  isplitl [H6]; · iexact H6
  isplitl [H7]; · iexists _; iexact H7
  isplitl [H8]; · iexact H8
  isplitl [H9]; · iexact H9
  isplitl [H10]; · iexact H10
  isplitl [H11]; · iexact H11
  isplitl [H12]; · iexact H12
  iintro ⟨H1, H2, H3, ⟨%f4, H4⟩, H6, ⟨%f7, H7⟩, H8, H9, H10, H11, H12⟩
  ispecialize Hk $$ %(arg4.view.read (Elt F) (arg4.view.writes (Elt F) f4 (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).1))
  ispecialize Hk $$ %(arg6.view.read (Elt F) (arg6.view.writes (Elt F) (harg6.unread s.a6) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.1))
  ispecialize Hk $$ %(arg7.view.read (Elt F) (arg7.view.writes (Elt F) f7 (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.1))
  ispecialize Hk $$ %(arg9.view.read (Elt F) (arg9.view.writes (Elt F) (harg9.unread s.a9) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.1))
  ispecialize Hk $$ %(arg10.view.read (Elt F) (arg10.view.writes (Elt F) (harg10.unread s.a10) (runEven c i arg1 harg1 arg2 harg2 arg3 harg3 arg4 harg4 arg5 harg5 arg6 harg6 arg7 harg7 arg8 harg8 arg9 harg9 arg10 harg10 arg11 harg11 arg12 harg12 s.a1 s.a2 s.a3 s.a6 s.a8 s.a9 s.a10 s.a11 s.a12).2.2.2.2.1))
  ispecialize Hk $$ %(⟨⟨f4, rfl⟩, rfl, ⟨f7, rfl⟩, rfl, rfl⟩)
  iapply Hk
  isplitl [H1]
  · iexact H1
  isplitl [H2]
  · iexact H2
  isplitl [H3]
  · iexact H3
  isplitl [H4]
  · unfold owns; iexists _; isplitr; swap; · iexact H4
    ipureintro; rfl
  isplitl [H5]
  · iexact H5
  isplitl [H6]
  · unfold owns; iexists _; isplitr; swap; · iexact H6
    ipureintro; rfl
  isplitl [H7]
  · unfold owns; iexists _; isplitr; swap; · iexact H7
    ipureintro; rfl
  isplitl [H8]
  · iexact H8
  isplitl [H9]
  · unfold owns; iexists _; isplitr; swap; · iexact H9
    ipureintro; rfl
  isplitl [H10]
  · unfold owns; iexists _; isplitr; swap; · iexact H10
    ipureintro; rfl
  isplitl [H11]
  · iexact H11
  iexact H12

/-- The contents the stores of `progFinish` leave, from contents `s`. -/
def LeftFinish (s : St F) (y5 : Vec F S512x128 .f32) (y11 : Vec F S512x128 .f32) (y12 : Vec F S512x128 .f32) : Prop :=
  (∃ f, y5 = arg5.view.read (Elt F) (arg5.view.writes (Elt F) f (runFinish c i arg1 harg1 arg2 harg2 arg3 harg3 arg4 harg4 arg5 harg5 arg6 harg6 arg7 harg7 arg8 harg8 arg9 harg9 arg10 harg10 arg11 harg11 arg12 harg12 s.a9 s.a10).1))
  ∧ (∃ f, y11 = arg11.view.read (Elt F) (arg11.view.writes (Elt F) f (runFinish c i arg1 harg1 arg2 harg2 arg3 harg3 arg4 harg4 arg5 harg5 arg6 harg6 arg7 harg7 arg8 harg8 arg9 harg9 arg10 harg10 arg11 harg11 arg12 harg12 s.a9 s.a10).2.1))
  ∧ (∃ f, y12 = arg12.view.read (Elt F) (arg12.view.writes (Elt F) f (runFinish c i arg1 harg1 arg2 harg2 arg3 harg3 arg4 harg4 arg5 harg5 arg6 harg6 arg7 harg7 arg8 harg8 arg9 harg9 arg10 harg10 arg11 harg11 arg12 harg12 s.a9 s.a10).2.2.1))

/-- `progFinish` runs from contents `s` and leaves the contents of `LeftFinish`. -/
theorem stepFinish (s : St F) (E : Set ℕ) (K : PUnit → sProp 𝕄) :
    iprop(Held c arg1 arg2 arg3 arg4 arg5 arg6 arg7 arg8 arg9 arg10 arg11 arg12 s ∗ (∀ y5 y11 y12, ⌜LeftFinish c i arg1 harg1 arg2 harg2 arg3 harg3 arg4 harg4 arg5 harg5 arg6 harg6 arg7 harg7 arg8 harg8 arg9 harg9 arg10 harg10 arg11 harg11 arg12 harg12 s y5 y11 y12⌝ -∗ Held c arg1 arg2 arg3 arg4 arg5 arg6 arg7 arg8 arg9 arg10 arg11 arg12 { s with a5 := y5, a11 := y11, a12 := y12 } -∗ K ⟨⟩))
      ⊢ wp frame (wpE (defs₀ (F := F)) Variants.none c none) E (progFinish i arg1 harg1 arg2 harg2 arg3 harg3 arg4 harg4 arg5 harg5 arg6 harg6 arg7 harg7 arg8 harg8 arg9 harg9 arg10 harg10 arg11 harg11 arg12 harg12) K := by
  unfold Held
  iintro ⟨⟨H1, H2, H3, H4, H5, H6, H7, H8, H9, H10, H11, H12⟩, Hk⟩
  iapply ((runFinish c i arg1 harg1 arg2 harg2 arg3 harg3 arg4 harg4 arg5 harg5 arg6 harg6 arg7 harg7 arg8 harg8 arg9 harg9 arg10 harg10 arg11 harg11 arg12 harg12 s.a9 s.a10).2.2.2 E K)
  isplitl [H5]; · iexists _; iexact H5
  isplitl [H9]; · iexact H9
  isplitl [H10]; · iexact H10
  isplitl [H11]; · iexists _; iexact H11
  isplitl [H12]; · iexists _; iexact H12
  iintro ⟨⟨%f5, H5⟩, H9, H10, ⟨%f11, H11⟩, ⟨%f12, H12⟩⟩
  ispecialize Hk $$ %(arg5.view.read (Elt F) (arg5.view.writes (Elt F) f5 (runFinish c i arg1 harg1 arg2 harg2 arg3 harg3 arg4 harg4 arg5 harg5 arg6 harg6 arg7 harg7 arg8 harg8 arg9 harg9 arg10 harg10 arg11 harg11 arg12 harg12 s.a9 s.a10).1))
  ispecialize Hk $$ %(arg11.view.read (Elt F) (arg11.view.writes (Elt F) f11 (runFinish c i arg1 harg1 arg2 harg2 arg3 harg3 arg4 harg4 arg5 harg5 arg6 harg6 arg7 harg7 arg8 harg8 arg9 harg9 arg10 harg10 arg11 harg11 arg12 harg12 s.a9 s.a10).2.1))
  ispecialize Hk $$ %(arg12.view.read (Elt F) (arg12.view.writes (Elt F) f12 (runFinish c i arg1 harg1 arg2 harg2 arg3 harg3 arg4 harg4 arg5 harg5 arg6 harg6 arg7 harg7 arg8 harg8 arg9 harg9 arg10 harg10 arg11 harg11 arg12 harg12 s.a9 s.a10).2.2.1))
  ispecialize Hk $$ %(⟨⟨f5, rfl⟩, ⟨f11, rfl⟩, ⟨f12, rfl⟩⟩)
  iapply Hk
  isplitl [H1]
  · iexact H1
  isplitl [H2]
  · iexact H2
  isplitl [H3]
  · iexact H3
  isplitl [H4]
  · iexact H4
  isplitl [H5]
  · unfold owns; iexists _; isplitr; swap; · iexact H5
    ipureintro; rfl
  isplitl [H6]
  · iexact H6
  isplitl [H7]
  · iexact H7
  isplitl [H8]
  · iexact H8
  isplitl [H9]
  · iexact H9
  isplitl [H10]
  · iexact H10
  isplitl [H11]
  · unfold owns; iexists _; isplitr; swap; · iexact H11
    ipureintro; rfl
  unfold owns; iexists _; isplitr; swap; · iexact H12
  ipureintro; rfl

end Cert.ProjKernel.Own

end
-- ==== Proof.Proj.Bits.Launch.lean ====
/- One point of the projection kernel as a step between buffer contents, the body obligation over any invariant of such steps, and the launch. -/
module

public import proofs.«01_k».proof.Proof.Proj.Bits.Step
public import Idealize.ShloMosaic.Lib.Pipeline.DatRel
public import Idealize.ShloMosaic.Lib.Pipeline.ArrRel

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S1024x2304 .i8) (harg3 : arg3.IsWhole)
  (arg4 : Memref sig .tc .vmem S512x2048 .i8) (harg4 : arg4.IsWhole)
  (arg5 : Memref sig .tc .vmem S512x128 .f32) (harg5 : arg5.IsWhole)
  (arg6 : Memref sig .tc .vmem S512x2304 .f32) (harg6 : arg6.IsWhole)
  (arg7 : Memref sig .tc .vmem S512x2048 .bf16) (harg7 : arg7.IsWhole)
  (arg8 : Memref sig .tc .vmem S512x2048 .bf16) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x128 .f32) (harg12 : arg12.IsWhole)

/-- The contents one point may leave, from the contents it finds, by the branch it takes. -/
inductive Trans (s : St F) : St F → Prop
  | first (h1 : k0_cond1 i = 1#1) (h2 : ¬ k0_cond2 i = 1#1) (h3 : ¬ k0_cond3 i = 1#1) (h4 : ¬ k0_cond4 i = 1#1) (y4 y7 y9 y10) (h : LeftFirst c i arg1 harg1 arg2 harg2 arg3 harg3 arg4 harg4 arg5 harg5 arg6 harg6 arg7 harg7 arg8 harg8 arg9 harg9 arg10 harg10 arg11 harg11 arg12 harg12 s y4 y7 y9 y10) :
      Trans s { s with a4 := y4, a7 := y7, a9 := y9, a10 := y10 }
  | firstFin (h1 : k0_cond1 i = 1#1) (h2 : ¬ k0_cond2 i = 1#1) (h3 : ¬ k0_cond3 i = 1#1) (h4 : k0_cond4 i = 1#1) (y4 y7 y9 y10) (h : LeftFirst c i arg1 harg1 arg2 harg2 arg3 harg3 arg4 harg4 arg5 harg5 arg6 harg6 arg7 harg7 arg8 harg8 arg9 harg9 arg10 harg10 arg11 harg11 arg12 harg12 s y4 y7 y9 y10) (z5 z11 z12) (h' : LeftFinish c i arg1 harg1 arg2 harg2 arg3 harg3 arg4 harg4 arg5 harg5 arg6 harg6 arg7 harg7 arg8 harg8 arg9 harg9 arg10 harg10 arg11 harg11 arg12 harg12 { s with a4 := y4, a7 := y7, a9 := y9, a10 := y10 } z5 z11 z12) :
      Trans s { ({ s with a4 := y4, a7 := y7, a9 := y9, a10 := y10 } : St F) with a5 := z5, a11 := z11, a12 := z12 }
  | odd (h1 : ¬ k0_cond1 i = 1#1) (h2 : k0_cond2 i = 1#1) (h3 : ¬ k0_cond3 i = 1#1) (h4 : ¬ k0_cond4 i = 1#1) (y4 y6 y8 y9 y10) (h : LeftOdd c i arg1 harg1 arg2 harg2 arg3 harg3 arg4 harg4 arg5 harg5 arg6 harg6 arg7 harg7 arg8 harg8 arg9 harg9 arg10 harg10 arg11 harg11 arg12 harg12 s y4 y6 y8 y9 y10) :
      Trans s { s with a4 := y4, a6 := y6, a8 := y8, a9 := y9, a10 := y10 }
  | oddFin (h1 : ¬ k0_cond1 i = 1#1) (h2 : k0_cond2 i = 1#1) (h3 : ¬ k0_cond3 i = 1#1) (h4 : k0_cond4 i = 1#1) (y4 y6 y8 y9 y10) (h : LeftOdd c i arg1 harg1 arg2 harg2 arg3 harg3 arg4 harg4 arg5 harg5 arg6 harg6 arg7 harg7 arg8 harg8 arg9 harg9 arg10 harg10 arg11 harg11 arg12 harg12 s y4 y6 y8 y9 y10) (z5 z11 z12) (h' : LeftFinish c i arg1 harg1 arg2 harg2 arg3 harg3 arg4 harg4 arg5 harg5 arg6 harg6 arg7 harg7 arg8 harg8 arg9 harg9 arg10 harg10 arg11 harg11 arg12 harg12 { s with a4 := y4, a6 := y6, a8 := y8, a9 := y9, a10 := y10 } z5 z11 z12) :
      Trans s { ({ s with a4 := y4, a6 := y6, a8 := y8, a9 := y9, a10 := y10 } : St F) with a5 := z5, a11 := z11, a12 := z12 }
  | even (h1 : ¬ k0_cond1 i = 1#1) (h2 : ¬ k0_cond2 i = 1#1) (h3 : k0_cond3 i = 1#1) (h4 : ¬ k0_cond4 i = 1#1) (y4 y6 y7 y9 y10) (h : LeftEven c i arg1 harg1 arg2 harg2 arg3 harg3 arg4 harg4 arg5 harg5 arg6 harg6 arg7 harg7 arg8 harg8 arg9 harg9 arg10 harg10 arg11 harg11 arg12 harg12 s y4 y6 y7 y9 y10) :
      Trans s { s with a4 := y4, a6 := y6, a7 := y7, a9 := y9, a10 := y10 }

/-- The branch conditions fall in one of five patterns. -/
def Cases : Prop :=
  (k0_cond1 i = 1#1 ∧ ¬ k0_cond2 i = 1#1 ∧ ¬ k0_cond3 i = 1#1 ∧ ¬ k0_cond4 i = 1#1)
  ∨ (k0_cond1 i = 1#1 ∧ ¬ k0_cond2 i = 1#1 ∧ ¬ k0_cond3 i = 1#1 ∧ k0_cond4 i = 1#1)
  ∨ (¬ k0_cond1 i = 1#1 ∧ k0_cond2 i = 1#1 ∧ ¬ k0_cond3 i = 1#1 ∧ ¬ k0_cond4 i = 1#1)
  ∨ (¬ k0_cond1 i = 1#1 ∧ k0_cond2 i = 1#1 ∧ ¬ k0_cond3 i = 1#1 ∧ k0_cond4 i = 1#1)
  ∨ (¬ k0_cond1 i = 1#1 ∧ ¬ k0_cond2 i = 1#1 ∧ k0_cond3 i = 1#1 ∧ ¬ k0_cond4 i = 1#1)

/-- The body at a point of any of the five patterns. -/
theorem step_body (hc : Cases i) (s : St F) (E : Set ℕ) (K : PUnit → sProp 𝕄) :
    iprop(Held c arg1 arg2 arg3 arg4 arg5 arg6 arg7 arg8 arg9 arg10 arg11 arg12 s ∗ (∀ s', ⌜Trans c i arg1 harg1 arg2 harg2 arg3 harg3 arg4 harg4 arg5 harg5 arg6 harg6 arg7 harg7 arg8 harg8 arg9 harg9 arg10 harg10 arg11 harg11 arg12 harg12 s s'⌝ -∗ Held c arg1 arg2 arg3 arg4 arg5 arg6 arg7 arg8 arg9 arg10 arg11 arg12 s' -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12) K := by
  rcases hc with ⟨h1, h2, h3, h4⟩ | ⟨h1, h2, h3, h4⟩ | ⟨h1, h2, h3, h4⟩ | ⟨h1, h2, h3, h4⟩ | ⟨h1, h2, h3, h4⟩
  · rw [split_first (h1 := h1) (h2 := h2) (h3 := h3) (h4 := h4)]
    iintro ⟨HS, Hk⟩
    iapply (stepFirst c i arg1 harg1 arg2 harg2 arg3 harg3 arg4 harg4 arg5 harg5 arg6 harg6 arg7 harg7 arg8 harg8 arg9 harg9 arg10 harg10 arg11 harg11 arg12 harg12 s E K)
    isplitl [HS]; · iexact HS
    iintro %y4 %y7 %y9 %y10 %h HS
    ispecialize Hk $$ %_ %(Trans.first h1 h2 h3 h4 y4 y7 y9 y10 h)
    iapply Hk; iexact HS
  · rw [split_first_fin (h1 := h1) (h2 := h2) (h3 := h3) (h4 := h4), wp_bind]
    iintro ⟨HS, Hk⟩
    iapply (stepFirst c i arg1 harg1 arg2 harg2 arg3 harg3 arg4 harg4 arg5 harg5 arg6 harg6 arg7 harg7 arg8 harg8 arg9 harg9 arg10 harg10 arg11 harg11 arg12 harg12 s E _)
    isplitl [HS]; · iexact HS
    iintro %y4 %y7 %y9 %y10 %h HS
    iapply (stepFinish c i arg1 harg1 arg2 harg2 arg3 harg3 arg4 harg4 arg5 harg5 arg6 harg6 arg7 harg7 arg8 harg8 arg9 harg9 arg10 harg10 arg11 harg11 arg12 harg12 _ E K)
    isplitl [HS]; · iexact HS
    iintro %z5 %z11 %z12 %h' HS
    ispecialize Hk $$ %_ %(Trans.firstFin h1 h2 h3 h4 y4 y7 y9 y10 h z5 z11 z12 h')
    iapply Hk; iexact HS
  · rw [split_odd (h1 := h1) (h2 := h2) (h3 := h3) (h4 := h4)]
    iintro ⟨HS, Hk⟩
    iapply (stepOdd c i arg1 harg1 arg2 harg2 arg3 harg3 arg4 harg4 arg5 harg5 arg6 harg6 arg7 harg7 arg8 harg8 arg9 harg9 arg10 harg10 arg11 harg11 arg12 harg12 s E K)
    isplitl [HS]; · iexact HS
    iintro %y4 %y6 %y8 %y9 %y10 %h HS
    ispecialize Hk $$ %_ %(Trans.odd h1 h2 h3 h4 y4 y6 y8 y9 y10 h)
    iapply Hk; iexact HS
  · rw [split_odd_fin (h1 := h1) (h2 := h2) (h3 := h3) (h4 := h4), wp_bind]
    iintro ⟨HS, Hk⟩
    iapply (stepOdd c i arg1 harg1 arg2 harg2 arg3 harg3 arg4 harg4 arg5 harg5 arg6 harg6 arg7 harg7 arg8 harg8 arg9 harg9 arg10 harg10 arg11 harg11 arg12 harg12 s E _)
    isplitl [HS]; · iexact HS
    iintro %y4 %y6 %y8 %y9 %y10 %h HS
    iapply (stepFinish c i arg1 harg1 arg2 harg2 arg3 harg3 arg4 harg4 arg5 harg5 arg6 harg6 arg7 harg7 arg8 harg8 arg9 harg9 arg10 harg10 arg11 harg11 arg12 harg12 _ E K)
    isplitl [HS]; · iexact HS
    iintro %z5 %z11 %z12 %h' HS
    ispecialize Hk $$ %_ %(Trans.oddFin h1 h2 h3 h4 y4 y6 y8 y9 y10 h z5 z11 z12 h')
    iapply Hk; iexact HS
  · rw [split_even (h1 := h1) (h2 := h2) (h3 := h3) (h4 := h4)]
    iintro ⟨HS, Hk⟩
    iapply (stepEven c i arg1 harg1 arg2 harg2 arg3 harg3 arg4 harg4 arg5 harg5 arg6 harg6 arg7 harg7 arg8 harg8 arg9 harg9 arg10 harg10 arg11 harg11 arg12 harg12 s E K)
    isplitl [HS]; · iexact HS
    iintro %y4 %y6 %y7 %y9 %y10 %h HS
    ispecialize Hk $$ %_ %(Trans.even h1 h2 h3 h4 y4 y6 y7 y9 y10 h)
    iapply Hk; iexact HS

/-- A point leaves its three input blocks as it found them. -/
theorem Trans.inputs {s s' : St F} (h : Trans c i arg1 harg1 arg2 harg2 arg3 harg3 arg4 harg4 arg5 harg5 arg6 harg6 arg7 harg7 arg8 harg8 arg9 harg9 arg10 harg10 arg11 harg11 arg12 harg12 s s') : s'.a1 = s.a1 ∧ s'.a2 = s.a2 ∧ s'.a3 = s.a3 := by
  cases h <;> exact ⟨rfl, rfl, rfl⟩

/-- Every point of the grid takes one of the five patterns. -/
theorem cases_at : ∀ t : Fin cfg0.N, Cases (grid0.coords t) := by
  unfold Cases; decide +kernel

end Body

/-- The contents after point `t` from the contents before it, at the buffers the pipeline hands the body. -/
def TransAt (c : Dev nD) (t : Fin cfg0.N) (s s' : St F) : Prop :=
  Trans c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) s s'

variable (m : (ℓ : Loc nD τ sig) → Buf (Elt F) ℓ) (ρ : Dev nD → PrngReg)
variable (Inv : Dev nD → ℕ → Vec F S512x2048 .bf16 → Vec F S512x2048 .bf16 → Vec F S512x128 .f32 → Vec F S512x128 .f32 → Vec F S512x128 .f32 → Vec F S512x128 .f32 → Prop)

/-- The scratch buffers at contents that meet `Inv`, and the generator register at some contents. -/
def Phi (c : Dev nD) (t : ℕ) : sProp 𝕄 :=
  iprop((∃ x7 x8 x9 x10 x11 x12, ⌜Inv c t x7 x8 x9 x10 x11 x12⌝ ∗ owns (c : Thread nD τ) (Memref.whole cc0_scratch0 : Memref sig .tc .vmem S512x2048 .bf16) fullShare x7 ∗ owns (c : Thread nD τ) (Memref.whole cc0_scratch1 : Memref sig .tc .vmem S512x2048 .bf16) fullShare x8 ∗ owns (c : Thread nD τ) (Memref.whole cc0_scratch2 : Memref sig .tc .vmem S512x128 .f32) fullShare x9 ∗ owns (c : Thread nD τ) (Memref.whole cc0_scratch3 : Memref sig .tc .vmem S512x128 .f32) fullShare x10 ∗ owns (c : Thread nD τ) (Memref.whole cc0_scratch4 : Memref sig .tc .vmem S512x128 .f32) fullShare x11 ∗ owns (c : Thread nD τ) (Memref.whole cc0_scratch5 : Memref sig .tc .vmem S512x128 .f32) fullShare x12) ∗ (∃ r, prngReg c r))

/-- The class's invariant with the scratch operands as buffers owned at some contents. -/
theorem PhiA0_eq (c : Dev nD) :
    (Pipeline.ΦA spec0 c : sProp 𝕄)
      = iprop(iprop((∃ d, owns (c : Thread nD τ) (Memref.whole cc0_scratch0 : Memref sig .tc .vmem S512x2048 .bf16) fullShare d) ∗ (∃ d, owns (c : Thread nD τ) (Memref.whole cc0_scratch1 : Memref sig .tc .vmem S512x2048 .bf16) fullShare d) ∗ (∃ d, owns (c : Thread nD τ) (Memref.whole cc0_scratch2 : Memref sig .tc .vmem S512x128 .f32) fullShare d) ∗ (∃ d, owns (c : Thread nD τ) (Memref.whole cc0_scratch3 : Memref sig .tc .vmem S512x128 .f32) fullShare d) ∗ (∃ d, owns (c : Thread nD τ) (Memref.whole cc0_scratch4 : Memref sig .tc .vmem S512x128 .f32) fullShare d) ∗ (∃ d, owns (c : Thread nD τ) (Memref.whole cc0_scratch5 : Memref sig .tc .vmem S512x128 .f32) fullShare d)) ∗ (∃ r, prngReg c r)) := by
  unfold Pipeline.ΦA; rw [scopedRest0_eq]; simp only [owns_whole]; try rfl

/-- The proof data: inputs at their blocks, nothing named of the outputs, the scratch under `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
  Φ t := Phi Inv c t.val
  q w := Pipeline.shareOf spec0 w
  owed _ := 0

theorem A_eq (c : Dev nD) (w : Fin cfg0.W) : (dats m Inv 0 c).A w = V m c (Pipeline.arrRef spec0 w) := by
  dsimp only [dats]
theorem after0_0 (c : Dev nD) (t : Fin cfg0.N) : (dats m Inv 0 c).after 0 t = iblk m c 0 t := by dsimp only [dats]
theorem after0_1 (c : Dev nD) (t : Fin cfg0.N) : (dats m Inv 0 c).after 1 t = iblk m c 1 t := by dsimp only [dats]
theorem after0_2 (c : Dev nD) (t : Fin cfg0.N) : (dats m Inv 0 c).after 2 t = iblk m c 2 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem before0_1 (c : Dev nD) (t : Fin cfg0.N) (d) : (dats m Inv 0 c).before 1 t d = iblk m c 1 t :=
  before0_1_of m (dats m Inv 0 c) (A_eq m Inv c 1) (after0_1 m Inv c) t d
theorem before0_2 (c : Dev nD) (t : Fin cfg0.N) (d) : (dats m Inv 0 c).before 2 t d = iblk m c 2 t :=
  before0_2_of m (dats m Inv 0 c) (A_eq m Inv c 2) (after0_2 m Inv c) t d

/-- The output windows, whose contents are held to a predicate. -/
def outs : Fin cfg0.W → Bool := fun | 0 => false | 1 => false | 2 => false | 3 => true | 4 => true | 5 => true

variable (Rl : Dev nD → (w : Fin cfg0.W) → Fin cfg0.N → ((cfg0.win w).block.Idx → Elt F (cfg0.win w).elt) → Prop)

/-- The relational data of one core. -/
def rdat (c : Dev nD) : Pipeline.RDat τ (Elt F) Unit ℕ (UR sig nD τ) ℕ cfg0 c := (dats m Inv 0 c).toRRel outs (Rl c)

/-- What an invariant and a predicate on the outputs have to satisfy: every step keeps both. -/
def Keeps : Prop :=
  ∀ (c : Dev nD) (t : Fin cfg0.N) (s s' : St F),
    s.a1 = iblk m c 0 t → s.a2 = iblk m c 1 t → s.a3 = iblk m c 2 t →
    (rdat m Inv Rl c).Finds 3 t s.a4 → (rdat m Inv Rl c).Finds 4 t s.a5 → (rdat m Inv Rl c).Finds 5 t s.a6 →
    Inv c t.val s.a7 s.a8 s.a9 s.a10 s.a11 s.a12 → TransAt c t s s' →
    Inv c (t.val + 1) s'.a7 s'.a8 s'.a9 s'.a10 s'.a11 s'.a12 ∧ Rl c 3 t s'.a4 ∧ Rl c 4 t s'.a5 ∧ Rl c 5 t s'.a6

/-- What the body is called with at point `t`, -/
def bodyPre (c : Dev nD) (t : Fin cfg0.N) : sProp 𝕄 :=
  iprop((dats m Inv 0 c).Φ t.castSucc ∗ (dats m Inv 0 c).owesAt () t.castSucc
    ∗ (∃ d, owns (c : Thread nD τ) (st0_0 t) fullShare ((dats m Inv 0 c).before 0 t d))
    ∗ (∃ d, owns (c : Thread nD τ) (st0_1 t) fullShare ((dats m Inv 0 c).before 1 t d))
    ∗ (∃ d, owns (c : Thread nD τ) (st0_2 t) fullShare ((dats m Inv 0 c).before 2 t d))
    ∗ (∃ Y, ⌜(rdat m Inv Rl c).Finds 3 t Y⌝ ∗ owns (c : Thread nD τ) (st0_3 t) fullShare Y)
    ∗ (∃ Y, ⌜(rdat m Inv Rl c).Finds 4 t Y⌝ ∗ owns (c : Thread nD τ) (st0_4 t) fullShare Y)
    ∗ (∃ Y, ⌜(rdat m Inv Rl c).Finds 5 t Y⌝ ∗ owns (c : Thread nD τ) (st0_5 t) fullShare Y))

/-- and what it returns. -/
def bodyPost (c : Dev nD) (t : Fin cfg0.N) : sProp 𝕄 :=
  iprop((dats m Inv 0 c).Φ t.succ ∗ (dats m Inv 0 c).owesAt () t.succ
    ∗ owns (c : Thread nD τ) (st0_0 t) fullShare ((dats m Inv 0 c).after 0 t)
    ∗ owns (c : Thread nD τ) (st0_1 t) fullShare ((dats m Inv 0 c).after 1 t)
    ∗ owns (c : Thread nD τ) (st0_2 t) fullShare ((dats m Inv 0 c).after 2 t)
    ∗ (∃ X, ⌜Rl c 3 t X⌝ ∗ owns (c : Thread nD τ) (st0_3 t) fullShare X)
    ∗ (∃ X, ⌜Rl c 4 t X⌝ ∗ owns (c : Thread nD τ) (st0_4 t) fullShare X)
    ∗ (∃ X, ⌜Rl c 5 t X⌝ ∗ owns (c : Thread nD τ) (st0_5 t) fullShare X))

theorem sound_body (hk : Keeps m Inv Rl) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost
  simp only [before0_0, before0_1, before0_2]
  rw [show (dats m Inv 0 c).owesAt () t.succ = (dats m Inv 0 c).owesAt () t.castSucc from rfl, after0_0, after0_1, after0_2,
    show (dats m Inv 0 c).Φ t.castSucc = Phi Inv c t.val from rfl, show (dats m Inv 0 c).Φ t.succ = Phi Inv c (t.val + 1) from rfl]
  unfold Phi
  iintro ⟨⟨⟨%x7, %x8, %x9, %x10, %x11, %x12, %hinv, HS7, HS8, HS9, HS10, HS11, HS12⟩, Hg⟩, Ho, ⟨%d0, H0⟩, ⟨%d1, H1⟩, ⟨%d2, H2⟩, ⟨%Y3, %hY3, H3⟩, ⟨%Y4, %hY4, H4⟩, ⟨%Y5, %hY5, H5⟩⟩
  iapply (step_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (cases_at t) ⟨iblk m c 0 t, iblk m c 1 t, iblk m c 2 t, Y3, Y4, Y5, x7, x8, x9, x10, x11, x12⟩ Set.univ _)
  isplitl [H0 H1 H2 H3 H4 H5 HS7 HS8 HS9 HS10 HS11 HS12]
  · unfold Held
    isplitl [H0]; · iexact H0
    isplitl [H1]; · iexact H1
    isplitl [H2]; · iexact H2
    isplitl [H3]; · iexact H3
    isplitl [H4]; · iexact H4
    isplitl [H5]; · iexact H5
    isplitl [HS7]; · iexact HS7
    isplitl [HS8]; · iexact HS8
    isplitl [HS9]; · iexact HS9
    isplitl [HS10]; · iexact HS10
    isplitl [HS11]; · iexact HS11
    iexact HS12
  iintro %s' %hs' H
  have hin := Trans.inputs _ _ _ _ _ _ _ _ _ _ _ _ _ _ _ _ _ _ _ _ _ _ _ _ _ _ hs'
  have hk' := hk c t _ s' rfl rfl rfl hY3 hY4 hY5 hinv hs'
  obtain ⟨e1, e2, e3⟩ := hin
  dsimp only at e1 e2 e3
  obtain ⟨k1, k2, k3, k4⟩ := hk'
  unfold Held
  rw [e1, e2, e3]
  icases H with ⟨H0, H1, H2, H3, H4, H5, HS7, HS8, HS9, HS10, HS11, HS12⟩
  isplitl [HS7 HS8 HS9 HS10 HS11 HS12 Hg]
  · isplitl [HS7 HS8 HS9 HS10 HS11 HS12]
    · iexists _, _, _, _, _, _
      isplitr
      · ipureintro; exact k1
      isplitl [HS7]; · iexact HS7
      isplitl [HS8]; · iexact HS8
      isplitl [HS9]; · iexact HS9
      isplitl [HS10]; · iexact HS10
      isplitl [HS11]; · iexact HS11
      iexact HS12
    iexact Hg
  isplitl [Ho]; · iexact Ho
  isplitl [H0]; · iexact H0
  isplitl [H1]; · iexact H1
  isplitl [H2]; · iexact H2
  isplitl [H3]
  · iexists _; isplitr
    · ipureintro; exact k2
    iexact H3
  isplitl [H4]
  · iexists _; isplitr
    · ipureintro; exact k3
    iexact H4
  iexists _; isplitr
  · ipureintro; exact k4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hk : Keeps m Inv Rl) (c : Dev nD) :
    Pipeline.BodyObligationRel (dats (F := F) m Inv 0 c) (defs₀ (F := F)) Variants.none () Set.univ outs (Rl c) := fun t => by
  rw [bigSep_W0, bigSep_W0, defs₀_row]
  exact triple_restated (sound_body m Inv Rl hk c t) rfl .rfl fun _ => .rfl

theorem hin (h0 : ∀ c x7 x8 x9 x10 x11 x12, Inv c 0 x7 x8 x9 x10 x11 x12) (c : Dev nD) : Pipeline.ΦA spec0 c ⊢ (rdat m Inv Rl c).Φ 0 := by
  rw [show (rdat m Inv Rl c).Φ 0 = Phi Inv c 0 from rfl, PhiA0_eq]
  unfold Phi
  iintro ⟨⟨⟨%x7, H7⟩, ⟨%x8, H8⟩, ⟨%x9, H9⟩, ⟨%x10, H10⟩, ⟨%x11, H11⟩, ⟨%x12, H12⟩⟩, Hg⟩
  isplitr [Hg]
  · iexists x7, x8, x9, x10, x11, x12
    isplitr
    · ipureintro; exact h0 c _ _ _ _ _ _
    isplitl [H7]; · iexact H7
    isplitl [H8]; · iexact H8
    isplitl [H9]; · iexact H9
    isplitl [H10]; · iexact H10
    isplitl [H11]; · iexact H11
    iexact H12
  iexact Hg

theorem hout (c : Dev nD) : (rdat m Inv Rl c).Φ (Fin.last cfg0.N) ⊢ Pipeline.ΦA spec0 c := by
  rw [show (rdat m Inv Rl c).Φ (Fin.last cfg0.N) = Phi Inv c cfg0.N from rfl, PhiA0_eq]
  unfold Phi
  iintro ⟨⟨%x7, %x8, %x9, %x10, %x11, %x12, -, H7, H8, H9, H10, H11, H12⟩, Hg⟩
  isplitr [Hg]
  · isplitl [H7]; · iexists _; iexact H7
    isplitl [H8]; · iexists _; iexact H8
    isplitl [H9]; · iexists _; iexact H9
    isplitl [H10]; · iexists _; iexact H10
    isplitl [H11]; · iexists _; iexact H11
    iexists _; iexact H12
  iexact Hg

set_option backward.isDefEq.respectTransparency.types false in
/-- The launch: every execution ends with each array as the pipeline's data say, and every semaphore at zero. -/
theorem run_main (hk : Keeps m Inv Rl) (h0 : ∀ c x7 x8 x9 x10 x11 x12, Inv c 0 x7 x8 x9 x10 x11 x12) :
    θ_run defs (onTc (τ := τ) (main (F := F))) (s₀ m ρ)
      (fun r => Pipeline.RDat.FramePost cfg0 (rdat m Inv Rl) (V m) r ∧ r.2.sem = fun _ => 0) :=
  Pipeline.RDat.θ_run_frame_track_shared (Q' := _) cfgs (0 : Fin 1) launch₀0 defs₀ Variants.none (rdat m Inv Rl) m ρ main
    (hbody := fun c => (body_obligation m Inv Rl hk c).toRRel) (hq := fun _ _ _ => rfl)
    (howed := fun _ _ => rfl) (V := V m) (hmain := hmain m Variants.none) (hA := A_eq m Inv) (hin := hin m Inv Rl h0) (hout := hout m Inv Rl)

/-- The frame: the arguments end unchanged and every semaphore at zero. -/
theorem frame_of_run (r : PUnit × MemSt nD τ sig (Elt F)) (h : Pipeline.RDat.FramePost cfg0 (rdat m Inv Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c 1 rfl).trans (A_eq m Inv c 1), (h.arr_in c 2 rfl).trans (A_eq m Inv c 2)⟩

end Cert.ProjKernel.Own

end
-- ==== Proof.Proj.Bits.Frame.lean ====
/- The projection kernel runs to the end, faults nowhere and leaves its arguments unchanged. -/
module

public import proofs.«01_k».proof.Proof.Proj.Bits.Launch

@[expose] public section

set_option maxRecDepth 16384

noncomputable section

namespace Cert.ProjKernel.Own

open Cert.ProjKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame, with nothing said of the scratch or of the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => frame_of_run m (fun _ _ _ _ _ _ _ _ => True) (fun _ _ _ _ => True) r h.1 c, h.2⟩)
    (run_main m ρ (fun _ _ _ _ _ _ _ _ => True) (fun _ _ _ _ => True) (fun _ _ _ _ _ _ _ _ _ _ _ _ => ⟨trivial, trivial, trivial, trivial⟩)
      (fun _ _ _ _ _ _ _ => trivial))

end Cert.ProjKernel.Own

end
-- ==== Proof.Attn.Head.lean ====
/- The prologue of the attention kernel, run symbolically: what it stores of the keys and the values. -/
module

public import proofs.«01_k».proof.Proof.Gen.AttnKernelIdeal.Frame
public import proofs.«01_k».proof.Proof.Gen.AttnKernelIdeal.Skeleton

@[expose] public section

set_option maxRecDepth 16384

noncomputable section

namespace Cert.AttnKernelIdeal.Own

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prologue. -/
def progHead (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole) : Prog (TpuEff nD τ sig (Elt F) Λ₀ .tc) PUnit :=
  k0_part313 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun x =>
  k0_part314 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x.2.2.2.1 x.2.2.2.2.1 x.2.2.2.2.2 >>= fun y =>
  k0_part315 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x.1 x.2.2.2.2.1 y.2.1 y.2.2.1 y.2.2.2.1 y.2.2.2.2.1 y.2.2.2.2.2 >>= fun z =>
  k0_part316 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 y.1 z.1 z.2.1 z.2.2

set_option maxHeartbeats 4000000 in
/-- What the stores of the prologue leave in the three result buffers, as pieces, with the proof that it runs and leaves them. -/
noncomputable def runHead (c : Dev nD) (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole)
    (x2 : Vec F S256x2304 .f32) (x3 : Vec F S1x2304 .f32) (x4 : Vec F S256x64 .f32) (x5 : Vec F S256x64 .f32) (x6 : Vec F S256x256 .bf16) (x7 : Vec F S128x64 .bf16) :
    Σ' (L12 : List (View.Piece (Elt F) S256x64 .i8)) (L13 : List (View.Piece (Elt F) S256x64 .i8)), { L14 : List (View.Piece (Elt F) S1x8x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (progHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun E K => ?run⟩
  case run =>
    unfold progHead
    simp only [k0_part313_eq_skeleton, k0_part314_eq_skeleton, k0_part315_eq_skeleton, k0_part316_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d12, %f12, -, H12⟩, ⟨%d13, %f13, -, H13⟩, ⟨%d14, %f14, -, H14⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H12]
    · iexists _; iexact H12
    isplitl [H13]
    · iexists _; iexact H13
    isplitl [H14]
    · iexists _; iexact H14
    isplitl [H16]
    · iexists _, _; isplitr; swap
      · iexact H16
      ipureintro; rfl
    isplitl [H17]
    · iexists _, _; isplitr; swap
      · iexact H17
      ipureintro; rfl
    iexists _, _; isplitr; swap
    · iexact H18
    ipureintro; rfl

end Cert.AttnKernelIdeal.Own

end
-- ==== Proof.Keep.lean ====
/- Programs that keep an assertion: the loads and stores of whole buffers, sequences, conditionals and counted loops of such programs. -/
module

public import Idealize.ShloMosaic.Lib.Exec.Context
public import Idealize.ShloMosaic.Lib.Memref
public import Idealize.ShloMosaic.Lib.Scf

@[expose] public section

noncomputable section

namespace Cert.Keep

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] {nD : ℕ} {τ : Topo} {sig : RefSig} {Λ : Labels}
variable {UU : Type} [URA UU]

variable (defs : Defs nD τ sig (Elt F) Λ) (c : Dev nD) (P : sProp (MT nD τ sig Unit (Elt F) ℕ UU ℕ))

/-- `P` holds the buffer `m` whole, at contents it does not change. -/
def Reads {s : Shape} {e : EltTy} (m : Memref sig .tc .vmem s e) : Prop :=
  P ⊢ (iprop(∃ x, owns (c : Thread nD τ) m fullShare x ∗ (owns (c : Thread nD τ) m fullShare x -∗ P)) : sProp (MT nD τ sig Unit (Elt F) ℕ UU ℕ))

/-- `P` holds the buffer `m` whole, and takes it back at any contents. -/
def Stores {s : Shape} {e : EltTy} (m : Memref sig .tc .vmem s e) : Prop :=
  P ⊢ (iprop(∃ x, owns (c : Thread nD τ) m fullShare x ∗ (∀ y, owns (c : Thread nD τ) m fullShare y -∗ P)) : sProp (MT nD τ sig Unit (Elt F) ℕ UU ℕ))

theorem Stores.reads {s : Shape} {e : EltTy} {m : Memref sig .tc .vmem s e} (h : Stores c P m) : Reads c P m := by
  refine BIBase.Entails.trans h ?_
  iintro ⟨%x, H, Hk⟩
  iexists x
  isplitl [H]; · iexact H
  iintro H
  ispecialize Hk $$ %x
  iapply Hk; iexact H

/-- The program `p` runs from `P` and gives `P` back, whatever it returns. -/
def Keeps {α : Type} (p : Prog (TpuEff nD τ sig (Elt F) Λ .tc) α) : Prop :=
  ∀ E : Set ℕ, (P : sProp (MT nD τ sig Unit (Elt F) ℕ UU ℕ)) ⊢ wp frame (wpE defs Variants.none (c : Thread nD τ) none) E p (fun _ => P)

variable {defs c P}

theorem Keeps.pure {α : Type} (a : α) : Keeps defs c P (Pure.pure a) := fun E => by
  rw [wp_pure]
  iintro H
  imodintro
  iexact H

theorem Keeps.bind {α β : Type} {p : Prog (TpuEff nD τ sig (Elt F) Λ .tc) α} {k : α → Prog (TpuEff nD τ sig (Elt F) Λ .tc) β}
    (hp : Keeps defs c P p) (hk : ∀ a, Keeps defs c P (k a)) : Keeps defs c P (p >>= k) := fun E => by
  rw [wp_bind]
  exact (hp E).trans (wp_mono _ _ _ fun a => hk a E)

/-- A program that leaves `Φ`, followed by one that runs from `Φ` and leaves `P`. -/
theorem wp_next {α β : Type} {A : sProp (MT nD τ sig Unit (Elt F) ℕ UU ℕ)} {Φ : α → sProp (MT nD τ sig Unit (Elt F) ℕ UU ℕ)} {E : Set ℕ}
    {p : Prog (TpuEff nD τ sig (Elt F) Λ .tc) α} {k : α → Prog (TpuEff nD τ sig (Elt F) Λ .tc) β}
    (hp : A ⊢ wp frame (wpE defs Variants.none (c : Thread nD τ) none) E p Φ)
    (hk : ∀ a, Φ a ⊢ wp frame (wpE defs Variants.none (c : Thread nD τ) none) E (k a) (fun _ => P)) :
    A ⊢ wp frame (wpE defs Variants.none (c : Thread nD τ) none) E (p >>= k) (fun _ => P) := by
  rw [wp_bind]
  exact BIBase.Entails.trans hp (wp_mono _ _ _ hk)

theorem Keeps.ite {α : Type} {q : Prop} [Decidable q] {p : q → Prog (TpuEff nD τ sig (Elt F) Λ .tc) α} {p' : ¬ q → Prog (TpuEff nD τ sig (Elt F) Λ .tc) α}
    (h : ∀ hq, Keeps defs c P (p hq)) (h' : ∀ hq, Keeps defs c P (p' hq)) : Keeps defs c P (dite q p p') := by
  by_cases hq : q
  · rw [dif_pos hq]; exact h hq
  · rw [dif_neg hq]; exact h' hq

theorem Keeps.loop {w : ℕ} {σ : Type} (lb ub st : BitVec w) (hok : Scf.OK lb ub st) (init : σ)
    (body : Fin (Scf.trips lb ub st) → σ → Prog (TpuEff nD τ sig (Elt F) Λ .tc) σ)
    (h : ∀ k acc, Keeps defs c P (body k acc)) : Keeps defs c P (Scf.for lb ub st hok init body) := fun E => by
  refine BIBase.Entails.trans ?_ (Scf.wp_for _ _ E lb ub st hok init body (fun _ _ => P) (fun k acc => h k acc E))
  iintro H
  isplitl [H]; · iexact H
  iintro %acc H
  iexact H

theorem Keeps.load {s : Shape} {e : EltTy} {m : Memref sig .tc .vmem s e} {r : LoadRect s} {hl : m.view.LoadsAt r}
    (h : Reads c P m) : Keeps defs c P (Prog.lift (.load m r hl)) := fun E => by
  refine BIBase.Entails.trans h ?_
  unfold owns
  iintro ⟨%x, ⟨%f, %hf, H⟩, Hk⟩
  iapply (wp_load Variants.none (c : Thread nD τ) none E (hl := hl) (S := m.view.set) (f := f) (m.view.setOn_subset_set _)) $$ H
  iintro H
  rw [wp_ret]
  imodintro
  iapply Hk
  iexists f
  isplitr
  · ipureintro; exact hf
  iexact H

theorem Keeps.store {s : Shape} {e : EltTy} {m : Memref sig .tc .vmem s e} {r : Rect s} {w : r.shape.Idx → Elt F e}
    {hx : (m.access r).Stores Finset.univ} {hm : Finset.univ = Finset.univ ∨ ∀ a, r.stride a = 1}
    (h : Stores c P m) : Keeps defs c P (Prog.lift (.store m r w Finset.univ hx hm)) := fun E => by
  refine BIBase.Entails.trans h ?_
  unfold owns
  iintro ⟨%x, ⟨%f, %hf, H⟩, Hk⟩
  iapply (wp_store Variants.none (c : Thread nD τ) none E (hx := hx) (hm := hm) (S := m.view.set) (f := f) (((m.access _).setOn_subset_set _).trans (View.set_slice_subset _ _))) $$ H
  iintro H
  rw [wp_ret]
  imodintro
  ispecialize Hk $$ %_
  iapply Hk
  iexists _
  isplitr; swap
  · iexact H
  ipureintro; rfl

end Cert.Keep

end
-- ==== Proof.Attn.Rest.lean ====
/- The parts of the attention kernel after its prologue: they keep any assertion that holds the buffers they load and store. -/
module

public import proofs.«01_k».proof.Proof.Gen.AttnKernelIdeal.Skeleton
public import proofs.«01_k».proof.Proof.Keep

@[expose] public section

set_option maxRecDepth 65536

noncomputable section

namespace Cert.AttnKernelIdeal.Own

open Cert.AttnKernelIdeal Cert.AttnKernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep

variable {F : FTy → Type} [FloatOps F]

variable {UU : Type} [URA UU]

variable (c : Dev nD) (P : sProp (MT nD τ sig Unit (Elt F) ℕ UU ℕ)) (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole)

/-- Every buffer the parts after the prologue touch is held by `P`: the inputs to be read, the four outputs and the scratch to be stored. -/
structure Has : Prop where
  r2 : Reads c P arg2
  r3 : Reads c P arg3
  r4 : Reads c P arg4
  r5 : Reads c P arg5
  r6 : Reads c P arg6
  r7 : Reads c P arg7
  w8 : Stores c P arg8
  w9 : Stores c P arg9
  w10 : Stores c P arg10
  w11 : Stores c P arg11
  w15 : Stores c P arg15
  w16 : Stores c P arg16
  w17 : Stores c P arg17
  w18 : Stores c P arg18
  w19 : Stores c P arg19
  w20 : Stores c P arg20
  w21 : Stores c P arg21

variable {c P}

set_option maxHeartbeats 0 in
theorem k0_part45_keeps (H : Has c P arg2 arg3 arg4 arg5 arg6 arg7 arg8 arg9 arg10 arg11 arg15 arg16 arg17 arg18 arg19 arg20 arg21) (k0_h2 : k0_cond2 i = 1#1) (c0_i32_2480 : BitVec 32) (c1_i32_2482 : BitVec 32) (k0_t2 : Fin k0_t2_loop.trips) :
    Keeps (defs₀ (F := F)) c P (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 c0_i32_2480 c1_i32_2482 k0_t2) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part45
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44

set_option maxHeartbeats 0 in
theorem k0_part90_keeps (H : Has c P arg2 arg3 arg4 arg5 arg6 arg7 arg8 arg9 arg10 arg11 arg15 arg16 arg17 arg18 arg19 arg20 arg21) (k0_h3 : k0_cond3 i = 1#1) (c0_i32_2480 : BitVec 32) (c1_i32_2482 : BitVec 32) (k0_t3 : Fin k0_t3_loop.trips) :
    Keeps (defs₀ (F := F)) c P (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 c0_i32_2480 c1_i32_2482 k0_t3) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part90
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89

set_option maxHeartbeats 0 in
theorem k0_part149_keeps (H : Has c P arg2 arg3 arg4 arg5 arg6 arg7 arg8 arg9 arg10 arg11 arg15 arg16 arg17 arg18 arg19 arg20 arg21) (k0_h4 : k0_cond4 i = 1#1) (c0_i32_2480 : BitVec 32) (c1_i32_2482 : BitVec 32) (k0_t4 : Fin k0_t4_loop.trips) :
    Keeps (defs₀ (F := F)) c P (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 c0_i32_2480 c1_i32_2482 k0_t4) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part149
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148

set_option maxHeartbeats 0 in
theorem k0_part223_keeps (H : Has c P arg2 arg3 arg4 arg5 arg6 arg7 arg8 arg9 arg10 arg11 arg15 arg16 arg17 arg18 arg19 arg20 arg21) (k0_h5 : k0_cond5 i = 1#1) (c0_i32_2480 : BitVec 32) (c1_i32_2482 : BitVec 32) (k0_t5 : Fin k0_t5_loop.trips) :
    Keeps (defs₀ (F := F)) c P (k0_part223 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h5 c0_i32_2480 c1_i32_2482 k0_t5) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part223
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180 k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209

set_option maxHeartbeats 0 in
theorem k0_part311_keeps (H : Has c P arg2 arg3 arg4 arg5 arg6 arg7 arg8 arg9 arg10 arg11 arg15 arg16 arg17 arg18 arg19 arg20 arg21) (k0_h6 : k0_cond6 i = 1#1) (c0_i32_2480 : BitVec 32) (c1_i32_2482 : BitVec 32) (k0_t6 : Fin k0_t6_loop.trips) :
    Keeps (defs₀ (F := F)) c P (k0_part311 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h6 c0_i32_2480 c1_i32_2482 k0_t6) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part311
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part224 k0_part225 k0_part226 k0_part227 k0_part228 k0_part229 k0_part230 k0_part231 k0_part232 k0_part233 k0_part234 k0_part235 k0_part236 k0_part237 k0_part238 k0_part239 k0_part240 k0_part241 k0_part242 k0_part243 k0_part244 k0_part245 k0_part246 k0_part247 k0_part248 k0_part249 k0_part250 k0_part251 k0_part252 k0_part253 k0_part254 k0_part255 k0_part256 k0_part257 k0_part258 k0_part259 k0_part260 k0_part261 k0_part262 k0_part263 k0_part264 k0_part265 k0_part266 k0_part267 k0_part268 k0_part269 k0_part270 k0_part271 k0_part272 k0_part273 k0_part274 k0_part275 k0_part276 k0_part277 k0_part278 k0_part279 k0_part280 k0_part281 k0_part282 k0_part283

set_option maxHeartbeats 0 in
theorem k0_part464_keeps (H : Has c P arg2 arg3 arg4 arg5 arg6 arg7 arg8 arg9 arg10 arg11 arg15 arg16 arg17 arg18 arg19 arg20 arg21) (v2047 : FVec F S64x128 .f32) (v2048 : FVec F S64x128 .f32) (v2049 : FVec F S64x128 .f32) (v2050 : FVec F S64x128 .f32) (v2051 : FVec F S64x128 .f32) (v2052 : FVec F S64x128 .f32) (v2053 : FVec F S64x128 .f32) (v2054 : FVec F S64x128 .f32) (v2055 : FVec F S64x128 .f32) (v2056 : FVec F S64x128 .f32) (v2057 : FVec F S64x128 .f32) (v2058 : IVec S64x128 32) (v2384 : FVec F S64x128 .f32) (v2451 : FVec F S64x1 .f32) (v2462 : FVec F S64x128 .f32) (v2463 : IVec S64x128 32) :
    Keeps (defs₀ (F := F)) c P (k0_part464 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2047 v2048 v2049 v2050 v2051 v2052 v2053 v2054 v2055 v2056 v2057 v2058 v2384 v2451 v2462 v2463) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part464
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part373 k0_part374 k0_part375 k0_part376 k0_part377 k0_part378 k0_part379 k0_part380 k0_part381 k0_part382 k0_part383 k0_part384 k0_part385 k0_part386 k0_part387 k0_part388 k0_part389 k0_part390 k0_part391 k0_part392 k0_part393 k0_part394 k0_part395 k0_part396 k0_part397 k0_part398 k0_part399 k0_part400 k0_part401 k0_part402 k0_part403 k0_part404 k0_part405 k0_part406 k0_part407 k0_part408 k0_part409 k0_part410 k0_part411 k0_part412 k0_part413 k0_part414 k0_part415 k0_part416 k0_part417 k0_part418 k0_part419 k0_part420 k0_part421 k0_part422 k0_part423 k0_part424 k0_part425 k0_part426 k0_part427 k0_part428 k0_part429 k0_part430 k0_part431 k0_part432

set_option maxHeartbeats 0 in
theorem k0_part465_keeps (H : Has c P arg2 arg3 arg4 arg5 arg6 arg7 arg8 arg9 arg10 arg11 arg15 arg16 arg17 arg18 arg19 arg20 arg21) (v4931 : FVec F S64x128 .f32) (v4932 : FVec F S64x128 .f32) (v4933 : FVec F S64x128 .f32) (v4934 : FVec F S64x128 .f32) (v4935 : FVec F S64x128 .f32) (v4936 : FVec F S64x128 .f32) (v4937 : FVec F S64x128 .f32) (v4938 : FVec F S64x128 .f32) (v4939 : FVec F S64x128 .f32) (v4940 : FVec F S64x128 .f32) (v4941 : FVec F S64x128 .f32) (v4942 : FVec F S64x128 .f32) (v4943 : FVec F S64x128 .f32) (v4944 : FVec F S64x128 .f32) (v4945 : FVec F S64x128 .f32) (v4946 : IVec S64x128 32) (v4947 : FVec F S64x128 .f32) (v4949 : FVec F S64x128 .f32) (v4956 : FVec F S64x1 .f32) (v4958 : IVec S64x1 1) (v4960 : IVec S64x1 1) :
    Keeps (defs₀ (F := F)) c P (k0_part465 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4931 v4932 v4933 v4934 v4935 v4936 v4937 v4938 v4939 v4940 v4941 v4942 v4943 v4944 v4945 v4946 v4947 v4949 v4956 v4958 v4960) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part465
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part433 k0_part434 k0_part435 k0_part436 k0_part437 k0_part438 k0_part439 k0_part440 k0_part441 k0_part442 k0_part443 k0_part444 k0_part445 k0_part446 k0_part447 k0_part448 k0_part449 k0_part450 k0_part451 k0_part452 k0_part453 k0_part454 k0_part455 k0_part456 k0_part457 k0_part458 k0_part459 k0_part460 k0_part461 k0_part462

end Cert.AttnKernelIdeal.Own

end
-- ==== Proof.Attn.Loops.lean ====
/- The branches of the attention kernel, each a loop over the heads: they keep any assertion that holds the buffers they load and store. -/
module

public import proofs.«01_k».proof.Proof.Gen.AttnKernelIdeal.Skeleton
public import proofs.«01_k».proof.Proof.Attn.Rest

@[expose] public section

set_option maxRecDepth 65536

noncomputable section

namespace Cert.AttnKernelIdeal.Own

open Cert.AttnKernelIdeal Cert.AttnKernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep

variable {F : FTy → Type} [FloatOps F]

variable {UU : Type} [URA UU]

variable (c : Dev nD) (P : sProp (MT nD τ sig Unit (Elt F) ℕ UU ℕ)) (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole)

variable {c P}

set_option maxHeartbeats 0 in
theorem k0_part312_keeps (H : Has c P arg2 arg3 arg4 arg5 arg6 arg7 arg8 arg9 arg10 arg11 arg15 arg16 arg17 arg18 arg19 arg20 arg21) (k0_h6 : k0_cond6 i = 1#1) (k0_t6 : Fin k0_t6_loop.trips) (v7978 : BitVec 32) (v7984 : FVec F S256x1 .f32) (v8389 : FVec F S64x1 .f32) (v8391 : FVec F S64x1 .f32) (v8437 : FVec F S64x128 .f32) (v8453 : FVec F S64x128 .f32) (v8469 : FVec F S64x128 .f32) (v8485 : FVec F S64x128 .f32) (v8501 : FVec F S64x128 .f32) (v8517 : FVec F S64x128 .f32) (v8533 : FVec F S64x128 .f32) (v8549 : FVec F S64x128 .f32) (v8574 : FVec F S64x128 .f32) (v8578 : FVec F S64x1 .f32) (v8581 : FVec F S64x128 .f32) (v8586 : FVec F S64x128 .f32) (v8598 : FVec F S64x128 .f32) (v8599 : Vec F S1x1x128 .f32) :
    Keeps (defs₀ (F := F)) c P (k0_part312 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h6 k0_t6 v7978 v7984 v8389 v8391 v8437 v8453 v8469 v8485 v8501 v8517 v8533 v8549 v8574 v8578 v8581 v8586 v8598 v8599) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part312
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part284 k0_part285 k0_part286 k0_part287 k0_part288 k0_part289 k0_part290 k0_part291 k0_part292 k0_part293 k0_part294 k0_part295 k0_part296 k0_part297 k0_part298 k0_part299 k0_part300 k0_part301 k0_part302 k0_part303 k0_part304 k0_part305 k0_part306 k0_part307 k0_part308 k0_part309 k0_part310

set_option maxHeartbeats 0 in
theorem k0_part325_keeps (H : Has c P arg2 arg3 arg4 arg5 arg6 arg7 arg8 arg9 arg10 arg11 arg15 arg16 arg17 arg18 arg19 arg20 arg21) (arg1 : BitVec 32) (v484 : BitVec 1) :
    Keeps (defs₀ (F := F)) c P (k0_part325 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v484) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part325
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | with_reducible exact k0_part45_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part90_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part149_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part223_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part311_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part312_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | delta k0_part1 k0_part2 k0_part3 k0_part4 k0_part5 k0_part6 k0_part7 k0_part8 k0_part9 k0_part10 k0_part11 k0_part12 k0_part13 k0_part14 k0_part15 k0_part210 k0_part211 k0_part212 k0_part213 k0_part214 k0_part215 k0_part216 k0_part217 k0_part218 k0_part219 k0_part220 k0_part221 k0_part222

end Cert.AttnKernelIdeal.Own

end
-- ==== Proof.Attn.Body.lean ====
/- One point of the attention kernel: it leaves its inputs, and in the three result buffers of the keys and the values what the prologue stored. -/
module

public import proofs.«01_k».proof.Proof.Attn.Head
public import proofs.«01_k».proof.Proof.Attn.Loops

@[expose] public section

set_option maxRecDepth 16384

noncomputable section

namespace Cert.AttnKernelIdeal.Own

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole)
  (x2 : Vec F S256x2304 .f32) (x3 : Vec F S1x2304 .f32) (x4 : Vec F S256x64 .f32) (x5 : Vec F S256x64 .f32) (x6 : Vec F S256x256 .bf16) (x7 : Vec F S128x64 .bf16)

/-- The buffers before a point: the inputs at their contents, the rest at any. -/
def Before : sProp 𝕄 :=
  iprop(owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d))

/-- The buffers after the prologue, and after the point. -/
def After : sProp 𝕄 :=
  iprop(owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ f, arg12.view.loc (c : Thread nD τ) ↦[arg12.view.set]{fullShare} arg12.view.writes (Elt F) f (runHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7).1)
    ∗ (∃ f, arg13.view.loc (c : Thread nD τ) ↦[arg13.view.set]{fullShare} arg13.view.writes (Elt F) f (runHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7).2.1)
    ∗ (∃ f, arg14.view.loc (c : Thread nD τ) ↦[arg14.view.set]{fullShare} arg14.view.writes (Elt F) f (runHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7).2.2.1)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d))

/-- The buffers the rest of the point touches are held by `After`. -/
theorem has_after : Has c (After c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7) arg2 arg3 arg4 arg5 arg6 arg7 arg8 arg9 arg10 arg11 arg15 arg16 arg17 arg18 arg19 arg20 arg21 := by
  constructor
  · unfold Reads After
    iintro ⟨H2, H3, H4, H5, H6, H7, H8, H9, H10, H11, H12, H13, H14, H15, H16, H17, H18, H19, H20, H21⟩
    iexists _
    isplitl [H2]; · iexact H2
    iintro H2
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H3]; · iexact H3
    iintro H3
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H4]; · iexact H4
    iintro H4
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H5]; · iexact H5
    iintro H5
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H6]; · iexact H6
    iintro H6
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H7]; · iexact H7
    iintro H7
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, ⟨%d, H8⟩, H9, H10, H11, H12, H13, H14, H15, H16, H17, H18, H19, H20, H21⟩
    iexists _
    isplitl [H8]; · iexact H8
    iintro %x H8
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, ⟨%d, H9⟩, H10, H11, H12, H13, H14, H15, H16, H17, H18, H19, H20, H21⟩
    iexists _
    isplitl [H9]; · iexact H9
    iintro %x H9
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, H9, ⟨%d, H10⟩, H11, H12, H13, H14, H15, H16, H17, H18, H19, H20, H21⟩
    iexists _
    isplitl [H10]; · iexact H10
    iintro %x H10
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, H9, H10, ⟨%d, H11⟩, H12, H13, H14, H15, H16, H17, H18, H19, H20, H21⟩
    iexists _
    isplitl [H11]; · iexact H11
    iintro %x H11
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, H9, H10, H11, H12, H13, H14, ⟨%d, H15⟩, H16, H17, H18, H19, H20, H21⟩
    iexists _
    isplitl [H15]; · iexact H15
    iintro %x H15
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, H9, H10, H11, H12, H13, H14, H15, ⟨%d, H16⟩, H17, H18, H19, H20, H21⟩
    iexists _
    isplitl [H16]; · iexact H16
    iintro %x H16
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexact H20
    iexact H21
  · unfold Stores After
    iintro ⟨H2, H3, H4, H5, H6, H7, H8, H9, H10, H11, H12, H13, H14, H15, H16, ⟨%d, H17⟩, H18, H19, H20, H21⟩
    iexists _
    isplitl [H17]; · iexact H17
    iintro %x H17
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexact H19
    isplitl [H20]; · iexact H20
    iexact H21
  · unfold Stores After
    iintro ⟨H2, H3, H4, H5, H6, H7, H8, H9, H10, H11, H12, H13, H14, H15, H16, H17, ⟨%d, H18⟩, H19, H20, H21⟩
    iexists _
    isplitl [H18]; · iexact H18
    iintro %x H18
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    iexact H21
  · unfold Stores After
    iintro ⟨H2, H3, H4, H5, H6, H7, H8, H9, H10, H11, H12, H13, H14, H15, H16, H17, H18, ⟨%d, H19⟩, H20, H21⟩
    iexists _
    isplitl [H19]; · iexact H19
    iintro %x H19
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexact H20
    iexact H21
  · unfold Stores After
    iintro ⟨H2, H3, H4, H5, H6, H7, H8, H9, H10, H11, H12, H13, H14, H15, H16, H17, H18, H19, ⟨%d, H20⟩, H21⟩
    iexists _
    isplitl [H20]; · iexact H20
    iintro %x H20
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    iexact H21
  · unfold Stores After
    iintro ⟨H2, H3, H4, H5, H6, H7, H8, H9, H10, H11, H12, H13, H14, H15, H16, H17, H18, H19, H20, ⟨%d, H21⟩⟩
    iexists _
    isplitl [H21]; · iexact H21
    iintro %x H21
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexists _; iexact H21

theorem head_after (E : Set ℕ) : Before c arg2 arg3 arg4 arg5 arg6 arg7 arg8 arg9 arg10 arg11 arg12 arg13 arg14 arg15 arg16 arg17 arg18 arg19 arg20 arg21 x2 x3 x4 x5 x6 x7 ⊢ wp frame (wpE (defs₀ (F := F)) Variants.none c none) E (progHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => After c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7) := by
  unfold Before After
  iintro ⟨H2, H3, H4, H5, H6, H7, H8, H9, H10, H11, H12, H13, H14, H15, H16, H17, H18, H19, H20, H21⟩
  iapply ((runHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7).2.2.2 E _)
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H13]; · iexact H13
  isplitl [H14]; · iexact H14
  isplitl [H16]; · iexact H16
  isplitl [H17]; · iexact H17
  isplitl [H18]; · iexact H18
  iintro ⟨H2, H3, H4, H5, H6, H7, H12, H13, H14, H16, H17, H18⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

set_option maxHeartbeats 0 in
/-- The whole point. -/
theorem body_after (E : Set ℕ) : Before c arg2 arg3 arg4 arg5 arg6 arg7 arg8 arg9 arg10 arg11 arg12 arg13 arg14 arg15 arg16 arg17 arg18 arg19 arg20 arg21 x2 x3 x4 x5 x6 x7 ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => After c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7) := by
  have hh := head_after c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 E
  unfold progHead at hh
  simp only [wp_bind] at hh
  have G := has_after c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7
  generalize After c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 = P at hh G ⊢
  have H := G
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta cc0_attn
  with_reducible refine wp_next (Φ := fun _ => P) ?_ fun a => ?_
  · delta k0_part463
    with_reducible refine wp_next hh fun x => ?_
    with_reducible refine wp_next .rfl fun y => ?_
    with_reducible refine wp_next .rfl fun z => ?_
    with_reducible refine wp_next .rfl fun _ => ?_
    refine (?_ : Keeps (defs₀ (F := F)) c P _) E
    repeat' first
      | with_reducible refine Keeps.bind ?_ fun _ => ?_
      | with_reducible exact Keeps.load (by assumption)
      | with_reducible exact Keeps.store (by assumption)
      | with_reducible exact Keeps.pure _
      | with_reducible exact k0_part325_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
      | delta k0_part317 k0_part318 k0_part319 k0_part320 k0_part321 k0_part322 k0_part323 k0_part324 k0_part326 k0_part327 k0_part328 k0_part329 k0_part330 k0_part331 k0_part332 k0_part333 k0_part334 k0_part335 k0_part336 k0_part337 k0_part338 k0_part339 k0_part340 k0_part341 k0_part342 k0_part343 k0_part344 k0_part345 k0_part346 k0_part347 k0_part348 k0_part349 k0_part350 k0_part351 k0_part352 k0_part353 k0_part354 k0_part355 k0_part356 k0_part357 k0_part358 k0_part359 k0_part360 k0_part361 k0_part362 k0_part363 k0_part364 k0_part365 k0_part366 k0_part367 k0_part368 k0_part369 k0_part370 k0_part371 k0_part372
  · refine (?_ : Keeps (defs₀ (F := F)) c P _) E
    repeat' first
      | with_reducible refine Keeps.bind ?_ fun _ => ?_
      | with_reducible exact Keeps.load (by assumption)
      | with_reducible exact Keeps.store (by assumption)
      | with_reducible exact Keeps.pure _
      | with_reducible exact k0_part464_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
      | with_reducible exact k0_part465_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..

end Cert.AttnKernelIdeal.Own

end
-- ==== Proof.Attn.Launch.lean ====
/- The body obligation of the attention kernel, and the launch. -/
module

public import proofs.«01_k».proof.Proof.Attn.Body
public import Idealize.ShloMosaic.Lib.Pipeline.DatRel
public import Idealize.ShloMosaic.Lib.Pipeline.ArrRel

@[expose] public section

set_option maxRecDepth 16384

noncomputable section

namespace Cert.AttnKernelIdeal.Own

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prologue's run at the buffers point `t` is called with. -/
abbrev runAt (c : Dev nD) (t : Fin cfg0.N) :=
  runHead c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t)

/-- What a point leaves in the three result buffers of the keys and the values; nothing is said of the other results. -/
def Rl (c : Dev nD) (w : Fin cfg0.W) (t : Fin cfg0.N) (X : (cfg0.win w).block.Idx → Elt F (cfg0.win w).elt) : Prop :=
  match w with
  | ⟨10, _⟩ => ∃ f, X = (st0_10 t).view.read (Elt F) ((st0_10 t).view.writes (Elt F) f (runAt m c t).1)
  | ⟨11, _⟩ => ∃ f, X = (st0_11 t).view.read (Elt F) ((st0_11 t).view.writes (Elt F) f (runAt m c t).2.1)
  | ⟨12, _⟩ => ∃ f, X = (st0_12 t).view.read (Elt F) ((st0_12 t).view.writes (Elt F) f (runAt m c t).2.2.1)
  | _ => True

/-- The scratch buffers and the generator register, at any contents. -/
def Phi (c : Dev nD) : sProp 𝕄 :=
  iprop(iprop((∃ d, owns (c : Thread nD τ) (Memref.whole cc0_scratch0 : Memref sig .tc .vmem S16x256x128 .bf16) fullShare d) ∗ (∃ d, owns (c : Thread nD τ) (Memref.whole cc0_scratch1 : Memref sig .tc .vmem S128x1536 .bf16) fullShare d) ∗ (∃ d, owns (c : Thread nD τ) (Memref.whole cc0_scratch2 : Memref sig .tc .vmem S1536x128 .bf16) fullShare d) ∗ (∃ d, owns (c : Thread nD τ) (Memref.whole cc0_scratch3 : Memref sig .tc .vmem S4x8x1536 .f32) fullShare d) ∗ (∃ d, owns (c : Thread nD τ) (Memref.whole cc0_scratch4 : Memref sig .tc .vmem S2x256x1536 .f32) fullShare d) ∗ (∃ d, owns (c : Thread nD τ) (Memref.whole cc0_scratch5 : Memref sig .tc .vmem S2x256x1536 .bf16) fullShare d) ∗ (∃ d, owns (c : Thread nD τ) (Memref.whole cc0_scratch6 : Memref sig .tc .vmem S16x256x128 .f32) fullShare d)) ∗ (∃ r, prngReg c r))

/-- The class's invariant with the scratch operands as buffers owned at some contents. -/
theorem PhiA0_eq (c : Dev nD) : (Pipeline.ΦA spec0 c : sProp 𝕄) = Phi c := by
  unfold Pipeline.ΦA Phi; rw [scopedRest0_eq]; simp only [owns_whole]; try rfl

/-- The proof data: inputs at their blocks, nothing named of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
  Φ t := Phi c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The output windows, whose contents are held to a predicate. -/
def outs : Fin cfg0.W → Bool := fun | 0 => false | 1 => false | 2 => false | 3 => false | 4 => false | 5 => false | 6 => true | 7 => true | 8 => true | 9 => true | 10 => true | 11 => true | 12 => true

/-- The relational data of one core. -/
def rdat (c : Dev nD) : Pipeline.RDat τ (Elt F) Unit ℕ (UR sig nD τ) ℕ cfg0 c := (dats m 0 c).toRRel outs (Rl m c)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X)
    ∗ (∃ X, ⌜Rl m c 11 t X⌝ ∗ owns (c : Thread nD τ) (st0_11 t) fullShare X)
    ∗ (∃ X, ⌜Rl m c 12 t X⌝ ∗ owns (c : Thread nD τ) (st0_12 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl, after0_0, after0_1, after0_2, after0_3, after0_4, after0_5,
    show (dats m 0 c).Φ t.castSucc = Phi c from rfl, show (dats m 0 c).Φ t.succ = Phi c from rfl]
  unfold Phi
  iintro ⟨⟨⟨HS15, HS16, HS17, HS18, HS19, HS20, HS21⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y8, -, H8⟩, ⟨%Y9, -, H9⟩, ⟨%Y10, -, H10⟩, ⟨%Y11, -, H11⟩, ⟨%Y12, -, H12⟩⟩
  ihave HB : Before c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (Memref.whole cc0_scratch0) (Memref.whole cc0_scratch1) (Memref.whole cc0_scratch2) (Memref.whole cc0_scratch3) (Memref.whole cc0_scratch4) (Memref.whole cc0_scratch5) (Memref.whole cc0_scratch6) (iblk m c 0 t) (iblk m c 1 t) (iblk m c 2 t) (iblk m c 3 t) (iblk m c 4 t) (iblk m c 5 t) $$ [H0 H1 H2 H3 H4 H5 H6 H7 H8 H9 H10 H11 H12 HS15 HS16 HS17 HS18 HS19 HS20 HS21]
  · unfold Before
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS15]; · iexact HS15
    isplitl [HS16]; · iexact HS16
    isplitl [HS17]; · iexact HS17
    isplitl [HS18]; · iexact HS18
    isplitl [HS19]; · iexact HS19
    isplitl [HS20]; · iexact HS20
    iexact HS21
  iapply (wp_wand_r frame (wpE (defs₀ (F := F)) Variants.none c none) Set.univ)
  isplitl [HB]
  · iapply (body_after c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) Set.univ)
    iexact HB
  iintro %_ HA
  unfold After
  icases HA with ⟨H0, H1, H2, H3, H4, H5, H6, H7, H8, H9, ⟨%f10, H10⟩, ⟨%f11, H11⟩, ⟨%f12, H12⟩, HS15, HS16, HS17, HS18, HS19, HS20, HS21⟩
  isplitl [HS15 HS16 HS17 HS18 HS19 HS20 HS21 Hg]
  · isplitr [Hg]
    · isplitl [HS15]; · iexact HS15
      isplitl [HS16]; · iexact HS16
      isplitl [HS17]; · iexact HS17
      isplitl [HS18]; · iexact HS18
      isplitl [HS19]; · iexact HS19
      isplitl [HS20]; · iexact HS20
      iexact HS21
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · icases H6 with ⟨%X, H⟩
    iexists X; isplitr
    · ipureintro; trivial
    iexact H
  isplitl [H7]
  · icases H7 with ⟨%X, H⟩
    iexists X; isplitr
    · ipureintro; trivial
    iexact H
  isplitl [H8]
  · icases H8 with ⟨%X, H⟩
    iexists X; isplitr
    · ipureintro; trivial
    iexact H
  isplitl [H9]
  · icases H9 with ⟨%X, H⟩
    iexists X; isplitr
    · ipureintro; trivial
    iexact H
  isplitl [H10]
  · iexists _; isplitr
    · ipureintro; exact ⟨f10, rfl⟩
    unfold owns; iexists _; isplitr; swap; · iexact H10
    ipureintro; rfl
  isplitl [H11]
  · iexists _; isplitr
    · ipureintro; exact ⟨f11, rfl⟩
    unfold owns; iexists _; isplitr; swap; · iexact H11
    ipureintro; rfl
  iexists _; isplitr
  · ipureintro; exact ⟨f12, rfl⟩
  unfold owns; iexists _; isplitr; swap; · iexact H12
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    Pipeline.BodyObligationRel (dats (F := F) m 0 c) (defs₀ (F := F)) Variants.none () Set.univ outs (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = Phi c from rfl, PhiA0_eq]

theorem hout (c : Dev nD) : (rdat m c).Φ (Fin.last cfg0.N) ⊢ Pipeline.ΦA spec0 c := by
  rw [show (rdat m c).Φ (Fin.last cfg0.N) = Phi c from rfl, PhiA0_eq]

set_option backward.isDefEq.respectTransparency.types false in
/-- The launch: every execution ends with each array as the pipeline's data say, and every semaphore at zero. -/
theorem run_main :
    θ_run defs (onTc (τ := τ) (main (F := F))) (s₀ m ρ)
      (fun r => Pipeline.RDat.FramePost cfg0 (rdat m) (V m) r ∧ r.2.sem = fun _ => 0) :=
  Pipeline.RDat.θ_run_frame_track_shared (Q' := _) cfgs (0 : Fin 1) launch0.to₀ defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The frame: the arguments end unchanged. -/
theorem frame_of_run (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans ((A_eq m c 0).trans (V_main_arg0 m c)),
    (((h c).2 main_arg1 (Pipeline.mem_restRefs_of main_arg1 (by decide) (by decide)))).trans (V_main_arg1 m c),
    (h.arr_in c 2 rfl).trans ((A_eq m c 2).trans (V_main_arg2 m c)),
    (h.arr_in c 3 rfl).trans ((A_eq m c 3).trans (V_main_arg3 m c))⟩

/-- The frame, from the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => frame_of_run m r h.1 c, h.2⟩) (run_main m ρ)

end Cert.AttnKernelIdeal.Own

end
-- ==== Proof.Attn.Spec.lean ====
/- What the attention call computes of the keys and the values, row by row: the rotated key, and the four-bit codes of a row of 128 numbers with
   their scale and zero point. -/
module

public import Idealize.ShloMosaic.Lib.Pointwise
public import Idealize.ShloMosaic.PureOps

@[expose] public section

set_option maxRecDepth 16384

noncomputable section

open Idealize.ShloMosaic

namespace Cert.KvSpec

/-- The rotary embedding of a head: its two halves as the two coordinates of 64 points turned by the angles. -/
def rot (t : Fin 128 → EReal) (c s : Fin 64 → EReal) (d : Fin 128) : EReal :=
  if h : d.val < 64 then t d * c ⟨d.val, h⟩ - t ⟨d.val + 64, by omega⟩ * s ⟨d.val, h⟩
  else t d * c ⟨d.val - 64, by omega⟩ + t ⟨d.val - 64, by omega⟩ * s ⟨d.val - 64, by omega⟩

/-- The sign of an entry of the Hadamard matrix, as a word. -/
def sgnW (d e : Fin 128) : BitVec 32 :=
  1#32 - 2#32 * (IntOp.ctpop (BitVec.ofNat 32 d.val &&& BitVec.ofNat 32 e.val) &&& 1#32)

/-- The sign of an entry of the Hadamard matrix. -/
def sgn (d e : Fin 128) : EReal := (((sgnW d e).toInt : ℝ) : EReal)

/-- A head times the Hadamard matrix, scaled. -/
def had (t : Fin 128 → EReal) (e : Fin 128) : EReal := (∑ d, t d * sgn d e) * Ideal.ofBits .f32 0x3DB504F3#32

/-- The least value a row's codes reach. -/
def lo (t : Fin 128 → EReal) : EReal :=
  Ideal.ofBits .f32 0x3F733333#32 * Finset.fold min (Ideal.ofBits .f32 0x7F800000#32) t Finset.univ

/-- The greatest value a row's codes reach. -/
def hi (t : Fin 128 → EReal) : EReal :=
  Ideal.ofBits .f32 0x3F733333#32 * Finset.fold max (Ideal.ofBits .f32 0xFF800000#32) t Finset.univ

/-- The scale of a row. -/
def scl (t : Fin 128 → EReal) : EReal :=
  if hi t = lo t then Ideal.ofBits .f32 0x3F800000#32 else Ideal.div (hi t - lo t) (Ideal.ofBits .f32 0x41700000#32)

/-- The code of an entry of a row, as a number. -/
def cod (t : Fin 128 → EReal) (d : Fin 128) : EReal :=
  min (((15#32).toInt : ℝ) : EReal) (max (((0#32).toInt : ℝ) : EReal)
    (Ideal.liftRound Ideal.roundHalfEven (Ideal.div (t d - lo t) (scl t))))

/-- The byte that holds the codes of two neighbours. -/
def byt (t : Fin 128 → EReal) (e : Fin 64) : BitVec 8 :=
  BitVec.setWidth 8 (Ideal.fptosi 32 (cod t ⟨2 * e.val, by omega⟩) ||| Ideal.fptosi 32 (cod t ⟨1 + 2 * e.val, by omega⟩) <<< 4)

/-- A row of the eight statistics of a token: the keys' scale and zero point, the values' scale, and the values' zero point in the rest. -/
def sta (k v : Fin 128 → EReal) (j : Fin 8) : EReal :=
  if j.val = 0 then scl k else if j.val = 1 then lo k else if j.val = 2 then scl v else lo v

/-- A code is a whole number from 0 to 15. -/
theorem cod_nat (t : Fin 128 → EReal) (d : Fin 128) : ∃ n : Fin 16, cod t d = ((n.val : ℝ) : EReal) := by
  have h : ∀ a b : ℤ, a ≤ b → ((a : ℝ) : EReal) ≤ ((b : ℝ) : EReal) := fun a b h => EReal.coe_le_coe_iff.2 (Int.cast_le.2 h)
  have key : ∀ z : ℤ, ∃ n : Fin 16, min (((15 : ℤ) : ℝ) : EReal) (max (((0 : ℤ) : ℝ) : EReal) ((z : ℝ) : EReal)) = ((n.val : ℝ) : EReal) := fun z => by
    by_cases h0 : z ≤ 0
    · refine ⟨0, ?_⟩
      rw [max_eq_left (h z 0 h0), min_eq_right (h 0 15 (by norm_num))]
      simp
    · by_cases h1 : 15 ≤ z
      · refine ⟨⟨15, by norm_num⟩, ?_⟩
        rw [max_eq_right (h 0 z (by omega)), min_eq_left (h 15 z h1)]
        norm_num
      · refine ⟨⟨z.toNat, by omega⟩, ?_⟩
        rw [max_eq_right (h 0 z (by omega)), min_eq_right (h z 15 (by omega))]
        lift z to ℕ using (by omega)
        rfl
  unfold cod
  rw [show (15#32).toInt = 15 from by decide, show (0#32).toInt = 0 from by decide]
  generalize Ideal.div (t d - lo t) (scl t) = x
  induction x with
  | bot =>
    refine ⟨0, ?_⟩
    rw [show Ideal.liftRound Ideal.roundHalfEven ⊥ = ⊥ from rfl, max_eq_left bot_le, min_eq_right (h 0 15 (by norm_num))]
    simp
  | top =>
    refine ⟨⟨15, by norm_num⟩, ?_⟩
    rw [show Ideal.liftRound Ideal.roundHalfEven ⊤ = ⊤ from rfl, max_eq_right le_top, min_eq_left le_top]
    norm_num
  | coe r => exact key (Ideal.roundHalfEven r)

theorem fptosi_nat (n : ℕ) (h : n < 256) : Ideal.fptosi 32 ((n : ℝ) : EReal) = BitVec.ofNat 32 n := by
  have h1 : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = (n : ℤ)
    rw [if_pos (Nat.cast_nonneg n), Int.floor_natCast]
    omega
  unfold Ideal.fptosi
  rw [h1]
  exact BitVec.ofInt_natCast 32 n

/-- The sum of a code and sixteen times another is the byte that holds both. -/
theorem byt_eq (t : Fin 128 → EReal) (e : Fin 64) :
    BitVec.setWidth 8 (Ideal.fptosi 32 (cod t ⟨2 * e.val, by omega⟩ + cod t ⟨1 + 2 * e.val, by omega⟩ * ((16 : ℝ) : EReal))) = byt t e := by
  unfold byt
  obtain ⟨a, ha⟩ := cod_nat t ⟨2 * e.val, by omega⟩
  obtain ⟨b, hb⟩ := cod_nat t ⟨1 + 2 * e.val, by omega⟩
  rw [ha, hb, fptosi_nat a.val (by omega), fptosi_nat b.val (by omega),
    show ((a.val : ℝ) : EReal) + ((b.val : ℝ) : EReal) * ((16 : ℝ) : EReal) = (((a.val + b.val * 16 : ℕ) : ℝ) : EReal) by push_cast; rfl,
    fptosi_nat _ (by omega)]
  clear ha hb
  revert a b
  decide +kernel

end Cert.KvSpec
end
-- ==== Proof.Attn.Block.lean ====
/- What the prologue of the attention kernel computes of the keys and the values of a block of tokens, read at one entry. -/
module

public import proofs.«01_k».proof.Proof.Gen.AttnKernelIdeal.Skeleton
public import proofs.«01_k».proof.Proof.Nibbles
public import proofs.«01_k».proof.Proof.Attn.Spec
public import Idealize.ShloMosaic.Lib.Pointwise

@[expose] public section

set_option maxRecDepth 16384

noncomputable section

open Idealize.ShloMosaic Idealize.ShloMosaic.TcCoe Idealize.SL.Sem

namespace Cert.AttnKernelIdeal.Value
open Cert.AttnKernelIdeal Cert.AttnKernelIdeal.Gen

/-! ## The keys -/

variable (C S : Vec Ideal S256x64 .f32) (q : Vec Ideal S256x128 .f32) (w : Vec Ideal S1x128 .f32) (h : Vec Ideal S128x128 .bf16)

/-- A row of the projections, scaled. -/
def scaled (r : Fin 256) : Fin 128 → EReal := fun d => q (ix2 r d) * w (ix2 0 d)

/-- The rotary embedding of the keys, as the kernel computes it. -/
def turned : FVec Ideal S256x128 .f32 :=
  addf (mulf (mulf q (broadcastTo S256x128 (shapeCast S1x128 w shapeCasts_S1x128_S1x128) broadcasts_S1x128_S256x128)) (k0_pay1771 C))
    (mulf (dynamicRotate 1 64#32 none (mulf q (broadcastTo S256x128 (shapeCast S1x128 w shapeCasts_S1x128_S1x128) broadcasts_S1x128_S256x128)) rotates_S256x128_d1) (k0_pay1772 S))

theorem cos2_at (r : Fin 256) (d : Fin 128) : k0_pay1771 (F := Ideal) C (ix2 r d) = C (ix2 r ⟨d.val % 64, by omega⟩) := by
  by_cases hd : d.val < 64
  · pointwise [k0_pay1771]
    simp [hd, Nat.mod_eq_of_lt hd]
  · pointwise [k0_pay1771]
    have e : d.val % 64 = d.val - 64 := by omega
    simp [hd, e]

theorem sin2_at (r : Fin 256) (d : Fin 128) :
    k0_pay1772 (F := Ideal) S (ix2 r d) = if d.val < 64 then -S (ix2 r ⟨d.val % 64, by omega⟩) else S (ix2 r ⟨d.val % 64, by omega⟩) := by
  by_cases hd : d.val < 64
  · pointwise [k0_pay1772]
    simp [hd, Nat.mod_eq_of_lt hd, Ideal.ofBits_zero_f32]
  · pointwise [k0_pay1772]
    have e : d.val % 64 = d.val - 64 := by omega
    simp [hd, e]

theorem turned_at (r : Fin 256) (d : Fin 128) :
    turned C S q w (ix2 r d) = KvSpec.rot (scaled q w r) (fun x => C (ix2 r x)) (fun x => S (ix2 r x)) d := by
  unfold KvSpec.rot scaled
  split
  · rename_i hd
    pointwise [turned]
    rw [cos2_at, sin2_at, if_pos hd]
    have e1 : d.val % 64 = d.val := Nat.mod_eq_of_lt hd
    have e2 : (d.val + 64) % 128 = d.val + 64 := by omega
    simp [e1, e2, sub_eq_add_neg]
  · rename_i hd
    pointwise [turned]
    rw [cos2_at, sin2_at, if_neg hd]
    have e1 : d.val % 64 = d.val - 64 := by omega
    have e2 : (d.val + 64) % 128 = d.val - 64 := by omega
    simp [e1, e2]

/-- The product with the Hadamard matrix, as the kernel computes it: of the leading part and of two remainders. -/
def parts (x : FVec Ideal S256x128 .f32) : FVec Ideal S256x128 .f32 :=
  have v16 : FVec Ideal S256x128 .bf16 := truncf .bf16 x bitsLt_bf16_f32
  have v18 : FVec Ideal S256x128 .f32 := subf x (extf .f32 v16 bitsLt_bf16_f32)
  have v19 : FVec Ideal S256x128 .bf16 := truncf .bf16 v18 bitsLt_bf16_f32
  have v21 : FVec Ideal S256x128 .f32 := subf v18 (extf .f32 v19 bitsLt_bf16_f32)
  have v22 : FVec Ideal S256x128 .bf16 := truncf .bf16 v21 bitsLt_bf16_f32
  mulf (addf (addf (matmul (φ₂ := .bf16) dot_S256x128_S128x128_S256x128_1_0_0_1_n_n none v22 h (constant S256x128 .f32 0x00000000#32))
      (matmul (φ₂ := .bf16) dot_S256x128_S128x128_S256x128_1_0_0_1_n_n none v19 h (constant S256x128 .f32 0x00000000#32)))
    (matmul (φ₂ := .bf16) dot_S256x128_S128x128_S256x128_1_0_0_1_n_n none v16 h (constant S256x128 .f32 0x00000000#32)))
    (broadcast S256x128 (Scalar.ofBits .f32 0x3DB504F3#32))

theorem pay1773_eq : k0_pay1773 (F := Ideal) C S q w h = parts h (turned C S q w) := rfl

theorem sub_self_real {x : EReal} (hx : ∃ a : ℝ, x = a) : x - x = 0 := by
  obtain ⟨a, rfl⟩ := hx
  rw [← EReal.coe_sub, sub_self]; rfl

theorem parts_at (x : FVec Ideal S256x128 .f32) (r : Fin 256) (e : Fin 128) (hx : ∀ d : Fin 128, ∃ a : ℝ, x (ix2 r d) = a)
    (hh : ∀ d e : Fin 128, h (ix2 d e) = KvSpec.sgn d e) : parts h x (ix2 r e) = KvSpec.had (fun d => x (ix2 r d)) e := by
  have hs : ∀ d : Fin 128, x (ix2 r d) - x (ix2 r d) = 0 := fun d => sub_self_real (hx d)
  pointwise [parts, KvSpec.had]
  simp only [hs, hh, sub_zero, zero_mul, Finset.sum_const_zero, Ideal.ofBits_zero_f32, zero_add, add_zero, sub_self]

/-! ## The quantiser -/

section
variable (k : FVec Ideal S256x128 .f32)

/-- A row of a block of 128 columns. -/
def row (r : Fin 256) : Fin 128 → EReal := fun d => k (ix2 r d)

theorem pay1774_at (r : Fin 256) : k0_pay1774 (F := Ideal) C S q w h (ix2 r 0) = KvSpec.lo (row (k0_pay1773 C S q w h) r) := by
  pointwise [k0_pay1774, KvSpec.lo, row]

theorem pay1775_at (r : Fin 256) : k0_pay1775 (F := Ideal) C S q w h (ix2 r 0) = KvSpec.hi (row (k0_pay1773 C S q w h) r) := by
  pointwise [k0_pay1775, KvSpec.hi, row]

theorem pay1776_at (lo hi : FVec Ideal S256x1 .f32) (r : Fin 256) (hl : lo (ix2 r 0) = KvSpec.lo (row k r)) (hh : hi (ix2 r 0) = KvSpec.hi (row k r)) :
    k0_pay1776 (F := Ideal) lo hi (ix2 r 0) = KvSpec.scl (row k r) := by
  pointwise [k0_pay1776, KvSpec.scl]
  rw [hl, hh]

theorem pay1777_at (lo hi : FVec Ideal S256x1 .f32) (r : Fin 256) (d : Fin 128) (hl : lo (ix2 r 0) = KvSpec.lo (row k r)) (hh : hi (ix2 r 0) = KvSpec.hi (row k r)) :
    k0_pay1777 (F := Ideal) k lo hi (ix2 r d) = KvSpec.cod (row k r) d := by
  pointwise [k0_pay1777, KvSpec.cod]
  rw [pay1776_at k lo hi r hl hh, hl]
  rfl

theorem pay1778_at (r : Fin 256) : row (k0_pay1778 (F := Ideal) q w) r = scaled q w r := by
  funext d
  pointwise [row, scaled, k0_pay1778]

theorem pay1779_at (r : Fin 256) : k0_pay1779 (F := Ideal) q w (ix2 r 0) = KvSpec.lo (scaled q w r) := by
  rw [← pay1778_at]
  pointwise [k0_pay1779, KvSpec.lo, row]

theorem pay1780_at (r : Fin 256) : k0_pay1780 (F := Ideal) q w (ix2 r 0) = KvSpec.scl (scaled q w r) := by
  pointwise [k0_pay1780, KvSpec.scl]
  rw [pay1779_at, ← pay1778_at]
  unfold KvSpec.hi
  rfl

theorem pay1782_at (r : Fin 256) (d : Fin 128) :
    k0_pay1782 (F := Ideal) 15#32 (k0_pay1781 q w) (ix2 r d) = KvSpec.cod (scaled q w r) d := by
  pointwise [k0_pay1782, k0_pay1781, KvSpec.cod]
  rw [pay1779_at, pay1780_at, ← pay1778_at]
  rfl

end

/-! ## The bytes -/

/-- The packing matrix: an even code counts once, an odd one sixteen times. -/
def Packs (p : Vec Ideal S128x64 .bf16) : Prop :=
  ∀ (d : Fin 128) (e : Fin 64), p (ix2 d e) = if d.val / 2 = e.val then (if d.val % 2 = 0 then 1 else ((16 : ℝ) : EReal)) else 0

theorem pack_sum (p : Vec Ideal S128x64 .bf16) (hp : Packs p) (f : Fin 128 → EReal) (e : Fin 64) :
    ∑ d : Fin 128, f d * p (ix2 d e) = f ⟨2 * e.val, by omega⟩ + f ⟨1 + 2 * e.val, by omega⟩ * ((16 : ℝ) : EReal) := by
  rw [Nibbles.sum_even_odd 64 128 rfl]
  congr 1
  · rw [Finset.sum_eq_single e]
    · rw [hp, if_pos (by show 2 * e.val / 2 = e.val; omega), if_pos (by show 2 * e.val % 2 = 0; omega), mul_one]
    · intro b _ hb
      rw [hp, if_neg (fun hc => hb (Fin.ext (by have hc' : 2 * b.val / 2 = e.val := hc; omega))), mul_zero]
    · exact fun hn => absurd (Finset.mem_univ _) hn
  · rw [Finset.sum_eq_single e]
    · rw [hp, if_pos (by show (1 + 2 * e.val) / 2 = e.val; omega), if_neg (by show ¬ (1 + 2 * e.val) % 2 = 0; omega)]
    · intro b _ hb
      rw [hp, if_neg (fun hc => hb (Fin.ext (by have hc' : (1 + 2 * b.val) / 2 = e.val := hc; omega))), mul_zero]
    · exact fun hn => absurd (Finset.mem_univ _) hn

theorem pay1783_at (x : FVec Ideal S256x128 .f32) (p : Vec Ideal S128x64 .bf16) (hp : Packs p) (t : Fin 128 → EReal) (r : Fin 256)
    (hx : ∀ d : Fin 128, x (ix2 r d) = KvSpec.cod t d) (e : Fin 64) : k0_pay1783 (F := Ideal) x p (ix2 r e) = KvSpec.byt t e := by
  rw [← KvSpec.byt_eq, ← pack_sum p hp]
  pointwise [k0_pay1783]
  simp only [hx, Ideal.ofBits_zero_f32, zero_add]
  rfl

theorem pay1784_eq (x : FVec Ideal S256x128 .f32) (p : Vec Ideal S128x64 .bf16) :
    k0_pay1784 (F := Ideal) 15#32 x p = k0_pay1783 (k0_pay1782 15#32 x) p := rfl

/-! ## The statistics -/

theorem pay1790_at (ks kz vz vs : FVec Ideal S256x1 .f32) (k v : Fin 128 → EReal) (r : Fin 256)
    (h1 : ks (ix2 r 0) = KvSpec.scl k) (h2 : kz (ix2 r 0) = KvSpec.lo k) (h3 : vs (ix2 r 0) = KvSpec.scl v) (h4 : vz (ix2 r 0) = KvSpec.lo v) (j : Fin 8) :
    k0_pay1790 (F := Ideal) ks k0_pay1787 (k0_pay1788 kz vz vs) (ix3 0 j r) = KvSpec.sta k v j := by
  fin_cases j <;> (pointwise [k0_pay1790, k0_pay1789, k0_pay1788, k0_pay1787, KvSpec.sta]; simp [h1, h2, h3, h4]; try rfl)

end Cert.AttnKernelIdeal.Value
end
-- ==== Proof.Attn.Loads.lean ====
/- What a grid step of the attention kernel loads, and the terms it stores of the keys and the values. -/
module

public import proofs.«01_k».proof.Proof.Attn.Launch
public import proofs.«01_k».proof.Proof.Attn.Block
public import Idealize.ShloMosaic.Lib.WholeRead
public import Idealize.ShloMosaic.Lib.Pipeline.ValueKit
public import Idealize.ShloMosaic.Lib.Pointwise
public import Idealize.ShloMosaic.Lib.Claim

@[expose] public section

set_option maxRecDepth 16384

noncomputable section

namespace Cert.AttnKernelIdeal.Own

open Cert.AttnKernelIdeal.Gen Cert.AttnKernelIdeal.Value
open Idealize.ShloMosaic Idealize.ShloMosaic.TcCoe Idealize.SL.Sem

/-- Which block of each array a grid step sees: rows `256 t` on of the projections and the angles, the constants whole. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_10.index t = ![t.val, 0] ∧ win0_11.index t = ![t.val, 0]
    ∧ win0_12.index t = ![t.val / 6, 0, t.val % 6] :=
  (by decide +kernel : ∀ t : Fin grid0.N, _)

theorem lt12 (t : Fin cfg0.N) : t.val < 12 := lt_of_lt_of_eq t.isLt N_0

variable (m : (ℓ : Loc nD τ sig) → Buf (Elt Ideal) ℓ) (c : Dev nD) (t : Fin cfg0.N)

/-- The arguments a core starts with. -/
abbrev argQ : FVec Ideal S3072x2304 .f32 := m ((c : Thread nD τ).loc main_arg0)
abbrev argW : FVec Ideal S2304 .f32 := m ((c : Thread nD τ).loc main_arg1)
abbrev argC : FVec Ideal S3072x64 .f32 := m ((c : Thread nD τ).loc main_arg2)
abbrev argS : FVec Ideal S3072x64 .f32 := m ((c : Thread nD τ).loc main_arg3)

/-! ## The blocks a grid step sees -/

theorem blk0 (R : Fin 3072) (r : Fin 256) (x : Fin 2304) (hR : R.val = 256 * t.val + r.val) :
    (show FVec Ideal S256x2304 .f32 from iblk m c 0 t) (ix2 r x) = argQ m c (ix2 R x) := by
  blk_point [iblk, V, idx t]
  all_goals omega

theorem blk1 (x : Fin 2304) : (show FVec Ideal S1x2304 .f32 from iblk m c 1 t) (ix2 0 x) = argW m c (ix1 x) := by
  blk_point [iblk, V, idx t]

theorem blk2 (R : Fin 3072) (r : Fin 256) (x : Fin 64) (hR : R.val = 256 * t.val + r.val) :
    (show FVec Ideal S256x64 .f32 from iblk m c 2 t) (ix2 r x) = argC m c (ix2 R x) := by
  blk_point [iblk, V, idx t]
  all_goals omega

theorem blk3 (R : Fin 3072) (r : Fin 256) (x : Fin 64) (hR : R.val = 256 * t.val + r.val) :
    (show FVec Ideal S256x64 .f32 from iblk m c 3 t) (ix2 r x) = argS m c (ix2 R x) := by
  blk_point [iblk, V, idx t]
  all_goals omega

theorem blk4 (d e : Fin 256) : (show FVec Ideal S256x256 .bf16 from iblk m c 4 t) (ix2 d e)
    = Ideal.ofBits .bf16 (lit0 (S256x256.rowMajor (ix2 d e))) := by
  blk_point [iblk, V, idx t]

theorem blk5 (d : Fin 128) (e : Fin 64) : (show FVec Ideal S128x64 .bf16 from iblk m c 5 t) (ix2 d e)
    = Ideal.ofBits .bf16 (lit1 (S128x64.rowMajor (ix2 d e))) := by
  blk_point [iblk, V, idx t]

/-! ## The loads -/

abbrev ldC := View.readAt (Elt Ideal) (win0_2.stage (cfg0.slots t 2)).view (Rect.unit (s := S256x64) ![0, 0] S256x64.size inb_S256x64_S256x64_0_0).toLoadRect ((hstage0_2 ((cfg0.slots t 2).cast nbuf0_2)).unread (iblk m c 2 t))
abbrev ldS := View.readAt (Elt Ideal) (win0_3.stage (cfg0.slots t 3)).view (Rect.unit (s := S256x64) ![0, 0] S256x64.size inb_S256x64_S256x64_0_0).toLoadRect ((hstage0_3 ((cfg0.slots t 3).cast nbuf0_3)).unread (iblk m c 3 t))
abbrev ldK := View.readAt (Elt Ideal) (win0_0.stage (cfg0.slots t 0)).view (Rect.unit (s := S256x2304) ![0, 2048] S256x128.size inb_S256x2304_S256x128_0_2048).toLoadRect ((hstage0_0 ((cfg0.slots t 0).cast nbuf0_0)).unread (iblk m c 0 t))
abbrev ldV := View.readAt (Elt Ideal) (win0_0.stage (cfg0.slots t 0)).view (Rect.unit (s := S256x2304) ![0, 2176] S256x128.size inb_S256x2304_S256x128_0_2176).toLoadRect ((hstage0_0 ((cfg0.slots t 0).cast nbuf0_0)).unread (iblk m c 0 t))
abbrev ldWK := View.readAt (Elt Ideal) (win0_1.stage (cfg0.slots t 1)).view (Rect.unit (s := S1x2304) ![0, 2048] S1x128.size inb_S1x2304_S1x128_0_2048).toLoadRect ((hstage0_1 ((cfg0.slots t 1).cast nbuf0_1)).unread (iblk m c 1 t))
abbrev ldWV := View.readAt (Elt Ideal) (win0_1.stage (cfg0.slots t 1)).view (Rect.unit (s := S1x2304) ![0, 2176] S1x128.size inb_S1x2304_S1x128_0_2176).toLoadRect ((hstage0_1 ((cfg0.slots t 1).cast nbuf0_1)).unread (iblk m c 1 t))
abbrev ldH := View.readAt (Elt Ideal) (win0_4.stage (cfg0.slots t 4)).view (Rect.unit (s := S256x256) ![0, 0] S128x128.size inb_S256x256_S128x128_0_0).toLoadRect ((hstage0_4 ((cfg0.slots t 4).cast nbuf0_4)).unread (iblk m c 4 t))
abbrev ldP := View.readAt (Elt Ideal) (win0_5.stage (cfg0.slots t 5)).view (Rect.unit (s := S128x64) ![0, 0] S128x64.size inb_S128x64_S128x64_0_0).toLoadRect ((hstage0_5 ((cfg0.slots t 5).cast nbuf0_5)).unread (iblk m c 5 t))

theorem ix_ext {n0 n1 : ℕ} {i j : (⟨2, ![n0, n1]⟩ : Shape).Idx} (h0 : (i 0).val = (j 0).val) (h1 : (i 1).val = (j 1).val) : i = j := by
  rw [eq_ix2 i, eq_ix2 j, Fin.ext h0, Fin.ext h1]

theorem ldC_at (r : Fin 256) (x : Fin 64) : ldC m c t (ix2 r x) = (show FVec Ideal S256x64 .f32 from iblk m c 2 t) (ix2 r x) :=
  ((hstage0_2 ((cfg0.slots t 2).cast nbuf0_2)).readAt_unread _ _ _).trans (congrArg (show FVec Ideal S256x64 .f32 from iblk m c 2 t)
    (ix_ext (by show 0 + 1 * r.val = r.val; omega) (by show 0 + 1 * x.val = x.val; omega)))
theorem ldS_at (r : Fin 256) (x : Fin 64) : ldS m c t (ix2 r x) = (show FVec Ideal S256x64 .f32 from iblk m c 3 t) (ix2 r x) :=
  ((hstage0_3 ((cfg0.slots t 3).cast nbuf0_3)).readAt_unread _ _ _).trans (congrArg (show FVec Ideal S256x64 .f32 from iblk m c 3 t)
    (ix_ext (by show 0 + 1 * r.val = r.val; omega) (by show 0 + 1 * x.val = x.val; omega)))
theorem ldK_at (r : Fin 256) (x : Fin 128) : ldK m c t (ix2 r x) = (show FVec Ideal S256x2304 .f32 from iblk m c 0 t) (ix2 r ⟨2048 + x.val, by omega⟩) :=
  ((hstage0_0 ((cfg0.slots t 0).cast nbuf0_0)).readAt_unread _ _ _).trans (congrArg (show FVec Ideal S256x2304 .f32 from iblk m c 0 t)
    (ix_ext (by show 0 + 1 * r.val = r.val; omega) (by show 2048 + 1 * x.val = 2048 + x.val; omega)))
theorem ldV_at (r : Fin 256) (x : Fin 128) : ldV m c t (ix2 r x) = (show FVec Ideal S256x2304 .f32 from iblk m c 0 t) (ix2 r ⟨2176 + x.val, by omega⟩) :=
  ((hstage0_0 ((cfg0.slots t 0).cast nbuf0_0)).readAt_unread _ _ _).trans (congrArg (show FVec Ideal S256x2304 .f32 from iblk m c 0 t)
    (ix_ext (by show 0 + 1 * r.val = r.val; omega) (by show 2176 + 1 * x.val = 2176 + x.val; omega)))
theorem ldWK_at (x : Fin 128) : ldWK m c t (ix2 0 x) = (show FVec Ideal S1x2304 .f32 from iblk m c 1 t) (ix2 0 ⟨2048 + x.val, by omega⟩) :=
  ((hstage0_1 ((cfg0.slots t 1).cast nbuf0_1)).readAt_unread _ _ _).trans (congrArg (show FVec Ideal S1x2304 .f32 from iblk m c 1 t)
    (ix_ext (by rfl) (by show 2048 + 1 * x.val = 2048 + x.val; omega)))
theorem ldWV_at (x : Fin 128) : ldWV m c t (ix2 0 x) = (show FVec Ideal S1x2304 .f32 from iblk m c 1 t) (ix2 0 ⟨2176 + x.val, by omega⟩) :=
  ((hstage0_1 ((cfg0.slots t 1).cast nbuf0_1)).readAt_unread _ _ _).trans (congrArg (show FVec Ideal S1x2304 .f32 from iblk m c 1 t)
    (ix_ext (by rfl) (by show 2176 + 1 * x.val = 2176 + x.val; omega)))
theorem ldH_at (d e : Fin 128) : ldH m c t (ix2 d e) = (show FVec Ideal S256x256 .bf16 from iblk m c 4 t) (ix2 ⟨d.val, by omega⟩ ⟨e.val, by omega⟩) :=
  ((hstage0_4 ((cfg0.slots t 4).cast nbuf0_4)).readAt_unread _ _ _).trans (congrArg (show FVec Ideal S256x256 .bf16 from iblk m c 4 t)
    (ix_ext (by show 0 + 1 * d.val = d.val; omega) (by show 0 + 1 * e.val = e.val; omega)))
theorem ldP_at (d : Fin 128) (e : Fin 64) : ldP m c t (ix2 d e) = (show FVec Ideal S128x64 .bf16 from iblk m c 5 t) (ix2 d e) :=
  ((hstage0_5 ((cfg0.slots t 5).cast nbuf0_5)).readAt_unread _ _ _).trans (congrArg (show FVec Ideal S128x64 .bf16 from iblk m c 5 t)
    (ix_ext (by show 0 + 1 * d.val = d.val; omega) (by show 0 + 1 * e.val = e.val; omega)))

/-! ## The keys of a grid step -/

/-- The keys of block `t`. -/
abbrev keyBlk : FVec Ideal S256x128 .f32 := k0_pay1773 (ldC m c t) (ldS m c t) (ldK m c t) (ldWK m c t) (ldH m c t)
abbrev keyLo : FVec Ideal S256x1 .f32 := k0_pay1774 (ldC m c t) (ldS m c t) (ldK m c t) (ldWK m c t) (ldH m c t)
abbrev keyHi : FVec Ideal S256x1 .f32 := k0_pay1775 (ldC m c t) (ldS m c t) (ldK m c t) (ldWK m c t) (ldH m c t)

/-! ## The stores -/

/-- A buffer after one store of a whole array reads that array. -/
theorem whole_read {s : Shape} {e : EltTy} (arg : Memref sig .tc .vmem s e) (f) (off : Fin s.rank → ℕ) (inb : ∀ a, off a + s.size a ≤ s.size a)
    (hR : ∀ i : s.Idx, (Rect.unit (s := s) off s.size inb).emb i = i) (w : s.Idx → Elt Ideal e) (i : s.Idx) :
    arg.view.read (Elt Ideal) (arg.view.writes (Elt Ideal) f [⟨Rect.unit (s := s) off s.size inb, w⟩]) i = w i := by
  refine View.read_writes_apply_of_pieces _ _ w _ ?_ _ ?_
  · intro p hp x
    obtain rfl := List.mem_singleton.1 hp
    exact congrArg w (hR x).symm
  · refine ⟨_, List.mem_singleton.2 rfl, ?_⟩
    rw [← Rect.map_emb_univ]
    exact Finset.mem_map.2 ⟨i, Finset.mem_univ _, hR i⟩

theorem emb64 (i : S256x64.Idx) : (Rect.unit (s := S256x64) ![0, 0] S256x64.size inb_S256x64_S256x64_0_0).emb i = i :=
  ix_ext (by show 0 + 1 * (i 0).val = (i 0).val; omega) (by show 0 + 1 * (i 1).val = (i 1).val; omega)

theorem emb8 (i : S1x8x256.Idx) : (Rect.unit (s := S1x8x256) ![0, 0, 0] S1x8x256.size inb_S1x8x256_S1x8x256_0_0_0).emb i = i := by
  funext a
  apply Fin.ext
  fin_cases a
  · show 0 + 1 * (i 0).val = (i 0).val; omega
  · show 0 + 1 * (i 1).val = (i 1).val; omega
  · show 0 + 1 * (i 2).val = (i 2).val; omega

set_option maxHeartbeats 4000000 in
theorem pieces10 : (runAt m c t).1 = [⟨Rect.unit (s := S256x64) ![0, 0] S256x64.size inb_S256x64_S256x64_0_0,
    k0_pay1783 (k0_pay1777 (keyBlk m c t) (keyLo m c t) (keyHi m c t)) (ldP m c t)⟩] := by rfl

set_option maxHeartbeats 4000000 in
theorem pieces11 : (runAt m c t).2.1 = [⟨Rect.unit (s := S256x64) ![0, 0] S256x64.size inb_S256x64_S256x64_0_0,
    k0_pay1784 15#32 (k0_pay1781 (ldV m c t) (ldWV m c t)) (ldP m c t)⟩] := by rfl

set_option maxHeartbeats 4000000 in
theorem pieces12 : (runAt m c t).2.2.1 = [⟨Rect.unit (s := S1x8x256) ![0, 0, 0] S1x8x256.size inb_S1x8x256_S1x8x256_0_0_0,
    k0_pay1790 (k0_pay1776 (keyLo m c t) (keyHi m c t)) k0_pay1787 (k0_pay1788 (keyLo m c t) (k0_pay1779 (ldV m c t) (ldWV m c t)) (k0_pay1780 (ldV m c t) (ldWV m c t)))⟩] := by rfl

end Cert.AttnKernelIdeal.Own

end
-- ==== Proof.Attn.Lits.Sign.lean ====
/- What an entry of the Hadamard constant of the attention kernel should be. -/
module

public import proofs.«01_k».proof.AttnKernelIdeal
public import proofs.«01_k».proof.Proof.Attn.Spec

@[expose] public section

set_option maxRecDepth 65536

noncomputable section

open Idealize.ShloMosaic

namespace Cert.AttnKernelIdeal.Value
open Cert.AttnKernelIdeal

/-- An entry of the leading quarter of the first constant is the sign that the Hadamard matrix has there. -/
abbrev Sign (d e : Fin 128) : Prop :=
  (KvSpec.sgnW d e = 1#32 ∧ lit0 ⟨256 * d.val + e.val, by omega⟩ = 0x3F80#16) ∨ (KvSpec.sgnW d e = -1#32 ∧ lit0 ⟨256 * d.val + e.val, by omega⟩ = 0xBF80#16)

end Cert.AttnKernelIdeal.Value
end
-- ==== Proof.Attn.Lits.Rows0.lean ====
/- Rows 0 to 31 of the Hadamard constant, looked up sixteen at a time. -/
module

public import proofs.«01_k».proof.Proof.Attn.Lits.Sign

@[expose] public section

set_option maxRecDepth 65536

noncomputable section

open Idealize.ShloMosaic

namespace Cert.AttnKernelIdeal.Value
open Cert.AttnKernelIdeal

theorem signs0 : ∀ (r : Fin 16) (e : Fin 128), Sign ⟨16 * 0 + r.val, by omega⟩ e := by decide +kernel
theorem signs1 : ∀ (r : Fin 16) (e : Fin 128), Sign ⟨16 * 1 + r.val, by omega⟩ e := by decide +kernel

end Cert.AttnKernelIdeal.Value
end
-- ==== Proof.Attn.Lits.Rows32.lean ====
/- Rows 32 to 63 of the Hadamard constant, looked up sixteen at a time. -/
module

public import proofs.«01_k».proof.Proof.Attn.Lits.Sign

@[expose] public section

set_option maxRecDepth 65536

noncomputable section

open Idealize.ShloMosaic

namespace Cert.AttnKernelIdeal.Value
open Cert.AttnKernelIdeal

theorem signs2 : ∀ (r : Fin 16) (e : Fin 128), Sign ⟨16 * 2 + r.val, by omega⟩ e := by decide +kernel
theorem signs3 : ∀ (r : Fin 16) (e : Fin 128), Sign ⟨16 * 3 + r.val, by omega⟩ e := by decide +kernel

end Cert.AttnKernelIdeal.Value
end
-- ==== Proof.Attn.Lits.Rows64.lean ====
/- Rows 64 to 95 of the Hadamard constant, looked up sixteen at a time. -/
module

public import proofs.«01_k».proof.Proof.Attn.Lits.Sign

@[expose] public section

set_option maxRecDepth 65536

noncomputable section

open Idealize.ShloMosaic

namespace Cert.AttnKernelIdeal.Value
open Cert.AttnKernelIdeal

theorem signs4 : ∀ (r : Fin 16) (e : Fin 128), Sign ⟨16 * 4 + r.val, by omega⟩ e := by decide +kernel
theorem signs5 : ∀ (r : Fin 16) (e : Fin 128), Sign ⟨16 * 5 + r.val, by omega⟩ e := by decide +kernel

end Cert.AttnKernelIdeal.Value
end
-- ==== Proof.Attn.Lits.Rows96.lean ====
/- Rows 96 to 127 of the Hadamard constant, looked up sixteen at a time. -/
module

public import proofs.«01_k».proof.Proof.Attn.Lits.Sign

@[expose] public section

set_option maxRecDepth 65536

noncomputable section

open Idealize.ShloMosaic

namespace Cert.AttnKernelIdeal.Value
open Cert.AttnKernelIdeal

theorem signs6 : ∀ (r : Fin 16) (e : Fin 128), Sign ⟨16 * 6 + r.val, by omega⟩ e := by decide +kernel
theorem signs7 : ∀ (r : Fin 16) (e : Fin 128), Sign ⟨16 * 7 + r.val, by omega⟩ e := by decide +kernel

end Cert.AttnKernelIdeal.Value
end
-- ==== Proof.Attn.Lits.Pack.lean ====
/- The entries of the packing constant of the attention kernel. -/
module

public import proofs.«01_k».proof.AttnKernelIdeal

@[expose] public section

set_option maxRecDepth 65536

noncomputable section

open Idealize.ShloMosaic

namespace Cert.AttnKernelIdeal.Value
open Cert.AttnKernelIdeal

/-- The second constant holds one and sixteen where a code goes into its byte, and zero elsewhere. -/
theorem lit1_at : ∀ (d : Fin 128) (e : Fin 64), lit1 ⟨64 * d.val + e.val, by omega⟩
    = if d.val / 2 = e.val then (if d.val % 2 = 0 then 0x3F80#16 else 0x4180#16) else 0x0000#16 := by
  decide +kernel

end Cert.AttnKernelIdeal.Value
end
-- ==== Proof.Attn.Lits.All.lean ====
/- The entries of the two constant matrices that the attention kernel is given. -/
module

public import proofs.«01_k».proof.Proof.Attn.Lits.Rows0
public import proofs.«01_k».proof.Proof.Attn.Lits.Rows32
public import proofs.«01_k».proof.Proof.Attn.Lits.Rows64
public import proofs.«01_k».proof.Proof.Attn.Lits.Rows96
public import proofs.«01_k».proof.Proof.Attn.Lits.Pack

@[expose] public section

set_option maxRecDepth 65536

noncomputable section

open Idealize.ShloMosaic

namespace Cert.AttnKernelIdeal.Value
open Cert.AttnKernelIdeal

/-- Rows of the same number have the same signs. -/
theorem Sign.of_eq {d d' e : Fin 128} (h : d'.val = d.val) (s : Sign d' e) : Sign d e := by
  have hd : d' = d := Fin.ext h
  subst hd
  exact s

/-- The leading quarter of the first constant holds the signs of the Hadamard matrix. -/
theorem lit0_at (d e : Fin 128) : Sign d e := by
  have hr : d.val % 16 < 16 := Nat.mod_lt _ (by decide)
  have hd : d.val / 16 = 0 ∨ d.val / 16 = 1 ∨ d.val / 16 = 2 ∨ d.val / 16 = 3 ∨ d.val / 16 = 4 ∨ d.val / 16 = 5 ∨ d.val / 16 = 6 ∨ d.val / 16 = 7 := by omega
  rcases hd with h | h | h | h | h | h | h | h
  · exact Sign.of_eq (d' := ⟨16 * 0 + d.val % 16, by omega⟩) (by show 16 * 0 + d.val % 16 = d.val; omega) (signs0 ⟨d.val % 16, hr⟩ e)
  · exact Sign.of_eq (d' := ⟨16 * 1 + d.val % 16, by omega⟩) (by show 16 * 1 + d.val % 16 = d.val; omega) (signs1 ⟨d.val % 16, hr⟩ e)
  · exact Sign.of_eq (d' := ⟨16 * 2 + d.val % 16, by omega⟩) (by show 16 * 2 + d.val % 16 = d.val; omega) (signs2 ⟨d.val % 16, hr⟩ e)
  · exact Sign.of_eq (d' := ⟨16 * 3 + d.val % 16, by omega⟩) (by show 16 * 3 + d.val % 16 = d.val; omega) (signs3 ⟨d.val % 16, hr⟩ e)
  · exact Sign.of_eq (d' := ⟨16 * 4 + d.val % 16, by omega⟩) (by show 16 * 4 + d.val % 16 = d.val; omega) (signs4 ⟨d.val % 16, hr⟩ e)
  · exact Sign.of_eq (d' := ⟨16 * 5 + d.val % 16, by omega⟩) (by show 16 * 5 + d.val % 16 = d.val; omega) (signs5 ⟨d.val % 16, hr⟩ e)
  · exact Sign.of_eq (d' := ⟨16 * 6 + d.val % 16, by omega⟩) (by show 16 * 6 + d.val % 16 = d.val; omega) (signs6 ⟨d.val % 16, hr⟩ e)
  · exact Sign.of_eq (d' := ⟨16 * 7 + d.val % 16, by omega⟩) (by show 16 * 7 + d.val % 16 = d.val; omega) (signs7 ⟨d.val % 16, hr⟩ e)

end Cert.AttnKernelIdeal.Value
end
-- ==== Proof.Attn.Pre.lean ====
/- What the precondition on the attention call's arguments says of one entry: it is a real number. -/
module

public import proofs.«01_k».proof.Pre_finite
public import proofs.«01_k».proof.Proof.Attn.Spec
public import Idealize.ShloMosaic.Lib.Pointwise

@[expose] public section

set_option maxRecDepth 16384

noncomputable section

open Idealize.ShloMosaic

namespace Cert.Pre_finite

/-- The side conditions of the precondition's function. -/
theorem facts : Facts where
  bcast_S_S3072x2304 := by decide
  bcast_S_S2304 := by decide
  bcast_S_S3072x64 := by decide

/-- A number whose absolute value is below infinity is real. -/
theorem real_of_lt (x : EReal) (h : BitVec.ofBool (decide (max x (-x) < Ideal.ofBits .f32 0x7F800000#32)) = 1#1) : ∃ a : ℝ, x = a := by
  induction x with
  | bot => simp [Ideal.ofBits, Ideal.ieee] at h
  | top => simp [Ideal.ofBits, Ideal.ieee] at h
  | coe a => exact ⟨a, rfl⟩

/-- The rotary embedding of real numbers is real. -/
theorem rot_real {t : Fin 128 → EReal} {c s : Fin 64 → EReal} (ht : ∀ d, ∃ a : ℝ, t d = a) (hc : ∀ x, ∃ a : ℝ, c x = a) (hs : ∀ x, ∃ a : ℝ, s x = a)
    (d : Fin 128) : ∃ a : ℝ, KvSpec.rot t c s d = a := by
  choose ft ht using ht
  choose fc hc using hc
  choose fs hs using hs
  unfold KvSpec.rot
  split
  · rw [ht, ht, hc, hs, ← EReal.coe_mul, ← EReal.coe_mul, ← EReal.coe_sub]
    exact ⟨_, rfl⟩
  · rw [ht, ht, hc, hs, ← EReal.coe_mul, ← EReal.coe_mul, ← EReal.coe_add]
    exact ⟨_, rfl⟩

end Cert.Pre_finite
end
-- ==== Proof.Attn.Reference.lean ====
/- What the reference of the attention call's keys and values computes, read at one entry. -/
module

public import proofs.«01_k».proof.Proof.Gen.AttnReferenceIdeal.Run
public import proofs.«01_k».proof.Proof.Nibbles
public import proofs.«01_k».proof.Proof.Attn.Spec
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.AttnReferenceIdeal.Value
open Cert.AttnReferenceIdeal Cert.AttnReferenceIdeal.Gen

variable (Q : FVec Ideal S3072x2304 .f32) (W : FVec Ideal S2304 .f32) (C S : FVec Ideal S3072x64 .f32)

/-! ## The reference's results as terms over its four arguments -/

/-- The scaled projections. -/
def proj : FVec Ideal S3072x2304 .f32 :=
  mulf Q (broadcastInDim S3072x2304 ![0, 1] bcast_S1x2304_S3072x2304_0_1 (broadcastInDim S1x2304 ![1] bcast_S2304_S1x2304_1 W))

/-- The keys before the rotations. -/
def key0 : FVec Ideal S3072x128 .f32 := extractStridedSlice S3072x128 ![0, 2048] (proj Q W) slices_S3072x2304_S3072x128_0_2048

/-- The rotary embedding of the keys. -/
def key1 : FVec Ideal S3072x128 .f32 :=
  concatenate S3072x128 1 [⟨S3072x64, (subf (mulf (extractStridedSlice S3072x64 ![0, 0] (key0 Q W) slices_S3072x128_S3072x64_0_0) C) (mulf (extractStridedSlice S3072x64 ![0, 64] (key0 Q W) slices_S3072x128_S3072x64_0_64) S))⟩, ⟨S3072x64, (addf (mulf (extractStridedSlice S3072x64 ![0, 64] (key0 Q W) slices_S3072x128_S3072x64_0_64) C) (mulf (extractStridedSlice S3072x64 ![0, 0] (key0 Q W) slices_S3072x128_S3072x64_0_0) S))⟩] concatenates_S3072x64_S3072x64_S3072x128_d1

/-- The Hadamard matrix. -/
def hmat : FVec Ideal S128x128 .f32 :=
  sitofp .f32 (subi (broadcastInDim S128x128 ![] bcast_S_S128x128 (constantI S_ 32 1#32)) (muli (broadcastInDim S128x128 ![] bcast_S_S128x128 (constantI S_ 32 2#32)) (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32)))))

/-- The keys. -/
def keys : FVec Ideal S3072x128 .f32 :=
  mulf (Host.dotGeneral dot_S3072x128_S128x128_S3072x128_1_0_0_1_n_n none (key1 Q W C S) hmat) (broadcastInDim S3072x128 ![] bcast_S_S3072x128 (constant S_ .f32 0x3DB504F3#32))

/-- The values. -/
def vals : FVec Ideal S3072x128 .f32 := extractStridedSlice S3072x128 ![0, 2176] (proj Q W) slices_S3072x2304_S3072x128_0_2176

variable (t : FVec Ideal S3072x128 .f32)

/-- The zero points of the rows of `t`. -/
def los : FVec Ideal S3072 .f32 :=
  mulf (broadcastInDim S3072 ![] bcast_S_S3072 (constant S_ .f32 0x3F733333#32)) (Host.reduce FloatOps.minimumf t (constant S_ .f32 0x7F800000#32) reducesTo_S3072x128_S3072_d1 h_S_)

/-- The upper ends of the rows of `t`. -/
def his : FVec Ideal S3072 .f32 :=
  mulf (broadcastInDim S3072 ![] bcast_S_S3072 (constant S_ .f32 0x3F733333#32)) (Host.reduce FloatOps.maximumf t (constant S_ .f32 0xFF800000#32) reducesTo_S3072x128_S3072_d1 h_S_)

/-- The scales of the rows of `t`. -/
def scls : FVec Ideal S3072 .f32 :=
  select (cmpf .oeq (his t) (los t)) (broadcastInDim S3072 ![] bcast_S_S3072 (id (constant S_ .f32 0x3F800000#32))) (Host.divf (subf (his t) (los t)) (broadcastInDim S3072 ![] bcast_S_S3072 (constant S_ .f32 0x41700000#32)))

/-- The codes of the rows of `t`, as numbers. -/
def cods : FVec Ideal S3072x128 .f32 :=
  minimumf (broadcastInDim S3072x128 ![] bcast_S_S3072x128 (sitofp .f32 (constantI S_ 32 15#32))) (maximumf (broadcastInDim S3072x128 ![] bcast_S_S3072x128 (sitofp .f32 (constantI S_ 32 0#32))) (Host.roundeven (Host.divf (subf t (broadcastInDim S3072x128 ![0, 1] bcast_S3072x1_S3072x128_0_1 (broadcastInDim S3072x1 ![0] bcast_S3072_S3072x1_0 (los t)))) (broadcastInDim S3072x128 ![0, 1] bcast_S3072x1_S3072x128_0_1 (broadcastInDim S3072x1 ![0] bcast_S3072_S3072x1_0 (scls t))))))

/-- The codes of the rows of `t`, two in a byte. -/
def byts : IVec S3072x64 8 :=
  trunci 8 (ori (Host.slice S3072x64 ![0, 0] ![1, 2] (fptosi 32 (cods t)) slicesBy_S3072x128_S3072x64_0s1_0s2) (Host.shli (Host.slice S3072x64 ![0, 1] ![1, 2] (fptosi 32 (cods t)) slicesBy_S3072x128_S3072x64_0s1_1s2) (broadcastInDim S3072x64 ![] bcast_S_S3072x64 (constantI S_ 32 4#32)))) natLt_8_32

/-- A statistic of each token over the eight rows of the statistics. -/
def spread (a : FVec Ideal S3072 .f32) : FVec Ideal S2x8x1536 .f32 :=
  broadcastInDim S2x8x1536 ![0, 1, 2] bcast_S2x1x1536_S2x8x1536_0_1_2 (broadcastInDim S2x1x1536 ![0, 2] bcast_S2x1536_S2x1x1536_0_2 (shapeCast _ a shapeCasts_S3072_S2x1536))

/-- The statistics, given the keys `k` and the values `v`. -/
def stats (k v : FVec Ideal S3072x128 .f32) : FVec Ideal S2x8x1536 .f32 :=
  select (cmpi .eq (iotaInDim S2x8x1536 32 1) (broadcastInDim S2x8x1536 ![] bcast_S_S2x8x1536 (constantI S_ 32 0#32))) (spread (scls k))
    (select (cmpi .eq (iotaInDim S2x8x1536 32 1) (broadcastInDim S2x8x1536 ![] bcast_S_S2x8x1536 (constantI S_ 32 1#32))) (spread (los k))
      (select (cmpi .eq (iotaInDim S2x8x1536 32 1) (broadcastInDim S2x8x1536 ![] bcast_S_S2x8x1536 (constantI S_ 32 2#32))) (spread (scls v)) (spread (los v))))

/-! ## One entry of each -/

/-- A row of an array of 128 columns. -/
def row (R : Fin 3072) : Fin 128 → EReal := fun d => t (ix2 R d)

theorem los_at (R : Fin 3072) : los t (ix1 R) = KvSpec.lo (row t R) := by
  pointwise [los, KvSpec.lo, row]

theorem his_at (R : Fin 3072) : his t (ix1 R) = KvSpec.hi (row t R) := by
  pointwise [his, KvSpec.hi, row]

theorem scls_at (R : Fin 3072) : scls t (ix1 R) = KvSpec.scl (row t R) := by
  have e : id (constant (F := Ideal) S_ .f32 0x3F800000#32) ix0 = (1 : EReal) := by
    exact Ideal.ofBits_one_f32
  pointwise [scls, KvSpec.scl]
  simp only [his_at, los_at]
  rw [e]

theorem cods_at (R : Fin 3072) (d : Fin 128) : cods t (ix2 R d) = KvSpec.cod (row t R) d := by
  pointwise [cods, KvSpec.cod]
  simp only [scls_at, los_at]
  rfl

/-- The bytes' entries. -/
theorem byts_at (R : Fin 3072) (e : Fin 64) : byts t (ix2 R e) = KvSpec.byt (row t R) e := by
  pointwise [byts, KvSpec.byt]
  simp only [cods_at]
  rfl

/-- The statistics' entries. -/
theorem stats_at (k v : FVec Ideal S3072x128 .f32) (b : Fin 2) (j : Fin 8) (x : Fin 1536) :
    stats k v (ix3 b j x) = KvSpec.sta (row k ⟨b.val * 1536 + x.val, by omega⟩) (row v ⟨b.val * 1536 + x.val, by omega⟩) j := by
  fin_cases j <;> (pointwise [stats, spread, KvSpec.sta]; simp [scls_at, los_at]; try rfl)

theorem hmat_at (d e : Fin 128) : hmat (ix2 d e) = KvSpec.sgn d e := by
  pointwise [hmat, KvSpec.sgn, KvSpec.sgnW]
  rfl

theorem vals_at (R : Fin 3072) (d : Fin 128) :
    vals Q W (ix2 R d) = Q (ix2 R ⟨2176 + d.val, by omega⟩) * W (ix1 ⟨2176 + d.val, by omega⟩) := by
  pointwise [vals, proj]

theorem key0_at (R : Fin 3072) (d : Fin 128) :
    key0 Q W (ix2 R d) = Q (ix2 R ⟨2048 + d.val, by omega⟩) * W (ix1 ⟨2048 + d.val, by omega⟩) := by
  pointwise [key0, proj]

theorem key1_at (R : Fin 3072) (d : Fin 128) :
    key1 Q W C S (ix2 R d) = KvSpec.rot (row (key0 Q W) R) (fun x => C (ix2 R x)) (fun x => S (ix2 R x)) d := by
  unfold KvSpec.rot row
  split
  · pointwise [key1]
    simp [*, Nat.add_comm]
  · rename_i hd
    have e : 64 + (d.val - 64) = d.val := by omega
    pointwise [key1]
    simp [hd, e]

/-- The keys' entries. -/
theorem keys_at (R : Fin 3072) (e : Fin 128) :
    keys Q W C S (ix2 R e) = KvSpec.had (KvSpec.rot (row (key0 Q W) R) (fun x => C (ix2 R x)) (fun x => S (ix2 R x))) e := by
  pointwise [keys, KvSpec.had]
  simp only [key1_at, hmat_at]

/-- The reference ends with the bytes of the keys, those of the values and the statistics, and leaves its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = byts (keys (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v82) = byts (vals (m ((c.tc : Thread nD τ).loc main_arg0)) (m ((c.tc : Thread nD τ).loc main_arg1)))
      ∧ r.2.mem ((c.tc : Thread nD τ).loc main_v100) = stats (keys (m ((c.tc : Thread nD τ).loc main_arg0)) (m ((c.tc : Thread nD τ).loc main_arg1)) (m ((c.tc : Thread nD τ).loc main_arg2)) (m ((c.tc : Thread nD τ).loc main_arg3))) (vals (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h1, h2, h3, h4, h5, h6, h7⟩ := h c
    refine ⟨h1.trans ?_, h2.trans ?_, h3.trans ?_, h4, h5, h6, h7⟩
    · unfold res_main_v56 byts cods scls his los keys key1 key0 proj hmat; rfl
    · unfold res_main_v82 byts cods scls his los vals proj; rfl
    · unfold res_main_v100 stats spread scls his los keys vals key1 key0 proj hmat; rfl) (run (F := Ideal) m ρ)

end Cert.AttnReferenceIdeal.Value
end
-- ==== Proof.Attn.Final.lean ====
/- The result arrays of the keys and the values after the run of the attention kernel. -/
module

public import proofs.«01_k».proof.Proof.Attn.Loads
public import proofs.«01_k».proof.Proof.Attn.Lits.All
public import proofs.«01_k».proof.Proof.Attn.Pre
public import proofs.«01_k».proof.Proof.Attn.Reference
public import Idealize.ShloMosaic.Lib.IdealHost
public import Idealize.ShloMosaic.Lib.WholeRead
public import Idealize.ShloMosaic.Lib.Claim

@[expose] public section

set_option maxRecDepth 16384

noncomputable section

namespace Cert.AttnKernelIdeal.Own

open Cert.AttnKernelIdeal.Gen Cert.AttnKernelIdeal.Value
open Idealize.ShloMosaic Idealize.ShloMosaic.TcCoe Idealize.SL.Sem

variable (m : (ℓ : Loc nD τ sig) → Buf (Elt Ideal) ℓ) (c : Dev nD) (t : Fin cfg0.N)

/-! ## The constants -/

/-- The matrix the keys are multiplied with is the Hadamard matrix. -/
theorem hadamard (d e : Fin 128) : ldH m c t (ix2 d e) = KvSpec.sgn d e := by
  have hx : lit0 (S256x256.rowMajor (ix2 (⟨d.val, by omega⟩ : Fin 256) (⟨e.val, by omega⟩ : Fin 256))) = lit0 ⟨256 * d.val + e.val, by omega⟩ :=
    congrArg lit0 (Fin.ext ((Shape.rowMajor_val_two _).trans (by show d.val * 256 + e.val = 256 * d.val + e.val; omega)))
  rw [ldH_at, blk4, hx]
  unfold KvSpec.sgn
  rcases lit0_at d e with ⟨h1, h2⟩ | ⟨h1, h2⟩
  · rw [h1, h2, show (1#32).toInt = 1 from by decide, Ideal.ofBits_one_bf16]
    simp
  · rw [h1, h2, show (-1#32).toInt = -1 from by decide, Ideal.ofBits_neg_one_bf16]
    simp

/-- The pattern of sixteen. -/
theorem sixteen : Ideal.ofBits .bf16 0x4180#16 = ((16 : ℝ) : EReal) := by
  simp [Ideal.ofBits, Ideal.ieee]
  rw [← EReal.coe_mul]
  norm_num

/-- The packing matrix holds one and sixteen. -/
theorem packs : Packs (ldP m c t) := by
  intro d e
  have hx : lit1 (S128x64.rowMajor (ix2 d e)) = lit1 ⟨64 * d.val + e.val, by omega⟩ :=
    congrArg lit1 (Fin.ext ((Shape.rowMajor_val_two _).trans (by show d.val * 64 + e.val = 64 * d.val + e.val; omega)))
  rw [ldP_at, blk5, hx, lit1_at]
  split_ifs
  · exact Ideal.ofBits_one_bf16
  · exact sixteen
  · exact Ideal.ofBits_zero_bf16

/-! ## The rows a grid step computes -/

/-- The arguments of a core are real numbers. -/
def Reals : Prop := (∀ i, ∃ a : ℝ, argQ m c i = a) ∧ (∀ i, ∃ a : ℝ, argW m c i = a) ∧ (∀ i, ∃ a : ℝ, argC m c i = a) ∧ (∀ i, ∃ a : ℝ, argS m c i = a)

theorem scaledK (R : Fin 3072) (r : Fin 256) (hR : R.val = 256 * t.val + r.val) :
    scaled (ldK m c t) (ldWK m c t) r = Cert.AttnReferenceIdeal.Value.row (Cert.AttnReferenceIdeal.Value.key0 (argQ m c) (argW m c)) R := by
  funext d
  unfold scaled Cert.AttnReferenceIdeal.Value.row
  rw [Cert.AttnReferenceIdeal.Value.key0_at, ldK_at, ldWK_at, blk0 m c t R r _ hR, blk1]

theorem valRow (R : Fin 3072) (r : Fin 256) (hR : R.val = 256 * t.val + r.val) :
    scaled (ldV m c t) (ldWV m c t) r = Cert.AttnReferenceIdeal.Value.row (Cert.AttnReferenceIdeal.Value.vals (argQ m c) (argW m c)) R := by
  funext d
  unfold scaled Cert.AttnReferenceIdeal.Value.row
  rw [Cert.AttnReferenceIdeal.Value.vals_at, ldV_at, ldWV_at, blk0 m c t R r _ hR, blk1]

theorem keyRow (hm : Reals m c) (R : Fin 3072) (r : Fin 256) (hR : R.val = 256 * t.val + r.val) :
    row (keyBlk m c t) r = Cert.AttnReferenceIdeal.Value.row (Cert.AttnReferenceIdeal.Value.keys (argQ m c) (argW m c) (argC m c) (argS m c)) R := by
  have hC : (fun x => ldC m c t (ix2 r x)) = fun x => argC m c (ix2 R x) := funext fun x => (ldC_at m c t r x).trans (blk2 m c t R r x hR)
  have hS : (fun x => ldS m c t (ix2 r x)) = fun x => argS m c (ix2 R x) := funext fun x => (ldS_at m c t r x).trans (blk3 m c t R r x hR)
  have hT : (fun d => turned (ldC m c t) (ldS m c t) (ldK m c t) (ldWK m c t) (ix2 r d))
      = KvSpec.rot (Cert.AttnReferenceIdeal.Value.row (Cert.AttnReferenceIdeal.Value.key0 (argQ m c) (argW m c)) R) (fun x => argC m c (ix2 R x)) (fun x => argS m c (ix2 R x)) := by
    funext d
    rw [turned_at, scaledK m c t R r hR, hC, hS]
  funext e
  show keyBlk m c t (ix2 r e) = Cert.AttnReferenceIdeal.Value.keys (argQ m c) (argW m c) (argC m c) (argS m c) (ix2 R e)
  rw [Cert.AttnReferenceIdeal.Value.keys_at, ← hT]
  refine (congrFun (pay1773_eq _ _ _ _ _) _).trans (parts_at _ _ r e (fun d => ?_) (hadamard m c t))
  rw [show turned (ldC m c t) (ldS m c t) (ldK m c t) (ldWK m c t) (ix2 r d) = _ from congrFun hT d]
  refine Cert.Pre_finite.rot_real (fun d => ?_) (fun x => hm.2.2.1 _) (fun x => hm.2.2.2 _) d
  unfold Cert.AttnReferenceIdeal.Value.row
  rw [Cert.AttnReferenceIdeal.Value.key0_at]
  obtain ⟨a, ha⟩ := hm.1 (ix2 R ⟨2048 + d.val, by omega⟩)
  obtain ⟨b, hb⟩ := hm.2.1 (ix1 ⟨2048 + d.val, by omega⟩)
  rw [ha, hb, ← EReal.coe_mul]
  exact ⟨_, rfl⟩

/-! ## The arrays -/

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))

include hL

/-- The bytes of the keys. -/
theorem final10 (hm : Reals m c) : ((rdat m c).withAfter after).arrAt 10 cfg0.N
    = Cert.AttnReferenceIdeal.Value.byts (Cert.AttnReferenceIdeal.Value.keys (argQ m c) (argW m c) (argC m c) (argS m c)) := by
  refine ((rdat m c).withAfter after).arrAt_eq_of_covers 10 _ (by decide +kernel) fun t hf y => ?_
  obtain ⟨f, hY⟩ := (dats m 0 c).toRRel_leaves (fgt := outs) (Rl := Rl m c) rfl (hL 10 t hf)
  blk_simp
  obtain ⟨r, x, rfl⟩ : ∃ (r : Fin 256) (x : Fin 64), y = ix2 r x := ⟨y 0, y 1, eq_ix2 y⟩
  have ht := lt12 t
  have h0 : ((win0_10.blk t).view.emb (ix2 r x) 0).val = 256 * t.val + r.val := by
    blk_simp [idx t]; try omega
  have h1 : (win0_10.blk t).view.emb (ix2 r x) 1 = x := Fin.ext (by
    blk_simp [idx t]; try omega)
  show after 10 t (ix2 r x) = _
  rw [hY, pieces10]
  refine (whole_read _ _ _ _ emb64 _ _).trans ?_
  refine (pay1783_at _ _ (packs m c t) _ r (fun d => pay1777_at _ _ _ r d (pay1774_at _ _ _ _ _ r) (pay1775_at _ _ _ _ _ r)) x).trans ?_
  rw [keyRow m c t hm _ r h0]
  exact ((congrArg (Cert.AttnReferenceIdeal.Value.byts (Cert.AttnReferenceIdeal.Value.keys (argQ m c) (argW m c) (argC m c) (argS m c)))
    ((eq_ix2 _).trans (congrArg (ix2 _) h1))).trans (Cert.AttnReferenceIdeal.Value.byts_at _ _ _)).symm

/-- The bytes of the values. -/
theorem final11 : ((rdat m c).withAfter after).arrAt 11 cfg0.N
    = Cert.AttnReferenceIdeal.Value.byts (Cert.AttnReferenceIdeal.Value.vals (argQ m c) (argW m c)) := by
  refine ((rdat m c).withAfter after).arrAt_eq_of_covers 11 _ (by decide +kernel) fun t hf y => ?_
  obtain ⟨f, hY⟩ := (dats m 0 c).toRRel_leaves (fgt := outs) (Rl := Rl m c) rfl (hL 11 t hf)
  blk_simp
  obtain ⟨r, x, rfl⟩ : ∃ (r : Fin 256) (x : Fin 64), y = ix2 r x := ⟨y 0, y 1, eq_ix2 y⟩
  have ht := lt12 t
  have h0 : ((win0_11.blk t).view.emb (ix2 r x) 0).val = 256 * t.val + r.val := by
    blk_simp [idx t]; try omega
  have h1 : (win0_11.blk t).view.emb (ix2 r x) 1 = x := Fin.ext (by
    blk_simp [idx t]; try omega)
  show after 11 t (ix2 r x) = _
  rw [hY, pieces11]
  refine (whole_read _ _ _ _ emb64 _ _).trans ?_
  rw [pay1784_eq]
  refine (pay1783_at _ _ (packs m c t) _ r (fun d => pay1782_at _ _ r d) x).trans ?_
  rw [valRow m c t _ r h0]
  exact ((congrArg (Cert.AttnReferenceIdeal.Value.byts (Cert.AttnReferenceIdeal.Value.vals (argQ m c) (argW m c)))
    ((eq_ix2 _).trans (congrArg (ix2 _) h1))).trans (Cert.AttnReferenceIdeal.Value.byts_at _ _ _)).symm

/-- The statistics. -/
theorem final12 (hm : Reals m c) : ((rdat m c).withAfter after).arrAt 12 cfg0.N
    = Cert.AttnReferenceIdeal.Value.stats (Cert.AttnReferenceIdeal.Value.keys (argQ m c) (argW m c) (argC m c) (argS m c))
        (Cert.AttnReferenceIdeal.Value.vals (argQ m c) (argW m c)) := by
  refine ((rdat m c).withAfter after).arrAt_eq_of_covers 12 _ (by decide +kernel) fun t hf y => ?_
  obtain ⟨f, hY⟩ := (dats m 0 c).toRRel_leaves (fgt := outs) (Rl := Rl m c) rfl (hL 12 t hf)
  blk_simp
  obtain ⟨z, j, r, rfl⟩ : ∃ (z : Fin 1) (j : Fin 8) (r : Fin 256), y = ix3 z j r := ⟨y 0, y 1, y 2, eq_ix3 y⟩
  obtain rfl : z = 0 := Subsingleton.elim _ _
  have ht := lt12 t
  have h0 : ((win0_12.blk t).view.emb (ix3 0 j r) 0).val = t.val / 6 := by
    blk_simp [idx t]; try omega
  have h1 : (win0_12.blk t).view.emb (ix3 0 j r) 1 = j := Fin.ext (by
    blk_simp [idx t]; try omega)
  have h2 : ((win0_12.blk t).view.emb (ix3 0 j r) 2).val = 256 * (t.val % 6) + r.val := by
    blk_simp [idx t]; try omega
  show after 12 t (ix3 0 j r) = _
  rw [hY, pieces12]
  refine (whole_read _ _ _ _ emb8 _ _).trans ?_
  refine (pay1790_at _ _ _ _ _ _ r (pay1776_at (keyBlk m c t) _ _ r (pay1774_at _ _ _ _ _ r) (pay1775_at _ _ _ _ _ r)) (pay1774_at _ _ _ _ _ r)
    (pay1780_at _ _ r) (pay1779_at _ _ r) j).trans ?_
  have hR : ((win0_12.blk t).view.emb (ix3 0 j r) 0).val * 1536 + ((win0_12.blk t).view.emb (ix3 0 j r) 2).val = 256 * t.val + r.val := by
    rw [h0, h2]; omega
  have hb : ((win0_12.blk t).view.emb (ix3 0 j r) 0).val * 1536 + ((win0_12.blk t).view.emb (ix3 0 j r) 2).val < 3072 := by
    rw [hR]; omega
  rw [keyRow m c t hm ⟨_, hb⟩ r hR, valRow m c t ⟨_, hb⟩ r hR]
  exact ((congrArg (Cert.AttnReferenceIdeal.Value.stats (Cert.AttnReferenceIdeal.Value.keys (argQ m c) (argW m c) (argC m c) (argS m c))
    (Cert.AttnReferenceIdeal.Value.vals (argQ m c) (argW m c))) ((eq_ix3 _).trans (by rw [h1]))).trans (Cert.AttnReferenceIdeal.Value.stats_at _ _ _ _ _)).symm

omit hL

/-- The run: the three results are the reference's terms over the kernel's arguments, and the arguments end unchanged. -/
theorem run (ρ : Dev nD → PrngReg) (hm : ∀ c, Reals m c) : θ_run defs (onTc (τ := τ) (main (F := Ideal))) ⟨m, fun _ => 0, ρ⟩ (fun r => ∀ c : Dev nD,
      r.2.mem ((c.tc : Thread nD τ).loc main_v1_4) = Cert.AttnReferenceIdeal.Value.byts (Cert.AttnReferenceIdeal.Value.keys (argQ m c) (argW m c) (argC m c) (argS m c))
      ∧ r.2.mem ((c.tc : Thread nD τ).loc main_v1_5) = Cert.AttnReferenceIdeal.Value.byts (Cert.AttnReferenceIdeal.Value.vals (argQ m c) (argW m c))
      ∧ r.2.mem ((c.tc : Thread nD τ).loc main_v1_6) = Cert.AttnReferenceIdeal.Value.stats (Cert.AttnReferenceIdeal.Value.keys (argQ m c) (argW m c) (argC m c) (argS m c)) (Cert.AttnReferenceIdeal.Value.vals (argQ m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
      obtain ⟨after, hL, hA⟩ := Pipeline.RDat.FramePost.exists_exact h.1 c
      exact ⟨(hA 10).trans (final10 m c after hL (hm c)), (hA 11).trans (final11 m c after hL), (hA 12).trans (final12 m c after hL (hm c)), frame_of_run m r h.1 c⟩)
    (run_main m ρ)

end Cert.AttnKernelIdeal.Own

end
-- ==== Proof.Attn.Bits.Head.lean ====
/- The prologue of the attention kernel, run symbolically: what it stores of the keys and the values. -/
module

public import proofs.«01_k».proof.Proof.Gen.AttnKernel.Frame
public import proofs.«01_k».proof.Proof.Gen.AttnKernel.Skeleton

@[expose] public section

set_option maxRecDepth 16384

noncomputable section

namespace Cert.AttnKernel.Own

open Cert.AttnKernel Cert.AttnKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prologue. -/
def progHead (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole) : Prog (TpuEff nD τ sig (Elt F) Λ₀ .tc) PUnit :=
  k0_part313 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun x =>
  k0_part314 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x.2.2.2.1 x.2.2.2.2.1 x.2.2.2.2.2 >>= fun y =>
  k0_part315 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x.1 x.2.2.2.2.1 y.2.1 y.2.2.1 y.2.2.2.1 y.2.2.2.2.1 y.2.2.2.2.2 >>= fun z =>
  k0_part316 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 y.1 z.1 z.2.1 z.2.2

set_option maxHeartbeats 4000000 in
/-- What the stores of the prologue leave in the three result buffers, as pieces, with the proof that it runs and leaves them. -/
noncomputable def runHead (c : Dev nD) (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole)
    (x2 : Vec F S256x2304 .f32) (x3 : Vec F S1x2304 .f32) (x4 : Vec F S256x64 .f32) (x5 : Vec F S256x64 .f32) (x6 : Vec F S256x256 .bf16) (x7 : Vec F S128x64 .bf16) :
    Σ' (L12 : List (View.Piece (Elt F) S256x64 .i8)) (L13 : List (View.Piece (Elt F) S256x64 .i8)), { L14 : List (View.Piece (Elt F) S1x8x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (progHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun E K => ?run⟩
  case run =>
    unfold progHead
    simp only [k0_part313_eq_skeleton, k0_part314_eq_skeleton, k0_part315_eq_skeleton, k0_part316_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d12, %f12, -, H12⟩, ⟨%d13, %f13, -, H13⟩, ⟨%d14, %f14, -, H14⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H12]
    · iexists _; iexact H12
    isplitl [H13]
    · iexists _; iexact H13
    isplitl [H14]
    · iexists _; iexact H14
    isplitl [H16]
    · iexists _, _; isplitr; swap
      · iexact H16
      ipureintro; rfl
    isplitl [H17]
    · iexists _, _; isplitr; swap
      · iexact H17
      ipureintro; rfl
    iexists _, _; isplitr; swap
    · iexact H18
    ipureintro; rfl

end Cert.AttnKernel.Own

end
-- ==== Proof.Attn.Bits.Rest.lean ====
/- The parts of the attention kernel after its prologue: they keep any assertion that holds the buffers they load and store. -/
module

public import proofs.«01_k».proof.Proof.Gen.AttnKernel.Skeleton
public import proofs.«01_k».proof.Proof.Keep

@[expose] public section

set_option maxRecDepth 65536

noncomputable section

namespace Cert.AttnKernel.Own

open Cert.AttnKernel Cert.AttnKernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep

variable {F : FTy → Type} [FloatOps F]

variable {UU : Type} [URA UU]

variable (c : Dev nD) (P : sProp (MT nD τ sig Unit (Elt F) ℕ UU ℕ)) (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole)

/-- Every buffer the parts after the prologue touch is held by `P`: the inputs to be read, the four outputs and the scratch to be stored. -/
structure Has : Prop where
  r2 : Reads c P arg2
  r3 : Reads c P arg3
  r4 : Reads c P arg4
  r5 : Reads c P arg5
  r6 : Reads c P arg6
  r7 : Reads c P arg7
  w8 : Stores c P arg8
  w9 : Stores c P arg9
  w10 : Stores c P arg10
  w11 : Stores c P arg11
  w15 : Stores c P arg15
  w16 : Stores c P arg16
  w17 : Stores c P arg17
  w18 : Stores c P arg18
  w19 : Stores c P arg19
  w20 : Stores c P arg20
  w21 : Stores c P arg21

variable {c P}

set_option maxHeartbeats 0 in
theorem k0_part45_keeps (H : Has c P arg2 arg3 arg4 arg5 arg6 arg7 arg8 arg9 arg10 arg11 arg15 arg16 arg17 arg18 arg19 arg20 arg21) (k0_h2 : k0_cond2 i = 1#1) (c0_i32_2480 : BitVec 32) (c1_i32_2482 : BitVec 32) (k0_t2 : Fin k0_t2_loop.trips) :
    Keeps (defs₀ (F := F)) c P (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 c0_i32_2480 c1_i32_2482 k0_t2) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part45
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44

set_option maxHeartbeats 0 in
theorem k0_part90_keeps (H : Has c P arg2 arg3 arg4 arg5 arg6 arg7 arg8 arg9 arg10 arg11 arg15 arg16 arg17 arg18 arg19 arg20 arg21) (k0_h3 : k0_cond3 i = 1#1) (c0_i32_2480 : BitVec 32) (c1_i32_2482 : BitVec 32) (k0_t3 : Fin k0_t3_loop.trips) :
    Keeps (defs₀ (F := F)) c P (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 c0_i32_2480 c1_i32_2482 k0_t3) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part90
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89

set_option maxHeartbeats 0 in
theorem k0_part149_keeps (H : Has c P arg2 arg3 arg4 arg5 arg6 arg7 arg8 arg9 arg10 arg11 arg15 arg16 arg17 arg18 arg19 arg20 arg21) (k0_h4 : k0_cond4 i = 1#1) (c0_i32_2480 : BitVec 32) (c1_i32_2482 : BitVec 32) (k0_t4 : Fin k0_t4_loop.trips) :
    Keeps (defs₀ (F := F)) c P (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h4 c0_i32_2480 c1_i32_2482 k0_t4) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part149
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148

set_option maxHeartbeats 0 in
theorem k0_part223_keeps (H : Has c P arg2 arg3 arg4 arg5 arg6 arg7 arg8 arg9 arg10 arg11 arg15 arg16 arg17 arg18 arg19 arg20 arg21) (k0_h5 : k0_cond5 i = 1#1) (c0_i32_2480 : BitVec 32) (c1_i32_2482 : BitVec 32) (k0_t5 : Fin k0_t5_loop.trips) :
    Keeps (defs₀ (F := F)) c P (k0_part223 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h5 c0_i32_2480 c1_i32_2482 k0_t5) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part223
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180 k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209

set_option maxHeartbeats 0 in
theorem k0_part311_keeps (H : Has c P arg2 arg3 arg4 arg5 arg6 arg7 arg8 arg9 arg10 arg11 arg15 arg16 arg17 arg18 arg19 arg20 arg21) (k0_h6 : k0_cond6 i = 1#1) (c0_i32_2480 : BitVec 32) (c1_i32_2482 : BitVec 32) (k0_t6 : Fin k0_t6_loop.trips) :
    Keeps (defs₀ (F := F)) c P (k0_part311 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h6 c0_i32_2480 c1_i32_2482 k0_t6) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part311
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part224 k0_part225 k0_part226 k0_part227 k0_part228 k0_part229 k0_part230 k0_part231 k0_part232 k0_part233 k0_part234 k0_part235 k0_part236 k0_part237 k0_part238 k0_part239 k0_part240 k0_part241 k0_part242 k0_part243 k0_part244 k0_part245 k0_part246 k0_part247 k0_part248 k0_part249 k0_part250 k0_part251 k0_part252 k0_part253 k0_part254 k0_part255 k0_part256 k0_part257 k0_part258 k0_part259 k0_part260 k0_part261 k0_part262 k0_part263 k0_part264 k0_part265 k0_part266 k0_part267 k0_part268 k0_part269 k0_part270 k0_part271 k0_part272 k0_part273 k0_part274 k0_part275 k0_part276 k0_part277 k0_part278 k0_part279 k0_part280 k0_part281 k0_part282 k0_part283

set_option maxHeartbeats 0 in
theorem k0_part464_keeps (H : Has c P arg2 arg3 arg4 arg5 arg6 arg7 arg8 arg9 arg10 arg11 arg15 arg16 arg17 arg18 arg19 arg20 arg21) (v2047 : FVec F S64x128 .f32) (v2048 : FVec F S64x128 .f32) (v2049 : FVec F S64x128 .f32) (v2050 : FVec F S64x128 .f32) (v2051 : FVec F S64x128 .f32) (v2052 : FVec F S64x128 .f32) (v2053 : FVec F S64x128 .f32) (v2054 : FVec F S64x128 .f32) (v2055 : FVec F S64x128 .f32) (v2056 : FVec F S64x128 .f32) (v2057 : FVec F S64x128 .f32) (v2058 : IVec S64x128 32) (v2384 : FVec F S64x128 .f32) (v2451 : FVec F S64x1 .f32) (v2462 : FVec F S64x128 .f32) (v2463 : IVec S64x128 32) :
    Keeps (defs₀ (F := F)) c P (k0_part464 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2047 v2048 v2049 v2050 v2051 v2052 v2053 v2054 v2055 v2056 v2057 v2058 v2384 v2451 v2462 v2463) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part464
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part373 k0_part374 k0_part375 k0_part376 k0_part377 k0_part378 k0_part379 k0_part380 k0_part381 k0_part382 k0_part383 k0_part384 k0_part385 k0_part386 k0_part387 k0_part388 k0_part389 k0_part390 k0_part391 k0_part392 k0_part393 k0_part394 k0_part395 k0_part396 k0_part397 k0_part398 k0_part399 k0_part400 k0_part401 k0_part402 k0_part403 k0_part404 k0_part405 k0_part406 k0_part407 k0_part408 k0_part409 k0_part410 k0_part411 k0_part412 k0_part413 k0_part414 k0_part415 k0_part416 k0_part417 k0_part418 k0_part419 k0_part420 k0_part421 k0_part422 k0_part423 k0_part424 k0_part425 k0_part426 k0_part427 k0_part428 k0_part429 k0_part430 k0_part431 k0_part432

set_option maxHeartbeats 0 in
theorem k0_part465_keeps (H : Has c P arg2 arg3 arg4 arg5 arg6 arg7 arg8 arg9 arg10 arg11 arg15 arg16 arg17 arg18 arg19 arg20 arg21) (v4931 : FVec F S64x128 .f32) (v4932 : FVec F S64x128 .f32) (v4933 : FVec F S64x128 .f32) (v4934 : FVec F S64x128 .f32) (v4935 : FVec F S64x128 .f32) (v4936 : FVec F S64x128 .f32) (v4937 : FVec F S64x128 .f32) (v4938 : FVec F S64x128 .f32) (v4939 : FVec F S64x128 .f32) (v4940 : FVec F S64x128 .f32) (v4941 : FVec F S64x128 .f32) (v4942 : FVec F S64x128 .f32) (v4943 : FVec F S64x128 .f32) (v4944 : FVec F S64x128 .f32) (v4945 : FVec F S64x128 .f32) (v4946 : IVec S64x128 32) (v4947 : FVec F S64x128 .f32) (v4949 : FVec F S64x128 .f32) (v4956 : FVec F S64x1 .f32) (v4958 : IVec S64x1 1) (v4960 : IVec S64x1 1) :
    Keeps (defs₀ (F := F)) c P (k0_part465 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4931 v4932 v4933 v4934 v4935 v4936 v4937 v4938 v4939 v4940 v4941 v4942 v4943 v4944 v4945 v4946 v4947 v4949 v4956 v4958 v4960) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part465
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part433 k0_part434 k0_part435 k0_part436 k0_part437 k0_part438 k0_part439 k0_part440 k0_part441 k0_part442 k0_part443 k0_part444 k0_part445 k0_part446 k0_part447 k0_part448 k0_part449 k0_part450 k0_part451 k0_part452 k0_part453 k0_part454 k0_part455 k0_part456 k0_part457 k0_part458 k0_part459 k0_part460 k0_part461 k0_part462

end Cert.AttnKernel.Own

end
-- ==== Proof.Attn.Bits.Loops.lean ====
/- The branches of the attention kernel, each a loop over the heads: they keep any assertion that holds the buffers they load and store. -/
module

public import proofs.«01_k».proof.Proof.Gen.AttnKernel.Skeleton
public import proofs.«01_k».proof.Proof.Attn.Bits.Rest

@[expose] public section

set_option maxRecDepth 65536

noncomputable section

namespace Cert.AttnKernel.Own

open Cert.AttnKernel Cert.AttnKernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep

variable {F : FTy → Type} [FloatOps F]

variable {UU : Type} [URA UU]

variable (c : Dev nD) (P : sProp (MT nD τ sig Unit (Elt F) ℕ UU ℕ)) (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole)

variable {c P}

set_option maxHeartbeats 0 in
theorem k0_part312_keeps (H : Has c P arg2 arg3 arg4 arg5 arg6 arg7 arg8 arg9 arg10 arg11 arg15 arg16 arg17 arg18 arg19 arg20 arg21) (k0_h6 : k0_cond6 i = 1#1) (k0_t6 : Fin k0_t6_loop.trips) (v7978 : BitVec 32) (v7984 : FVec F S256x1 .f32) (v8389 : FVec F S64x1 .f32) (v8391 : FVec F S64x1 .f32) (v8437 : FVec F S64x128 .f32) (v8453 : FVec F S64x128 .f32) (v8469 : FVec F S64x128 .f32) (v8485 : FVec F S64x128 .f32) (v8501 : FVec F S64x128 .f32) (v8517 : FVec F S64x128 .f32) (v8533 : FVec F S64x128 .f32) (v8549 : FVec F S64x128 .f32) (v8574 : FVec F S64x128 .f32) (v8578 : FVec F S64x1 .f32) (v8581 : FVec F S64x128 .f32) (v8586 : FVec F S64x128 .f32) (v8598 : FVec F S64x128 .f32) (v8599 : Vec F S1x1x128 .f32) :
    Keeps (defs₀ (F := F)) c P (k0_part312 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h6 k0_t6 v7978 v7984 v8389 v8391 v8437 v8453 v8469 v8485 v8501 v8517 v8533 v8549 v8574 v8578 v8581 v8586 v8598 v8599) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part312
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | delta k0_part284 k0_part285 k0_part286 k0_part287 k0_part288 k0_part289 k0_part290 k0_part291 k0_part292 k0_part293 k0_part294 k0_part295 k0_part296 k0_part297 k0_part298 k0_part299 k0_part300 k0_part301 k0_part302 k0_part303 k0_part304 k0_part305 k0_part306 k0_part307 k0_part308 k0_part309 k0_part310

set_option maxHeartbeats 0 in
theorem k0_part325_keeps (H : Has c P arg2 arg3 arg4 arg5 arg6 arg7 arg8 arg9 arg10 arg11 arg15 arg16 arg17 arg18 arg19 arg20 arg21) (arg1 : BitVec 32) (v484 : BitVec 1) :
    Keeps (defs₀ (F := F)) c P (k0_part325 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v484) := by
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta k0_part325
  repeat' first
    | with_reducible refine Keeps.bind ?_ fun _ => ?_
    | with_reducible exact Keeps.load (by assumption)
    | with_reducible exact Keeps.store (by assumption)
    | with_reducible exact Keeps.pure _
    | with_reducible refine Keeps.ite (fun _ => ?_) (fun _ => ?_)
    | with_reducible refine Keeps.loop _ _ _ _ _ _ (fun _ _ => ?_)
    | with_reducible exact k0_part45_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part90_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part149_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part223_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part311_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | with_reducible exact k0_part312_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
    | delta k0_part1 k0_part2 k0_part3 k0_part4 k0_part5 k0_part6 k0_part7 k0_part8 k0_part9 k0_part10 k0_part11 k0_part12 k0_part13 k0_part14 k0_part15 k0_part210 k0_part211 k0_part212 k0_part213 k0_part214 k0_part215 k0_part216 k0_part217 k0_part218 k0_part219 k0_part220 k0_part221 k0_part222

end Cert.AttnKernel.Own

end
-- ==== Proof.Attn.Bits.Body.lean ====
/- One point of the attention kernel: it leaves its inputs, and in the three result buffers of the keys and the values what the prologue stored. -/
module

public import proofs.«01_k».proof.Proof.Attn.Bits.Head
public import proofs.«01_k».proof.Proof.Attn.Bits.Loops

@[expose] public section

set_option maxRecDepth 16384

noncomputable section

namespace Cert.AttnKernel.Own

open Cert.AttnKernel Cert.AttnKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S256x2304 .f32) (harg2 : arg2.IsWhole)
  (arg3 : Memref sig .tc .vmem S1x2304 .f32) (harg3 : arg3.IsWhole)
  (arg4 : Memref sig .tc .vmem S256x64 .f32) (harg4 : arg4.IsWhole)
  (arg5 : Memref sig .tc .vmem S256x64 .f32) (harg5 : arg5.IsWhole)
  (arg6 : Memref sig .tc .vmem S256x256 .bf16) (harg6 : arg6.IsWhole)
  (arg7 : Memref sig .tc .vmem S128x64 .bf16) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S256x2048 .i8) (harg10 : arg10.IsWhole)
  (arg11 : Memref sig .tc .vmem S256x16 .f32) (harg11 : arg11.IsWhole)
  (arg12 : Memref sig .tc .vmem S256x64 .i8) (harg12 : arg12.IsWhole)
  (arg13 : Memref sig .tc .vmem S256x64 .i8) (harg13 : arg13.IsWhole)
  (arg14 : Memref sig .tc .vmem S1x8x256 .f32) (harg14 : arg14.IsWhole)
  (arg15 : Memref sig .tc .vmem S16x256x128 .bf16) (harg15 : arg15.IsWhole)
  (arg16 : Memref sig .tc .vmem S128x1536 .bf16) (harg16 : arg16.IsWhole)
  (arg17 : Memref sig .tc .vmem S1536x128 .bf16) (harg17 : arg17.IsWhole)
  (arg18 : Memref sig .tc .vmem S4x8x1536 .f32) (harg18 : arg18.IsWhole)
  (arg19 : Memref sig .tc .vmem S2x256x1536 .f32) (harg19 : arg19.IsWhole)
  (arg20 : Memref sig .tc .vmem S2x256x1536 .bf16) (harg20 : arg20.IsWhole)
  (arg21 : Memref sig .tc .vmem S16x256x128 .f32) (harg21 : arg21.IsWhole)
  (x2 : Vec F S256x2304 .f32) (x3 : Vec F S1x2304 .f32) (x4 : Vec F S256x64 .f32) (x5 : Vec F S256x64 .f32) (x6 : Vec F S256x256 .bf16) (x7 : Vec F S128x64 .bf16)

/-- The buffers before a point: the inputs at their contents, the rest at any. -/
def Before : sProp 𝕄 :=
  iprop(owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d))

/-- The buffers after the prologue, and after the point. -/
def After : sProp 𝕄 :=
  iprop(owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ f, arg12.view.loc (c : Thread nD τ) ↦[arg12.view.set]{fullShare} arg12.view.writes (Elt F) f (runHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7).1)
    ∗ (∃ f, arg13.view.loc (c : Thread nD τ) ↦[arg13.view.set]{fullShare} arg13.view.writes (Elt F) f (runHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7).2.1)
    ∗ (∃ f, arg14.view.loc (c : Thread nD τ) ↦[arg14.view.set]{fullShare} arg14.view.writes (Elt F) f (runHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7).2.2.1)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d))

/-- The buffers the rest of the point touches are held by `After`. -/
theorem has_after : Has c (After c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7) arg2 arg3 arg4 arg5 arg6 arg7 arg8 arg9 arg10 arg11 arg15 arg16 arg17 arg18 arg19 arg20 arg21 := by
  constructor
  · unfold Reads After
    iintro ⟨H2, H3, H4, H5, H6, H7, H8, H9, H10, H11, H12, H13, H14, H15, H16, H17, H18, H19, H20, H21⟩
    iexists _
    isplitl [H2]; · iexact H2
    iintro H2
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H3]; · iexact H3
    iintro H3
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H4]; · iexact H4
    iintro H4
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H5]; · iexact H5
    iintro H5
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H6]; · iexact H6
    iintro H6
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Reads After
    iintro ⟨H2, H3, H4, H5, H6, H7, H8, H9, H10, H11, H12, H13, H14, H15, H16, H17, H18, H19, H20, H21⟩
    iexists _
    isplitl [H7]; · iexact H7
    iintro H7
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, ⟨%d, H8⟩, H9, H10, H11, H12, H13, H14, H15, H16, H17, H18, H19, H20, H21⟩
    iexists _
    isplitl [H8]; · iexact H8
    iintro %x H8
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, ⟨%d, H9⟩, H10, H11, H12, H13, H14, H15, H16, H17, H18, H19, H20, H21⟩
    iexists _
    isplitl [H9]; · iexact H9
    iintro %x H9
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, H9, ⟨%d, H10⟩, H11, H12, H13, H14, H15, H16, H17, H18, H19, H20, H21⟩
    iexists _
    isplitl [H10]; · iexact H10
    iintro %x H10
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, H9, H10, ⟨%d, H11⟩, H12, H13, H14, H15, H16, H17, H18, H19, H20, H21⟩
    iexists _
    isplitl [H11]; · iexact H11
    iintro %x H11
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, H9, H10, H11, H12, H13, H14, ⟨%d, H15⟩, H16, H17, H18, H19, H20, H21⟩
    iexists _
    isplitl [H15]; · iexact H15
    iintro %x H15
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    isplitl [H19]; · iexact H19
    isplitl [H20]; · iexact H20
    iexact H21
  · unfold Stores After
    iintro ⟨H2, H3, H4, H5, H6, H7, H8, H9, H10, H11, H12, H13, H14, H15, ⟨%d, H16⟩, H17, H18, H19, H20, H21⟩
    iexists _
    isplitl [H16]; · iexact H16
    iintro %x H16
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexact H20
    iexact H21
  · unfold Stores After
    iintro ⟨H2, H3, H4, H5, H6, H7, H8, H9, H10, H11, H12, H13, H14, H15, H16, ⟨%d, H17⟩, H18, H19, H20, H21⟩
    iexists _
    isplitl [H17]; · iexact H17
    iintro %x H17
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexact H19
    isplitl [H20]; · iexact H20
    iexact H21
  · unfold Stores After
    iintro ⟨H2, H3, H4, H5, H6, H7, H8, H9, H10, H11, H12, H13, H14, H15, H16, H17, ⟨%d, H18⟩, H19, H20, H21⟩
    iexists _
    isplitl [H18]; · iexact H18
    iintro %x H18
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    iexact H21
  · unfold Stores After
    iintro ⟨H2, H3, H4, H5, H6, H7, H8, H9, H10, H11, H12, H13, H14, H15, H16, H17, H18, ⟨%d, H19⟩, H20, H21⟩
    iexists _
    isplitl [H19]; · iexact H19
    iintro %x H19
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexact H20
    iexact H21
  · unfold Stores After
    iintro ⟨H2, H3, H4, H5, H6, H7, H8, H9, H10, H11, H12, H13, H14, H15, H16, H17, H18, H19, ⟨%d, H20⟩, H21⟩
    iexists _
    isplitl [H20]; · iexact H20
    iintro %x H20
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    iexact H21
  · unfold Stores After
    iintro ⟨H2, H3, H4, H5, H6, H7, H8, H9, H10, H11, H12, H13, H14, H15, H16, H17, H18, H19, H20, ⟨%d, H21⟩⟩
    iexists _
    isplitl [H21]; · iexact H21
    iintro %x H21
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexists _; iexact H21

theorem head_after (E : Set ℕ) : Before c arg2 arg3 arg4 arg5 arg6 arg7 arg8 arg9 arg10 arg11 arg12 arg13 arg14 arg15 arg16 arg17 arg18 arg19 arg20 arg21 x2 x3 x4 x5 x6 x7 ⊢ wp frame (wpE (defs₀ (F := F)) Variants.none c none) E (progHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => After c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7) := by
  unfold Before After
  iintro ⟨H2, H3, H4, H5, H6, H7, H8, H9, H10, H11, H12, H13, H14, H15, H16, H17, H18, H19, H20, H21⟩
  iapply ((runHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7).2.2.2 E _)
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H13]; · iexact H13
  isplitl [H14]; · iexact H14
  isplitl [H16]; · iexact H16
  isplitl [H17]; · iexact H17
  isplitl [H18]; · iexact H18
  iintro ⟨H2, H3, H4, H5, H6, H7, H12, H13, H14, H16, H17, H18⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

set_option maxHeartbeats 0 in
/-- The whole point. -/
theorem body_after (E : Set ℕ) : Before c arg2 arg3 arg4 arg5 arg6 arg7 arg8 arg9 arg10 arg11 arg12 arg13 arg14 arg15 arg16 arg17 arg18 arg19 arg20 arg21 x2 x3 x4 x5 x6 x7 ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => After c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7) := by
  have hh := head_after c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 E
  unfold progHead at hh
  simp only [wp_bind] at hh
  have G := has_after c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7
  generalize After c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 = P at hh G ⊢
  have H := G
  have G := H
  obtain ⟨h0, h1, h2, h3, h4, h5, h6, h7, h8, h9, h10, h11, h12, h13, h14, h15, h16⟩ := H
  have q6 := h6.reads
  have q7 := h7.reads
  have q8 := h8.reads
  have q9 := h9.reads
  have q10 := h10.reads
  have q11 := h11.reads
  have q12 := h12.reads
  have q13 := h13.reads
  have q14 := h14.reads
  have q15 := h15.reads
  have q16 := h16.reads
  delta cc0_attn
  with_reducible refine wp_next (Φ := fun _ => P) ?_ fun a => ?_
  · delta k0_part463
    with_reducible refine wp_next hh fun x => ?_
    with_reducible refine wp_next .rfl fun y => ?_
    with_reducible refine wp_next .rfl fun z => ?_
    with_reducible refine wp_next .rfl fun _ => ?_
    refine (?_ : Keeps (defs₀ (F := F)) c P _) E
    repeat' first
      | with_reducible refine Keeps.bind ?_ fun _ => ?_
      | with_reducible exact Keeps.load (by assumption)
      | with_reducible exact Keeps.store (by assumption)
      | with_reducible exact Keeps.pure _
      | with_reducible exact k0_part325_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
      | delta k0_part317 k0_part318 k0_part319 k0_part320 k0_part321 k0_part322 k0_part323 k0_part324 k0_part326 k0_part327 k0_part328 k0_part329 k0_part330 k0_part331 k0_part332 k0_part333 k0_part334 k0_part335 k0_part336 k0_part337 k0_part338 k0_part339 k0_part340 k0_part341 k0_part342 k0_part343 k0_part344 k0_part345 k0_part346 k0_part347 k0_part348 k0_part349 k0_part350 k0_part351 k0_part352 k0_part353 k0_part354 k0_part355 k0_part356 k0_part357 k0_part358 k0_part359 k0_part360 k0_part361 k0_part362 k0_part363 k0_part364 k0_part365 k0_part366 k0_part367 k0_part368 k0_part369 k0_part370 k0_part371 k0_part372
  · refine (?_ : Keeps (defs₀ (F := F)) c P _) E
    repeat' first
      | with_reducible refine Keeps.bind ?_ fun _ => ?_
      | with_reducible exact Keeps.load (by assumption)
      | with_reducible exact Keeps.store (by assumption)
      | with_reducible exact Keeps.pure _
      | with_reducible exact k0_part464_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..
      | with_reducible exact k0_part465_keeps i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G ..

end Cert.AttnKernel.Own

end
-- ==== Proof.Attn.Bits.Launch.lean ====
/- The body obligation of the attention kernel, and the launch. -/
module

public import proofs.«01_k».proof.Proof.Attn.Bits.Body
public import Idealize.ShloMosaic.Lib.Pipeline.DatRel
public import Idealize.ShloMosaic.Lib.Pipeline.ArrRel

@[expose] public section

set_option maxRecDepth 16384

noncomputable section

namespace Cert.AttnKernel.Own

open Cert.AttnKernel Cert.AttnKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prologue's run at the buffers point `t` is called with. -/
abbrev runAt (c : Dev nD) (t : Fin cfg0.N) :=
  runHead c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t)

/-- What a point leaves in the three result buffers of the keys and the values; nothing is said of the other results. -/
def Rl (c : Dev nD) (w : Fin cfg0.W) (t : Fin cfg0.N) (X : (cfg0.win w).block.Idx → Elt F (cfg0.win w).elt) : Prop :=
  match w with
  | ⟨10, _⟩ => ∃ f, X = (st0_10 t).view.read (Elt F) ((st0_10 t).view.writes (Elt F) f (runAt m c t).1)
  | ⟨11, _⟩ => ∃ f, X = (st0_11 t).view.read (Elt F) ((st0_11 t).view.writes (Elt F) f (runAt m c t).2.1)
  | ⟨12, _⟩ => ∃ f, X = (st0_12 t).view.read (Elt F) ((st0_12 t).view.writes (Elt F) f (runAt m c t).2.2.1)
  | _ => True

/-- The scratch buffers and the generator register, at any contents. -/
def Phi (c : Dev nD) : sProp 𝕄 :=
  iprop(iprop((∃ d, owns (c : Thread nD τ) (Memref.whole cc0_scratch0 : Memref sig .tc .vmem S16x256x128 .bf16) fullShare d) ∗ (∃ d, owns (c : Thread nD τ) (Memref.whole cc0_scratch1 : Memref sig .tc .vmem S128x1536 .bf16) fullShare d) ∗ (∃ d, owns (c : Thread nD τ) (Memref.whole cc0_scratch2 : Memref sig .tc .vmem S1536x128 .bf16) fullShare d) ∗ (∃ d, owns (c : Thread nD τ) (Memref.whole cc0_scratch3 : Memref sig .tc .vmem S4x8x1536 .f32) fullShare d) ∗ (∃ d, owns (c : Thread nD τ) (Memref.whole cc0_scratch4 : Memref sig .tc .vmem S2x256x1536 .f32) fullShare d) ∗ (∃ d, owns (c : Thread nD τ) (Memref.whole cc0_scratch5 : Memref sig .tc .vmem S2x256x1536 .bf16) fullShare d) ∗ (∃ d, owns (c : Thread nD τ) (Memref.whole cc0_scratch6 : Memref sig .tc .vmem S16x256x128 .f32) fullShare d)) ∗ (∃ r, prngReg c r))

/-- The class's invariant with the scratch operands as buffers owned at some contents. -/
theorem PhiA0_eq (c : Dev nD) : (Pipeline.ΦA spec0 c : sProp 𝕄) = Phi c := by
  unfold Pipeline.ΦA Phi; rw [scopedRest0_eq]; simp only [owns_whole]; try rfl

/-- The proof data: inputs at their blocks, nothing named of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
  Φ t := Phi c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The output windows, whose contents are held to a predicate. -/
def outs : Fin cfg0.W → Bool := fun | 0 => false | 1 => false | 2 => false | 3 => false | 4 => false | 5 => false | 6 => true | 7 => true | 8 => true | 9 => true | 10 => true | 11 => true | 12 => true

/-- The relational data of one core. -/
def rdat (c : Dev nD) : Pipeline.RDat τ (Elt F) Unit ℕ (UR sig nD τ) ℕ cfg0 c := (dats m 0 c).toRRel outs (Rl m c)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X)
    ∗ (∃ X, ⌜Rl m c 11 t X⌝ ∗ owns (c : Thread nD τ) (st0_11 t) fullShare X)
    ∗ (∃ X, ⌜Rl m c 12 t X⌝ ∗ owns (c : Thread nD τ) (st0_12 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl, after0_0, after0_1, after0_2, after0_3, after0_4, after0_5,
    show (dats m 0 c).Φ t.castSucc = Phi c from rfl, show (dats m 0 c).Φ t.succ = Phi c from rfl]
  unfold Phi
  iintro ⟨⟨⟨HS15, HS16, HS17, HS18, HS19, HS20, HS21⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y8, -, H8⟩, ⟨%Y9, -, H9⟩, ⟨%Y10, -, H10⟩, ⟨%Y11, -, H11⟩, ⟨%Y12, -, H12⟩⟩
  ihave HB : Before c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (Memref.whole cc0_scratch0) (Memref.whole cc0_scratch1) (Memref.whole cc0_scratch2) (Memref.whole cc0_scratch3) (Memref.whole cc0_scratch4) (Memref.whole cc0_scratch5) (Memref.whole cc0_scratch6) (iblk m c 0 t) (iblk m c 1 t) (iblk m c 2 t) (iblk m c 3 t) (iblk m c 4 t) (iblk m c 5 t) $$ [H0 H1 H2 H3 H4 H5 H6 H7 H8 H9 H10 H11 H12 HS15 HS16 HS17 HS18 HS19 HS20 HS21]
  · unfold Before
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS15]; · iexact HS15
    isplitl [HS16]; · iexact HS16
    isplitl [HS17]; · iexact HS17
    isplitl [HS18]; · iexact HS18
    isplitl [HS19]; · iexact HS19
    isplitl [HS20]; · iexact HS20
    iexact HS21
  iapply (wp_wand_r frame (wpE (defs₀ (F := F)) Variants.none c none) Set.univ)
  isplitl [HB]
  · iapply (body_after c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) Set.univ)
    iexact HB
  iintro %_ HA
  unfold After
  icases HA with ⟨H0, H1, H2, H3, H4, H5, H6, H7, H8, H9, ⟨%f10, H10⟩, ⟨%f11, H11⟩, ⟨%f12, H12⟩, HS15, HS16, HS17, HS18, HS19, HS20, HS21⟩
  isplitl [HS15 HS16 HS17 HS18 HS19 HS20 HS21 Hg]
  · isplitr [Hg]
    · isplitl [HS15]; · iexact HS15
      isplitl [HS16]; · iexact HS16
      isplitl [HS17]; · iexact HS17
      isplitl [HS18]; · iexact HS18
      isplitl [HS19]; · iexact HS19
      isplitl [HS20]; · iexact HS20
      iexact HS21
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · icases H6 with ⟨%X, H⟩
    iexists X; isplitr
    · ipureintro; trivial
    iexact H
  isplitl [H7]
  · icases H7 with ⟨%X, H⟩
    iexists X; isplitr
    · ipureintro; trivial
    iexact H
  isplitl [H8]
  · icases H8 with ⟨%X, H⟩
    iexists X; isplitr
    · ipureintro; trivial
    iexact H
  isplitl [H9]
  · icases H9 with ⟨%X, H⟩
    iexists X; isplitr
    · ipureintro; trivial
    iexact H
  isplitl [H10]
  · iexists _; isplitr
    · ipureintro; exact ⟨f10, rfl⟩
    unfold owns; iexists _; isplitr; swap; · iexact H10
    ipureintro; rfl
  isplitl [H11]
  · iexists _; isplitr
    · ipureintro; exact ⟨f11, rfl⟩
    unfold owns; iexists _; isplitr; swap; · iexact H11
    ipureintro; rfl
  iexists _; isplitr
  · ipureintro; exact ⟨f12, rfl⟩
  unfold owns; iexists _; isplitr; swap; · iexact H12
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    Pipeline.BodyObligationRel (dats (F := F) m 0 c) (defs₀ (F := F)) Variants.none () Set.univ outs (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = Phi c from rfl, PhiA0_eq]

theorem hout (c : Dev nD) : (rdat m c).Φ (Fin.last cfg0.N) ⊢ Pipeline.ΦA spec0 c := by
  rw [show (rdat m c).Φ (Fin.last cfg0.N) = Phi c from rfl, PhiA0_eq]

set_option backward.isDefEq.respectTransparency.types false in
/-- The launch: every execution ends with each array as the pipeline's data say, and every semaphore at zero. -/
theorem run_main :
    θ_run defs (onTc (τ := τ) (main (F := F))) (s₀ m ρ)
      (fun r => Pipeline.RDat.FramePost cfg0 (rdat m) (V m) r ∧ r.2.sem = fun _ => 0) :=
  Pipeline.RDat.θ_run_frame_track_shared (Q' := _) cfgs (0 : Fin 1) launch0.to₀ defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The frame: the arguments end unchanged. -/
theorem frame_of_run (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans ((A_eq m c 0).trans (V_main_arg0 m c)),
    (((h c).2 main_arg1 (Pipeline.mem_restRefs_of main_arg1 (by decide) (by decide)))).trans (V_main_arg1 m c),
    (h.arr_in c 2 rfl).trans ((A_eq m c 2).trans (V_main_arg2 m c)),
    (h.arr_in c 3 rfl).trans ((A_eq m c 3).trans (V_main_arg3 m c))⟩

/-- The frame, from the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => frame_of_run m r h.1 c, h.2⟩) (run_main m ρ)

end Cert.AttnKernel.Own

end
-- ==== Proof.lean ====
module

public import proofs.«01_k».proof.Defs
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.OprojKernel
public import proofs.«01_k».proof.Proof.Gen.OprojKernel.Skeleton
public import proofs.«01_k».proof.Proof.Gen.OprojKernel.Launch
public import proofs.«01_k».proof.Proof.Gen.OprojKernel.Points
public import proofs.«01_k».proof.Proof.Gen.OprojKernel.Frame
public import proofs.«01_k».proof.Proof.Gen.OprojKernelIdeal
public import proofs.«01_k».proof.Proof.Gen.OprojKernelIdeal.Skeleton
public import proofs.«01_k».proof.Proof.Gen.OprojKernelIdeal.Launch
public import proofs.«01_k».proof.Proof.Gen.OprojKernelIdeal.Points
public import proofs.«01_k».proof.Proof.Gen.OprojKernelIdeal.Frame
public import proofs.«01_k».proof.Proof.Gen.OprojReferenceIdeal
public import proofs.«01_k».proof.Proof.Gen.OprojKernelIdeal.Value
public import proofs.«01_k».proof.Proof.Gen.OprojReferenceIdeal.Run
public import proofs.«01_k».proof.Proof.Oproj.Final
public import proofs.«01_k».proof.Proof.Proj.Final
public import proofs.«01_k».proof.Proof.Proj.RefRun
public import proofs.«01_k».proof.Proof.Proj.Bits.Frame
public import proofs.«01_k».proof.Proof.Gen.AttnReferenceIdeal
public import proofs.«01_k».proof.Proof.Gen.AttnReferenceIdeal.Run
public import proofs.«01_k».proof.Proof.Attn.Final
public import proofs.«01_k».proof.Proof.Attn.Bits.Launch
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.OprojKernel

/-- The output projection and its reference end with the same array over the extended reals. -/
theorem oproj_algebraic : Cert.algebraic_OprojKernelIdeal_OprojReferenceIdeal := by
  pair_intro
  · run_from Cert.OprojKernelIdeal.Gen.run_main m g
  · run_from Cert.OprojReferenceIdeal.Value.run m' g'
    exact (Cert.OprojKernelIdeal.Value.final m c).symm

/-- The projection and its reference end with the same three arrays over the extended reals: the codes, the scales and the product. -/
theorem proj_algebraic : Cert.algebraic_ProjKernelIdeal_ProjReferenceIdeal := by
  intro m g m' g' hpre hagree
  refine ⟨fun c => Cert.ProjReferenceIdeal.Value.REF1 (m ((c.tc : Thread Cert.ProjKernelIdeal.nD Cert.ProjKernelIdeal.τ).loc Cert.ProjKernelIdeal.main_arg0)),
    fun c => Cert.ProjReferenceIdeal.Value.scales (m ((c.tc : Thread Cert.ProjKernelIdeal.nD Cert.ProjKernelIdeal.τ).loc Cert.ProjKernelIdeal.main_arg0)),
    fun c => Cert.ProjReferenceIdeal.Value.REF3 (m ((c.tc : Thread Cert.ProjKernelIdeal.nD Cert.ProjKernelIdeal.τ).loc Cert.ProjKernelIdeal.main_arg0))
      (m ((c.tc : Thread Cert.ProjKernelIdeal.nD Cert.ProjKernelIdeal.τ).loc Cert.ProjKernelIdeal.main_arg1)),
    (θ_run _ _ _).mono (fun r h => h.1) (Cert.ProjKernelIdeal.Own.run m g),
    (θ_run _ _ _).mono (fun r h c => ?_) (Cert.ProjReferenceIdeal.Value.run_named m' g')⟩
  obtain ⟨h1, h2, h3, h4, h5⟩ := h c
  exact ⟨h1.trans (congrArg Cert.ProjReferenceIdeal.Value.REF1 (hagree c).1), h2.trans (congrArg Cert.ProjReferenceIdeal.Value.scales (hagree c).1),
    h3.trans (congrArg₂ Cert.ProjReferenceIdeal.Value.REF3 (hagree c).1 (hagree c).2), h4, h5⟩

/-- The precondition says that every argument of the attention call is a real number. -/
theorem attn_reals (m : (ℓ : Loc Cert.AttnKernelIdeal.nD Cert.AttnKernelIdeal.τ Cert.AttnKernelIdeal.sig) → Buf (Elt Ideal) ℓ)
    (h : Cert.Pre_AttnKernelIdeal_finite (hPre_finite := Cert.Pre_finite.facts) m) (c : Dev Cert.AttnKernelIdeal.nD) : Cert.AttnKernelIdeal.Own.Reals m c :=
  ⟨fun i => Cert.Pre_finite.real_of_lt _ (congrFun (h c).1 i), fun i => Cert.Pre_finite.real_of_lt _ (congrFun (h c).2.1 i),
    fun i => Cert.Pre_finite.real_of_lt _ (congrFun (h c).2.2.1 i), fun i => Cert.Pre_finite.real_of_lt _ (congrFun (h c).2.2.2 i)⟩

open Cert.AttnReferenceIdeal.Value in
/-- The attention call and its reference end with the same bytes of the keys and of the values and the same statistics over the extended reals. -/
theorem attn_algebraic : Cert.algebraic_AttnKernelIdeal_AttnReferenceIdeal_pre_finite (hPre_finite := Cert.Pre_finite.facts) := by
  intro m g m' g' hpre hagree
  refine ⟨_, _, _, Cert.AttnKernelIdeal.Own.run m g (attn_reals m hpre), (θ_run _ _ _).mono (fun r h c => ?_) (run_named m' g')⟩
  obtain ⟨h1, h2, h3, h4⟩ := h c
  obtain ⟨a0, a1, a2, a3⟩ := hagree c
  rw [a0, a1, a2, a3] at h1
  rw [a0, a1] at h2
  rw [a0, a1, a2, a3] at h3
  exact ⟨h1, h2, h3, h4⟩

/-- The reference of the attention call leaves its arguments unchanged. -/
theorem attn_ref : Cert.quiescent_AttnReferenceIdeal := fun m ρ _ =>
  (θ_run Cert.AttnReferenceIdeal.defs _ _).mono (fun r h => ⟨fun c => (h c).2.2.2,
      Idealize.ShloMosaic.sem_eq_zero_of_no_sems (by decide) r.2⟩) (Cert.AttnReferenceIdeal.Value.run_named m ρ)

theorem claim : Cert.Claim := ⟨Cert.ProjKernel.Gen.facts, Cert.ProjKernelIdeal.Gen.facts, Cert.ProjReferenceIdeal.Gen.facts,
  Cert.OprojKernel.Gen.facts, Cert.OprojKernelIdeal.Gen.facts, Cert.OprojReferenceIdeal.Gen.facts,
  Cert.AttnKernel.Gen.facts, Cert.AttnKernelIdeal.Gen.facts, Cert.AttnReferenceIdeal.Gen.facts, Cert.Pre_finite.facts,
  fun m ρ _ => Cert.ProjKernel.Own.frame m ρ,
  fun m ρ _ => (θ_run Cert.ProjKernelIdeal.defs _ _).mono (fun r h => ⟨fun c => (h.1 c).2.2.2, h.2⟩) (Cert.ProjKernelIdeal.Own.run m ρ),
  fun m ρ _ => (θ_run Cert.ProjReferenceIdeal.defs _ _).mono (fun r h => ⟨fun c => (h c).2.2.2,
      Idealize.ShloMosaic.sem_eq_zero_of_no_sems (by decide) r.2⟩) (Cert.ProjReferenceIdeal.Value.run_named m ρ),
  fun m ρ _ => Cert.OprojKernel.Gen.frame m ρ, fun m ρ _ => Cert.OprojKernelIdeal.Gen.frame m ρ,
  fun m ρ _ => (θ_run Cert.OprojReferenceIdeal.defs _ _).mono (fun r h => ⟨fun c => (h c).2,
      Idealize.ShloMosaic.sem_eq_zero_of_no_sems (by decide) r.2⟩) (Cert.OprojReferenceIdeal.Value.run (F := Ideal) m ρ),
  fun m ρ _ => Cert.AttnKernel.Own.frame m ρ, fun m ρ _ => Cert.AttnKernelIdeal.Own.frame m ρ, fun m ρ _ => Cert.AttnKernelIdeal.Own.frame m ρ,
  attn_ref, fun m ρ _ => attn_ref m ρ trivial,
  trivial, proj_algebraic, trivial, oproj_algebraic, trivial, attn_algebraic⟩

end Cert.Proof

end
